-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x1024 : Shape := ⟨3, ![8, 2048, 1024]⟩
abbrev S1x1024 : Shape := ⟨2, ![1, 1024]⟩
abbrev S1x1024x3072 : Shape := ⟨3, ![1, 1024, 3072]⟩
abbrev S1x64 : Shape := ⟨2, ![1, 64]⟩
abbrev S1x128 : Shape := ⟨2, ![1, 128]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x3072 : S_.BroadcastsInDim S1x1024x3072 (![] : Fin 0 → Fin S1x1024x3072.rank)
  reducesTo_S1x1024x3072_S_d0_1_2 : S1x1024x3072.ReducesTo [0, 1, 2] S_
  bcast_S_S1x64 : S_.BroadcastsInDim S1x64 (![] : Fin 0 → Fin S1x64.rank)
  reducesTo_S1x64_S_d0_1 : S1x64.ReducesTo [0, 1] S_
  bcast_S_S1x128 : S_.BroadcastsInDim S1x128 (![] : Fin 0 → Fin S1x128.rank)
  reducesTo_S1x128_S_d0_1 : S1x128.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x4096x1024 : S_.BroadcastsInDim S1x4096x1024 (![] : Fin 0 → Fin S1x4096x1024.rank)
  reducesTo_S1x4096x1024_S_d0_1_2 : S1x4096x1024.ReducesTo [0, 1, 2] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1x1024x4096 .f32) (main_arg12 : FVec F S1x4096x1024 .f32) (main_arg13 : FVec F S1024 .f32) (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  let main_v54 : FVec F S1x1024x4096 .f32 := Host.absf main_arg11
  let main_cst_20 : FVec F S_ .f32 := constant S_ .f32 0x7F800000#32
  let main_v55 : FVec F S1x1024x4096 .f32 := broadcastInDim S1x1024x4096 ![] bcast_S_S1x1024x4096 main_cst_20
  let main_v56 : IVec S1x1024x4096 1 := cmpf .olt main_v54 main_v55
  let main_c_21 : IVec S_ 1 := constantI S_ 1 1#1
  let main_v57 : IVec S_ 1 := (fun x v => Host.reduce IntOp.andi x v reducesTo_S1x1024x4096_S_d0_1_2 h_S_) main_v56 main_c_21
  let main_v58 : IVec S_ 1 := andi main_v53 main_v57
  let main_v59 : FVec F S1x4096x1024 .f32 := Host.absf main_arg12
  let main_cst_22 : FVec F S_ .f32 := constant S_ .f32 0x7F800000#32
  let main_v60 : FVec F S1x4096x1024 .f32 := broadcastInDim S1x4096x1024 ![] bcast_S_S1x4096x1024 main_cst_22
  let main_v61 : IVec S1x4096x1024 1 := cmpf .olt main_v59 main_v60
  let main_c_23 : IVec S_ 1 := constantI S_ 1 1#1
  let main_v62 : IVec S_ 1 := (fun x v => Host.reduce IntOp.andi x v reducesTo_S1x4096x1024_S_d0_1_2 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1x128 .f32) (main_arg8 : FVec F S1x64 .f32) (main_arg9 : FVec F S1x1024x1024 .f32) (main_arg10 : FVec F S1x1024 .f32) (main_arg11 : FVec F S1x1024x4096 .f32) (main_arg12 : FVec F S1x4096x1024 .f32) (main_arg13 : FVec F S1024 .f32) (main_v33 : IVec S_ 1) : IVec S_ 1 :=
  let main_v34 : FVec F S1x128 .f32 := Host.absf main_arg7
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1x64 .f32 := Host.absf main_arg8
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S1x1024x1024 .f32 := Host.absf main_arg9
  let main_cst_16 : FVec F S_ .f32 := constant S_ .f32 0x7F800000#32
  let main_v45 : FVec F S1x1024x1024 .f32 := broadcastInDim S1x1024x1024 ![] bcast_S_S1x1024x1024 main_cst_16
  let main_v46 : IVec S1x1024x1024 1 := cmpf .olt main_v44 main_v45
  let main_c_17 : IVec S_ 1 := constantI S_ 1 1#1
  let main_v47 : IVec S_ 1 := (fun x v => Host.reduce IntOp.andi x v reducesTo_S1x1024x1024_S_d0_1_2 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_arg11 main_arg12 main_arg13 main_v48 main_v49 main_v50

def fn_part1 {F : FTy → Type} [FloatOps F] (main_arg4 : FVec F S1x64 .f32) (main_arg5 : FVec F S1x64 .f32) (main_arg6 : FVec F S1x64 .f32) (main_arg7 : FVec F S1x128 .f32) (main_arg8 : FVec F S1x64 .f32) (main_arg9 : FVec F S1x1024x1024 .f32) (main_arg10 : FVec F S1x1024 .f32) (main_arg11 : FVec F S1x1024x4096 .f32) (main_arg12 : FVec F S1x4096x1024 .f32) (main_arg13 : FVec F S1024 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8x2048x1024 .f32) (main_arg1 : FVec F S1x1024 .f32) (main_arg2 : FVec F S1x1024x3072 .f32) (main_arg3 : FVec F S1x64 .f32) (main_arg4 : FVec F S1x64 .f32) (main_arg5 : FVec F S1x64 .f32) (main_arg6 : FVec F S1x64 .f32) (main_arg7 : FVec F S1x128 .f32) (main_arg8 : FVec F S1x64 .f32) (main_arg9 : FVec F S1x1024x1024 .f32) (main_arg10 : FVec F S1x1024 .f32) (main_arg11 : FVec F S1x1024x4096 .f32) (main_arg12 : FVec F S1x4096x1024 .f32) (main_arg13 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x3072 .f32 := Host.absf main_arg2
  let main_cst_2 : FVec F S_ .f32 := constant S_ .f32 0x7F800000#32
  let main_v10 : FVec F S1x1024x3072 .f32 := broadcastInDim S1x1024x3072 ![] bcast_S_S1x1024x3072 main_cst_2
  let main_v11 : IVec S1x1024x3072 1 := cmpf .olt main_v9 main_v10
  let main_c_3 : IVec S_ 1 := constantI S_ 1 1#1
  let main_v12 : IVec S_ 1 := (fun x v => Host.reduce IntOp.andi x v reducesTo_S1x1024x3072_S_d0_1_2 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_arg7 main_arg8 main_arg9 main_arg10 main_arg11 main_arg12 main_arg13 main_v13 main_v16
-- ==== Kernel.lean ====
abbrev S8x2048x1024 : Shape := ⟨3, ![8, 2048, 1024]⟩
abbrev S1x1024 : Shape := ⟨2, ![1, 1024]⟩
abbrev S1x1024x3072 : Shape := ⟨3, ![1, 1024, 3072]⟩
abbrev S1x64 : Shape := ⟨2, ![1, 64]⟩
abbrev S1x128 : Shape := ⟨2, ![1, 128]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S4 : Shape := ⟨1, ![4]⟩
abbrev S16384x1024 : Shape := ⟨2, ![16384, 1024]⟩
abbrev S_ : Shape := ⟨0, ![]⟩
abbrev S1x512 : Shape := ⟨2, ![1, 512]⟩
abbrev S1x3072 : Shape := ⟨2, ![1, 3072]⟩
abbrev S1024x3072 : Shape := ⟨2, ![1024, 3072]⟩
abbrev S16384x3072 : Shape := ⟨2, ![16384, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S8x2048x3072 : Shape := ⟨3, ![8, 2048, 3072]⟩
abbrev S8x2048x512 : Shape := ⟨3, ![8, 2048, 512]⟩
abbrev S1x256x128 : Shape := ⟨3, ![1, 256, 128]⟩
abbrev S1x2048x128 : Shape := ⟨3, ![1, 2048, 128]⟩
abbrev S1 : Shape := ⟨1, ![1]⟩
abbrev S1x1 : Shape := ⟨2, ![1, 1]⟩
abbrev S256x128 : Shape := ⟨2, ![256, 128]⟩
abbrev S256x1 : Shape := ⟨2, ![256, 1]⟩
abbrev S256x256 : Shape := ⟨2, ![256, 256]⟩
abbrev S1x128x128 : Shape := ⟨3, ![1, 128, 128]⟩
abbrev S128x128 : Shape := ⟨2, ![128, 128]⟩
abbrev S256 : Shape := ⟨1, ![256]⟩
abbrev S128x256 : Shape := ⟨2, ![128, 256]⟩
abbrev S64 : Shape := ⟨1, ![64]⟩
abbrev S128 : Shape := ⟨1, ![128]⟩
abbrev S16384x512 : Shape := ⟨2, ![16384, 512]⟩
abbrev S1024x1024 : Shape := ⟨2, ![1024, 1024]⟩
abbrev S1024x4096 : Shape := ⟨2, ![1024, 4096]⟩
abbrev S4096x1024 : Shape := ⟨2, ![4096, 1024]⟩
abbrev S512x4096 : Shape := ⟨2, ![512, 4096]⟩

abbrev nBuf : Space → Nat
  | .hbm => 53
  | .vmem => 42
  | .smem => 1
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3072, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S1x64, .f32⟩
  | .hbm, ⟨9, _⟩ => ⟨S1x1024x1024, .f32⟩
  | .hbm, ⟨10, _⟩ => ⟨S1x1024, .f32⟩
  | .hbm, ⟨11, _⟩ => ⟨S1x1024x4096, .f32⟩
  | .hbm, ⟨12, _⟩ => ⟨S1x4096x1024, .f32⟩
  | .hbm, ⟨13, _⟩ => ⟨S1024, .f32⟩
  | .hbm, ⟨14, _⟩ => ⟨S4, .f32⟩
  | .hbm, ⟨15, _⟩ => ⟨S16384x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x512, .f32⟩
  | .hbm, ⟨23, _⟩ => ⟨S_, .f32⟩
  | .hbm, ⟨24, _⟩ => ⟨S1x1024, .f32⟩
  | .hbm, ⟨25, _⟩ => ⟨S1x3072, .f32⟩
  | .hbm, ⟨26, _⟩ => ⟨S4, .f32⟩
  | .hbm, ⟨27, _⟩ => ⟨S4, .f32⟩
  | .hbm, ⟨28, _⟩ => ⟨S1024, .f32⟩
  | .hbm, ⟨29, _⟩ => ⟨S1x1024, .f32⟩
  | .hbm, ⟨30, _⟩ => ⟨S1024x3072, .f32⟩
  | .hbm, ⟨31, _⟩ => ⟨S1024x3072, .bf16⟩
  | .hbm, ⟨32, _⟩ => ⟨S16384x3072, .bf16⟩
  | .hbm, ⟨33, _⟩ => ⟨S8x2048x3072, .bf16⟩
  | .hbm, ⟨34, _⟩ => ⟨S8x2048x512, .bf16⟩
  | .hbm, ⟨35, _⟩ => ⟨S64, .f32⟩
  | .hbm, ⟨36, _⟩ => ⟨S64, .f32⟩
  | .hbm, ⟨37, _⟩ => ⟨S128, .f32⟩
  | .hbm, ⟨38, _⟩ => ⟨S1x128, .f32⟩
  | .hbm, ⟨39, _⟩ => ⟨S8x2048x512, .bf16⟩
  | .hbm, ⟨40, _⟩ => ⟨S16384x512, .bf16⟩
  | .hbm, ⟨41, _⟩ => ⟨S16384x512, .bf16⟩
  | .hbm, ⟨42, _⟩ => ⟨S1024x1024, .f32⟩
  | .hbm, ⟨43, _⟩ => ⟨S1024x1024, .bf16⟩
  | .hbm, ⟨44, _⟩ => ⟨S1024, .f32⟩
  | .hbm, ⟨45, _⟩ => ⟨S1x1024, .f32⟩
  | .hbm, ⟨46, _⟩ => ⟨S1024x4096, .f32⟩
  | .hbm, ⟨47, _⟩ => ⟨S1024x4096, .bf16⟩
  | .hbm, ⟨48, _⟩ => ⟨S4096x1024, .f32⟩
  | .hbm, ⟨49, _⟩ => ⟨S4096x1024, .bf16⟩
  | .hbm, ⟨50, _⟩ => ⟨S1x1024, .f32⟩
  | .hbm, ⟨51, _⟩ => ⟨S16384x1024, .f32⟩
  | .hbm, ⟨52, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x3072, .f32⟩
  | .local _ .vmem, ⟨5, _⟩ => ⟨S512x3072, .bf16⟩
  | .local _ .vmem, ⟨6, _⟩ => ⟨S512x3072, .bf16⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x128, .f32⟩
  | .local _ .vmem, ⟨12, _⟩ => ⟨S1x256x128, .bf16⟩
  | .local _ .vmem, ⟨13, _⟩ => ⟨S1x256x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x256x128, .bf16⟩
  | .local _ .vmem, ⟨19, _⟩ => ⟨S1x256x128, .bf16⟩
  | .local _ .vmem, ⟨20, _⟩ => ⟨S1x128, .f32⟩
  | .local _ .vmem, ⟨21, _⟩ => ⟨S1x256x128, .bf16⟩
  | .local _ .vmem, ⟨22, _⟩ => ⟨S1x256x128, .bf16⟩
  | .local _ .vmem, ⟨23, _⟩ => ⟨S1x2048x128, .bf16⟩
  | .local _ .vmem, ⟨24, _⟩ => ⟨S1x2048x128, .bf16⟩
  | .local _ .vmem, ⟨25, _⟩ => ⟨S1x2048x128, .bf16⟩
  | .local _ .vmem, ⟨26, _⟩ => ⟨S1x2048x128, .bf16⟩
  | .local _ .vmem, ⟨27, _⟩ => ⟨S1x256x128, .bf16⟩
  | .local _ .vmem, ⟨28, _⟩ => ⟨S1x256x128, .bf16⟩
  | .local _ .vmem, ⟨29, _⟩ => ⟨S512x1024, .f32⟩
  | .local _ .vmem, ⟨30, _⟩ => ⟨S512x1024, .f32⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S1024x1024, .bf16⟩
  | .local _ .vmem, ⟨36, _⟩ => ⟨S1x1024, .f32⟩
  | .local _ .vmem, ⟨37, _⟩ => ⟨S1024x4096, .bf16⟩
  | .local _ .vmem, ⟨38, _⟩ => ⟨S4096x1024, .bf16⟩
  | .local _ .vmem, ⟨39, _⟩ => ⟨S1x1024, .f32⟩
  | .local _ .vmem, ⟨40, _⟩ => ⟨S512x1024, .f32⟩
  | .local _ .vmem, ⟨41, _⟩ => ⟨S512x1024, .f32⟩
  | .local _ .smem, ⟨0, _⟩ => ⟨S4, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .smem, ⟨0, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_cst_1 : Ref sig .tc := ⟨.hbm, 18, rfl⟩
abbrev main_v2 : Ref sig .tc := ⟨.hbm, 19, rfl⟩
abbrev main_cst_2 : Ref sig .tc := ⟨.hbm, 20, rfl⟩
abbrev main_v3 : Ref sig .tc := ⟨.hbm, 21, rfl⟩
abbrev main_v4 : Ref sig .tc := ⟨.hbm, 22, rfl⟩
abbrev main_cst_3 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg9_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg8_0 : Ref sig .tc := ⟨.vmem, 40, rfl⟩
abbrev cc3_stg8_1 : Ref sig .tc := ⟨.vmem, 41, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc1_sem7_0 : DmaSem sig := 15
abbrev cc1_sem7_1 : DmaSem sig := 16
abbrev cc1_sem8_0 : DmaSem sig := 17
abbrev cc1_sem8_1 : DmaSem sig := 18
abbrev cc1_sem9_0 : DmaSem sig := 19
abbrev cc1_sem9_1 : DmaSem sig := 20
abbrev cc2_sem0_0 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem8_0 : DmaSem sig := 41
abbrev cc3_sem8_1 : DmaSem sig := 42

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![8, 4, 8], ![false, false, false]⟩

def k1_off1 (i : grid1.Coords) : Fin 1 → Nat :=
  let arg1 : BitVec 32 := BitVec.ofNat 32 (i 1).val
  let v1 : Index := Scalar.indexCast arg1
  ![v1.toNat]
def k1_mult1 (i : grid1.Coords) : BitVec 32 :=
  let arg2 : BitVec 32 := BitVec.ofNat 32 (i 2).val
  let c256_i32 : BitVec 32 := 256#32
  let v0 : BitVec 32 := Scalar.muli arg2 c256_i32
  v0
def k1_off2 (i : grid1.Coords) : Fin 3 → Nat :=
  let c0_38 : Index := 0#32
  let arg2 : BitVec 32 := BitVec.ofNat 32 (i 2).val
  let c256_i32 : BitVec 32 := 256#32
  let v0 : BitVec 32 := Scalar.muli arg2 c256_i32
  let v45 : BitVec 32 := v0
  let v105 : Index := Scalar.indexCast v45
  let c0_39 : Index := 0#32
  ![0, v105.toNat, 0]
def k1_mult2 (i : grid1.Coords) : BitVec 32 :=
  let arg2 : BitVec 32 := BitVec.ofNat 32 (i 2).val
  let c256_i32 : BitVec 32 := 256#32
  let v0 : BitVec 32 := Scalar.muli arg2 c256_i32
  let c128_i32 : BitVec 32 := 128#32
  let v167 : BitVec 32 := Scalar.addi v0 c128_i32
  v167
def k1_off3 (i : grid1.Coords) : Fin 3 → Nat :=
  let c0_70 : Index := 0#32
  let arg2 : BitVec 32 := BitVec.ofNat 32 (i 2).val
  let c256_i32 : BitVec 32 := 256#32
  let v0 : BitVec 32 := Scalar.muli arg2 c256_i32
  let c128_i32 : BitVec 32 := 128#32
  let v167 : BitVec 32 := Scalar.addi v0 c128_i32
  let v168 : BitVec 32 := v167
  let v228 : Index := Scalar.indexCast v168
  let c0_71 : Index := 0#32
  ![0, v228.toNat, 0]
@[reducible] def k1_t1_loop (i : grid1.Coords) : Scf.Loop 32 :=
  let c0_i32_85 : BitVec 32 := 0#32
  let c2_i32 : BitVec 32 := 2#32
  let arg2 : BitVec 32 := BitVec.ofNat 32 (i 2).val
  let v290 : BitVec 32 := Scalar.muli c2_i32 arg2
  let v291 : BitVec 32 := Scalar.subi v290 c0_i32_85
  let c1_i32_86 : BitVec 32 := 1#32
  let v293 : BitVec 32 := Scalar.divsi v291 c1_i32_86
  let v294 : BitVec 32 := Scalar.muli v293 c1_i32_86
  let v295 : BitVec 32 := Scalar.addi c0_i32_85 v294
  let c1_i32_87 : BitVec 32 := 1#32
  ⟨c0_i32_85, v295, c1_i32_87⟩
def k1_mult3 (i : grid1.Coords) (k1_t1 : Fin (k1_t1_loop i).trips) : BitVec 32 :=
  let c0_i32_85 : BitVec 32 := 0#32
  let c1_i32_87 : BitVec 32 := 1#32
  let arg13 : BitVec 32 := Scf.iv c0_i32_85 c1_i32_87 k1_t1
  let c128_i32_98 : BitVec 32 := 128#32
  let v326 : BitVec 32 := Scalar.muli arg13 c128_i32_98
  v326
def k1_off4 (i : grid1.Coords) (k1_t1 : Fin (k1_t1_loop i).trips) : Fin 3 → Nat :=
  let c0_100 : Index := 0#32
  let c0_i32_85 : BitVec 32 := 0#32
  let c1_i32_87 : BitVec 32 := 1#32
  let arg13 : BitVec 32 := Scf.iv c0_i32_85 c1_i32_87 k1_t1
  let c128_i32_98 : BitVec 32 := 128#32
  let v326 : BitVec 32 := Scalar.muli arg13 c128_i32_98
  let v327 : BitVec 32 := v326
  let v332 : Index := Scalar.indexCast v327
  let c0_101 : Index := 0#32
  ![0, v332.toNat, 0]
@[reducible] def k1_t2_loop (i : grid1.Coords) : Scf.Loop 32 :=
  let c0_i32_85 : BitVec 32 := 0#32
  let c2_i32 : BitVec 32 := 2#32
  let arg2 : BitVec 32 := BitVec.ofNat 32 (i 2).val
  let v290 : BitVec 32 := Scalar.muli c2_i32 arg2
  let v291 : BitVec 32 := Scalar.subi v290 c0_i32_85
  let c1_i32_86 : BitVec 32 := 1#32
  let v293 : BitVec 32 := Scalar.divsi v291 c1_i32_86
  let v294 : BitVec 32 := Scalar.muli v293 c1_i32_86
  let v295 : BitVec 32 := Scalar.addi c0_i32_85 v294
  let v292 : BitVec 32 := Scalar.addi c0_i32_85 v291
  let c1_i32_88 : BitVec 32 := 1#32
  ⟨v295, v292, c1_i32_88⟩
def k1_mult4 (i : grid1.Coords) (k1_t2 : Fin (k1_t2_loop i).trips) : BitVec 32 :=
  let c0_i32_85 : BitVec 32 := 0#32
  let c2_i32 : BitVec 32 := 2#32
  let arg2 : BitVec 32 := BitVec.ofNat 32 (i 2).val
  let v290 : BitVec 32 := Scalar.muli c2_i32 arg2
  let v291 : BitVec 32 := Scalar.subi v290 c0_i32_85
  let c1_i32_86 : BitVec 32 := 1#32
  let v293 : BitVec 32 := Scalar.divsi v291 c1_i32_86
  let v294 : BitVec 32 := Scalar.muli v293 c1_i32_86
  let v295 : BitVec 32 := Scalar.addi c0_i32_85 v294
  let c1_i32_88 : BitVec 32 := 1#32
  let arg13 : BitVec 32 := Scf.iv v295 c1_i32_88 k1_t2
  let c128_i32_98 : BitVec 32 := 128#32
  let v326 : BitVec 32 := Scalar.muli arg13 c128_i32_98
  v326
def k1_off5 (i : grid1.Coords) (k1_t2 : Fin (k1_t2_loop i).trips) : Fin 3 → Nat :=
  let c0_100 : Index := 0#32
  let c0_i32_85 : BitVec 32 := 0#32
  let c2_i32 : BitVec 32 := 2#32
  let arg2 : BitVec 32 := BitVec.ofNat 32 (i 2).val
  let v290 : BitVec 32 := Scalar.muli c2_i32 arg2
  let v291 : BitVec 32 := Scalar.subi v290 c0_i32_85
  let c1_i32_86 : BitVec 32 := 1#32
  let v293 : BitVec 32 := Scalar.divsi v291 c1_i32_86
  let v294 : BitVec 32 := Scalar.muli v293 c1_i32_86
  let v295 : BitVec 32 := Scalar.addi c0_i32_85 v294
  let c1_i32_88 : BitVec 32 := 1#32
  let arg13 : BitVec 32 := Scf.iv v295 c1_i32_88 k1_t2
  let c128_i32_98 : BitVec 32 := 128#32
  let v326 : BitVec 32 := Scalar.muli arg13 c128_i32_98
  let v327 : BitVec 32 := v326
  let v332 : Index := Scalar.indexCast v327
  let c0_101 : Index := 0#32
  ![0, v332.toNat, 0]
def cc1_transform_0 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_9 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 1 → Memref sig .tc .smem S4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x256x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S1x2048x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev stage1_8 : Fin 2 → Memref sig .tc .vmem S1x2048x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

abbrev stage1_9 : Fin 2 → Memref sig .tc .vmem S1x256x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, true]

abbrev grid2 : Pipeline.Grid := ⟨3, ![8, 4, 8], ![false, false, false]⟩

def k2_mult1 (i : grid2.Coords) : BitVec 32 :=
  let arg2 : BitVec 32 := BitVec.ofNat 32 (i 2).val
  let c256_i32 : BitVec 32 := 256#32
  let v0 : BitVec 32 := Scalar.muli arg2 c256_i32
  let c128_i32_28 : BitVec 32 := 128#32
  let v94 : BitVec 32 := Scalar.addi v0 c128_i32_28
  v94
def k2_off1 (i : grid2.Coords) : Fin 3 → Nat :=
  let c0_30 : Index := 0#32
  let arg2 : BitVec 32 := BitVec.ofNat 32 (i 2).val
  let c256_i32 : BitVec 32 := 256#32
  let v0 : BitVec 32 := Scalar.muli arg2 c256_i32
  let c128_i32_28 : BitVec 32 := 128#32
  let v94 : BitVec 32 := Scalar.addi v0 c128_i32_28
  let v95 : BitVec 32 := v94
  let v99 : Index := Scalar.indexCast v95
  let c0_31 : Index := 0#32
  ![0, v99.toNat, 0]
def k2_mult2 (i : grid2.Coords) : BitVec 32 :=
  let arg2 : BitVec 32 := BitVec.ofNat 32 (i 2).val
  let c256_i32 : BitVec 32 := 256#32
  let v0 : BitVec 32 := Scalar.muli arg2 c256_i32
  v0
def k2_off2 (i : grid2.Coords) : Fin 3 → Nat :=
  let c0_45 : Index := 0#32
  let arg2 : BitVec 32 := BitVec.ofNat 32 (i 2).val
  let c256_i32 : BitVec 32 := 256#32
  let v0 : BitVec 32 := Scalar.muli arg2 c256_i32
  let v153 : BitVec 32 := v0
  let v155 : Index := Scalar.indexCast v153
  let c0_46 : Index := 0#32
  ![0, v155.toNat, 0]
@[reducible] def k2_t1_loop (i : grid2.Coords) : Scf.Loop 32 :=
  let c0_i32_60 : BitVec 32 := 0#32
  let c2_i32 : BitVec 32 := 2#32
  let arg2 : BitVec 32 := BitVec.ofNat 32 (i 2).val
  let v209 : BitVec 32 := Scalar.muli c2_i32 arg2
  let v210 : BitVec 32 := Scalar.subi v209 c0_i32_60
  let c1_i32_61 : BitVec 32 := 1#32
  let v212 : BitVec 32 := Scalar.divsi v210 c1_i32_61
  let v213 : BitVec 32 := Scalar.muli v212 c1_i32_61
  let v214 : BitVec 32 := Scalar.addi c0_i32_60 v213
  let c1_i32_62 : BitVec 32 := 1#32
  ⟨c0_i32_60, v214, c1_i32_62⟩
def k2_mult3 (i : grid2.Coords) (k2_t1 : Fin (k2_t1_loop i).trips) : BitVec 32 :=
  let c2_i32_77 : BitVec 32 := 2#32
  let arg2 : BitVec 32 := BitVec.ofNat 32 (i 2).val
  let v250 : BitVec 32 := Scalar.muli c2_i32_77 arg2
  let c1_i32_78 : BitVec 32 := 1#32
  let v251 : BitVec 32 := Scalar.subi v250 c1_i32_78
  let c0_i32_60 : BitVec 32 := 0#32
  let c1_i32_62 : BitVec 32 := 1#32
  let arg8 : BitVec 32 := Scf.iv c0_i32_60 c1_i32_62 k2_t1
  let v252 : BitVec 32 := Scalar.subi v251 arg8
  let c128_i32_79 : BitVec 32 := 128#32
  let v253 : BitVec 32 := Scalar.muli v252 c128_i32_79
  v253
def k2_off3 (i : grid2.Coords) (k2_t1 : Fin (k2_t1_loop i).trips) : Fin 3 → Nat :=
  let c0_80 : Index := 0#32
  let c2_i32_77 : BitVec 32 := 2#32
  let arg2 : BitVec 32 := BitVec.ofNat 32 (i 2).val
  let v250 : BitVec 32 := Scalar.muli c2_i32_77 arg2
  let c1_i32_78 : BitVec 32 := 1#32
  let v251 : BitVec 32 := Scalar.subi v250 c1_i32_78
  let c0_i32_60 : BitVec 32 := 0#32
  let c1_i32_62 : BitVec 32 := 1#32
  let arg8 : BitVec 32 := Scf.iv c0_i32_60 c1_i32_62 k2_t1
  let v252 : BitVec 32 := Scalar.subi v251 arg8
  let c128_i32_79 : BitVec 32 := 128#32
  let v253 : BitVec 32 := Scalar.muli v252 c128_i32_79
  let v254 : BitVec 32 := v253
  let v255 : Index := Scalar.indexCast v254
  let c0_81 : Index := 0#32
  ![0, v255.toNat, 0]
@[reducible] def k2_t2_loop (i : grid2.Coords) : Scf.Loop 32 :=
  let c0_i32_60 : BitVec 32 := 0#32
  let c2_i32 : BitVec 32 := 2#32
  let arg2 : BitVec 32 := BitVec.ofNat 32 (i 2).val
  let v209 : BitVec 32 := Scalar.muli c2_i32 arg2
  let v210 : BitVec 32 := Scalar.subi v209 c0_i32_60
  let c1_i32_61 : BitVec 32 := 1#32
  let v212 : BitVec 32 := Scalar.divsi v210 c1_i32_61
  let v213 : BitVec 32 := Scalar.muli v212 c1_i32_61
  let v214 : BitVec 32 := Scalar.addi c0_i32_60 v213
  let v211 : BitVec 32 := Scalar.addi c0_i32_60 v210
  let c1_i32_63 : BitVec 32 := 1#32
  ⟨v214, v211, c1_i32_63⟩
def k2_mult4 (i : grid2.Coords) (k2_t2 : Fin (k2_t2_loop i).trips) : BitVec 32 :=
  let c2_i32_77 : BitVec 32 := 2#32
  let arg2 : BitVec 32 := BitVec.ofNat 32 (i 2).val
  let v250 : BitVec 32 := Scalar.muli c2_i32_77 arg2
  let c1_i32_78 : BitVec 32 := 1#32
  let v251 : BitVec 32 := Scalar.subi v250 c1_i32_78
  let c0_i32_60 : BitVec 32 := 0#32
  let c2_i32 : BitVec 32 := 2#32
  let v209 : BitVec 32 := Scalar.muli c2_i32 arg2
  let v210 : BitVec 32 := Scalar.subi v209 c0_i32_60
  let c1_i32_61 : BitVec 32 := 1#32
  let v212 : BitVec 32 := Scalar.divsi v210 c1_i32_61
  let v213 : BitVec 32 := Scalar.muli v212 c1_i32_61
  let v214 : BitVec 32 := Scalar.addi c0_i32_60 v213
  let c1_i32_63 : BitVec 32 := 1#32
  let arg8 : BitVec 32 := Scf.iv v214 c1_i32_63 k2_t2
  let v252 : BitVec 32 := Scalar.subi v251 arg8
  let c128_i32_79 : BitVec 32 := 128#32
  let v253 : BitVec 32 := Scalar.muli v252 c128_i32_79
  v253
def k2_off4 (i : grid2.Coords) (k2_t2 : Fin (k2_t2_loop i).trips) : Fin 3 → Nat :=
  let c0_80 : Index := 0#32
  let c2_i32_77 : BitVec 32 := 2#32
  let arg2 : BitVec 32 := BitVec.ofNat 32 (i 2).val
  let v250 : BitVec 32 := Scalar.muli c2_i32_77 arg2
  let c1_i32_78 : BitVec 32 := 1#32
  let v251 : BitVec 32 := Scalar.subi v250 c1_i32_78
  let c0_i32_60 : BitVec 32 := 0#32
  let c2_i32 : BitVec 32 := 2#32
  let v209 : BitVec 32 := Scalar.muli c2_i32 arg2
  let v210 : BitVec 32 := Scalar.subi v209 c0_i32_60
  let c1_i32_61 : BitVec 32 := 1#32
  let v212 : BitVec 32 := Scalar.divsi v210 c1_i32_61
  let v213 : BitVec 32 := Scalar.muli v212 c1_i32_61
  let v214 : BitVec 32 := Scalar.addi c0_i32_60 v213
  let c1_i32_63 : BitVec 32 := 1#32
  let arg8 : BitVec 32 := Scf.iv v214 c1_i32_63 k2_t2
  let v252 : BitVec 32 := Scalar.subi v251 arg8
  let c128_i32_79 : BitVec 32 := 128#32
  let v253 : BitVec 32 := Scalar.muli v252 c128_i32_79
  let v254 : BitVec 32 := v253
  let v255 : Index := Scalar.indexCast v254
  let c0_81 : Index := 0#32
  ![0, v255.toNat, 0]
def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage2_0 : Fin 1 → Memref sig .tc .vmem S1x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false, false]

abbrev stage2_1 : Fin 2 → Memref sig .tc .vmem S1x256x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S1x2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x2048x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S1x256x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1024x4096 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S4096x1024 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S512x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x2048x1024 : Shape := ⟨3, ![8, 2048, 1024]⟩
abbrev S1x1024 : Shape := ⟨2, ![1, 1024]⟩
abbrev S1x1024x3072 : Shape := ⟨3, ![1, 1024, 3072]⟩
abbrev S1x64 : Shape := ⟨2, ![1, 64]⟩
abbrev S1x128 : Shape := ⟨2, ![1, 128]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3072 : Shape := ⟨2, ![1024, 3072]⟩
abbrev S8x2048x3072 : Shape := ⟨3, ![8, 2048, 3072]⟩
abbrev S8x2048x512 : Shape := ⟨3, ![8, 2048, 512]⟩
abbrev S8x2048x4x2x64 : Shape := ⟨5, ![8, 2048, 4, 2, 64]⟩
abbrev S8x2048x4x128 : Shape := ⟨4, ![8, 2048, 4, 128]⟩
abbrev S8x2048x8x64 : Shape := ⟨4, ![8, 2048, 8, 64]⟩
abbrev S64 : Shape := ⟨1, ![64]⟩
abbrev S2048 : Shape := ⟨1, ![2048]⟩
abbrev S4 : Shape := ⟨1, ![4]⟩
abbrev S8x4x2x2048x2048 : Shape := ⟨5, ![8, 4, 2, 2048, 2048]⟩
abbrev S1x2048 : Shape := ⟨2, ![1, 2048]⟩
abbrev S2048x1 : Shape := ⟨2, ![2048, 1]⟩
abbrev S2048x2048 : Shape := ⟨2, ![2048, 2048]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S1x1x1x2048x2048 : Shape := ⟨5, ![1, 1, 1, 2048, 2048]⟩
abbrev S1x4x1x2048x2048 : Shape := ⟨5, ![1, 4, 1, 2048, 2048]⟩
abbrev S8x4x2x2048 : Shape := ⟨4, ![8, 4, 2, 2048]⟩
abbrev S8x4x2x2048x1 : Shape := ⟨5, ![8, 4, 2, 2048, 1]⟩
abbrev S8x4x1x2048x2048 : Shape := ⟨5, ![8, 4, 1, 2048, 2048]⟩
abbrev S8x4x2048x2048 : Shape := ⟨4, ![8, 4, 2048, 2048]⟩
abbrev S8x4x128x2048 : Shape := ⟨4, ![8, 4, 128, 2048]⟩
abbrev S128 : Shape := ⟨1, ![128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S8x8x2048x2048 : Shape := ⟨4, ![8, 8, 2048, 2048]⟩
abbrev S1x1x2048x2048 : Shape := ⟨4, ![1, 1, 2048, 2048]⟩
abbrev S8x8x64x2048 : Shape := ⟨4, ![8, 8, 64, 2048]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S1024x1024 : Shape := ⟨2, ![1024, 1024]⟩
abbrev S1024x4096 : Shape := ⟨2, ![1024, 4096]⟩
abbrev S8x2048x4096 : Shape := ⟨3, ![8, 2048, 4096]⟩
abbrev S4096x1024 : Shape := ⟨2, ![4096, 1024]⟩

abbrev nBuf : Space → Nat
  | .hbm => 309
  | .vmem => 0
  | .smem => 0
  | _ => 0

abbrev hbmTy0_0 (i : Nat) : BufTy := match i % 128 with
  | 0 => ⟨S8x2048x1024, .f32⟩
  | 1 => ⟨S1x1024, .f32⟩
  | 2 => ⟨S1x1024x3072, .f32⟩
  | 3 => ⟨S1x64, .f32⟩
  | 4 => ⟨S1x64, .f32⟩
  | 5 => ⟨S1x64, .f32⟩
  | 6 => ⟨S1x64, .f32⟩
  | 7 => ⟨S1x128, .f32⟩
  | 8 => ⟨S1x64, .f32⟩
  | 9 => ⟨S1x1024x1024, .f32⟩
  | 10 => ⟨S1x1024, .f32⟩
  | 11 => ⟨S1x1024x4096, .f32⟩
  | 12 => ⟨S1x4096x1024, .f32⟩
  | 13 => ⟨S1024, .f32⟩
  | 14 => ⟨S1024, .f32⟩
  | 15 => ⟨S8x2048x1024, .f32⟩
  | 16 => ⟨S_, .f32⟩
  | 17 => ⟨S8x2048, .f32⟩
  | 18 => ⟨S8x2048x1, .f32⟩
  | 19 => ⟨S_, .f32⟩
  | 20 => ⟨S8x2048x1, .f32⟩
  | 21 => ⟨S8x2048x1, .f32⟩
  | 22 => ⟨S_, .f32⟩
  | 23 => ⟨S8x2048x1, .f32⟩
  | 24 => ⟨S8x2048x1, .f32⟩
  | 25 => ⟨S8x2048x1, .f32⟩
  | 26 => ⟨S8x2048x1024, .f32⟩
  | 27 => ⟨S8x2048x1024, .f32⟩
  | 28 => ⟨S1x1x1024, .f32⟩
  | 29 => ⟨S8x2048x1024, .f32⟩
  | 30 => ⟨S8x2048x1024, .f32⟩
  | 31 => ⟨S1024x3072, .f32⟩
  | 32 => ⟨S8x2048x3072, .f32⟩
  | 33 => ⟨S8x2048x512, .f32⟩
  | 34 => ⟨S8x2048x512, .f32⟩
  | 35 => ⟨S8x2048x512, .f32⟩
  | 36 => ⟨S8x2048x512, .f32⟩
  | 37 => ⟨S8x2048x512, .f32⟩
  | 38 => ⟨S8x2048x512, .f32⟩
  | 39 => ⟨S8x2048x4x2x64, .f32⟩
  | 40 => ⟨S8x2048x4x2x64, .f32⟩
  | 41 => ⟨S8x2048x4x128, .f32⟩
  | 42 => ⟨S8x2048x8x64, .f32⟩
  | 43 => ⟨S8x2048x8x64, .f32⟩
  | 44 => ⟨S8x2048x8x64, .f32⟩
  | 45 => ⟨S64, .f32⟩
  | 46 => ⟨S64, .f32⟩
  | 47 => ⟨S64, .f32⟩
  | 48 => ⟨S_, .f32⟩
  | 49 => ⟨S_, .f32⟩
  | 50 => ⟨S_, .f32⟩
  | 51 => ⟨S64, .f32⟩
  | 52 => ⟨S64, .f32⟩
  | 53 => ⟨S64, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S2048, .i32⟩
  | 61 => ⟨S4, .f32⟩
  | 62 => ⟨S_, .f32⟩
  | 63 => ⟨S4, .f32⟩
  | 64 => ⟨S4, .f32⟩
  | 65 => ⟨S_, .f32⟩
  | 66 => ⟨S4, .f32⟩
  | 67 => ⟨S4, .f32⟩
  | 68 => ⟨S_, .f32⟩
  | 69 => ⟨S4, .f32⟩
  | 70 => ⟨S4, .f32⟩
  | 71 => ⟨S_, .f32⟩
  | 72 => ⟨S_, .f32⟩
  | 73 => ⟨S4, .f32⟩
  | 74 => ⟨S4, .f32⟩
  | 75 => ⟨S4, .f32⟩
  | 76 => ⟨S8x4x2x2048x2048, .f32⟩
  | 77 => ⟨S_, .f32⟩
  | 78 => ⟨S8x4x2x2048x2048, .f32⟩
  | 79 => ⟨S8x4x2x2048x2048, .f32⟩
  | 80 => ⟨S_, .i32⟩
  | 81 => ⟨S_, .i32⟩
  | 82 => ⟨S2048, .i32⟩
  | 83 => ⟨S2048, .i32⟩
  | 84 => ⟨S2048, .i32⟩
  | 85 => ⟨S_, .i32⟩
  | 86 => ⟨S2048, .i32⟩
  | 87 => ⟨S2048, .i1⟩
  | 88 => ⟨S2048, .i32⟩
  | 89 => ⟨S2048, .i32⟩
  | 90 => ⟨S_, .i32⟩
  | 91 => ⟨S2048, .i32⟩
  | 92 => ⟨S2048, .i1⟩
  | 93 => ⟨S2048, .i1⟩
  | 94 => ⟨S_, .i32⟩
  | 95 => ⟨S2048, .i32⟩
  | 96 => ⟨S2048, .i32⟩
  | 97 => ⟨S2048, .i32⟩
  | 98 => ⟨S1x2048, .i32⟩
  | 99 => ⟨S_, .i32⟩
  | 100 => ⟨S_, .i32⟩
  | 101 => ⟨S2048, .i32⟩
  | 102 => ⟨S2048, .i32⟩
  | 103 => ⟨S2048, .i32⟩
  | 104 => ⟨S_, .i32⟩
  | 105 => ⟨S2048, .i32⟩
  | 106 => ⟨S2048, .i1⟩
  | 107 => ⟨S2048, .i32⟩
  | 108 => ⟨S2048, .i32⟩
  | 109 => ⟨S_, .i32⟩
  | 110 => ⟨S2048, .i32⟩
  | 111 => ⟨S2048, .i1⟩
  | 112 => ⟨S2048, .i1⟩
  | 113 => ⟨S_, .i32⟩
  | 114 => ⟨S2048, .i32⟩
  | 115 => ⟨S2048, .i32⟩
  | 116 => ⟨S2048, .i32⟩
  | 117 => ⟨S2048x1, .i32⟩
  | 118 => ⟨S2048x2048, .i32⟩
  | 119 => ⟨S2048x2048, .i32⟩
  | 120 => ⟨S2048x2048, .i1⟩
  | 121 => ⟨S2048x1, .i32⟩
  | 122 => ⟨S1x2048, .i32⟩
  | 123 => ⟨S2048x2048, .i32⟩
  | 124 => ⟨S2048x2048, .i32⟩
  | 125 => ⟨S2048x2048, .i32⟩
  | 126 => ⟨S2048x2048, .i32⟩
  | 127 => ⟨S2048x2048, .f32⟩
  | _ => ⟨S8x2048x1024, .f32⟩

abbrev hbmTy0_1 (i : Nat) : BufTy := match i % 128 with
  | 0 => ⟨S4x1x1, .f32⟩
  | 1 => ⟨S4x1x1, .f32⟩
  | 2 => ⟨S1x2048x2048, .f32⟩
  | 3 => ⟨S4x2048x2048, .f32⟩
  | 4 => ⟨S4x2048x2048, .f32⟩
  | 5 => ⟨S4x2048x2048, .f32⟩
  | 6 => ⟨S1x1x1x2048x2048, .i1⟩
  | 7 => ⟨S1x4x1x2048x2048, .f32⟩
  | 8 => ⟨S8x4x2x2048x2048, .f32⟩
  | 9 => ⟨S8x4x2x2048x2048, .f32⟩
  | 10 => ⟨S_, .f32⟩
  | 11 => ⟨S_, .f32⟩
  | 12 => ⟨S8x4x2x2048x2048, .i1⟩
  | 13 => ⟨S8x4x2x2048x2048, .f32⟩
  | 14 => ⟨S8x4x2x2048x2048, .f32⟩
  | 15 => ⟨S_, .f32⟩
  | 16 => ⟨S8x4x2x2048, .f32⟩
  | 17 => ⟨S_, .f32⟩
  | 18 => ⟨S8x4x2x2048, .f32⟩
  | 19 => ⟨S8x4x2x2048, .f32⟩
  | 20 => ⟨S8x4x2x2048x1, .f32⟩
  | 21 => ⟨S8x4x2x2048x2048, .f32⟩
  | 22 => ⟨S8x4x2x2048x2048, .f32⟩
  | 23 => ⟨S8x4x2x2048x2048, .f32⟩
  | 24 => ⟨S_, .f32⟩
  | 25 => ⟨S8x4x2x2048, .f32⟩
  | 26 => ⟨S8x4x2x2048x1, .f32⟩
  | 27 => ⟨S8x4x2x2048x2048, .f32⟩
  | 28 => ⟨S8x4x2x2048x2048, .f32⟩
  | 29 => ⟨S8x4x1x2048x2048, .f32⟩
  | 30 => ⟨S8x4x2048x2048, .f32⟩
  | 31 => ⟨S8x4x1x2048x2048, .f32⟩
  | 32 => ⟨S8x4x2048x2048, .f32⟩
  | 33 => ⟨S8x4x2048x2048, .f32⟩
  | 34 => ⟨S8x4x2048x2048, .f32⟩
  | 35 => ⟨S8x4x2048x2048, .f32⟩
  | 36 => ⟨S8x4x128x2048, .f32⟩
  | 37 => ⟨S8x2048x4x128, .f32⟩
  | 38 => ⟨S128, .f32⟩
  | 39 => ⟨S8x2048x4x128, .f32⟩
  | 40 => ⟨S_, .f32⟩
  | 41 => ⟨S8x2048x4, .f32⟩
  | 42 => ⟨S8x2048x4x1, .f32⟩
  | 43 => ⟨S_, .f32⟩
  | 44 => ⟨S8x2048x4x1, .f32⟩
  | 45 => ⟨S8x2048x4x1, .f32⟩
  | 46 => ⟨S_, .f32⟩
  | 47 => ⟨S8x2048x4x1, .f32⟩
  | 48 => ⟨S8x2048x4x1, .f32⟩
  | 49 => ⟨S8x2048x4x1, .f32⟩
  | 50 => ⟨S8x2048x4x128, .f32⟩
  | 51 => ⟨S8x2048x4x128, .f32⟩
  | 52 => ⟨S1x1x1x128, .f32⟩
  | 53 => ⟨S8x2048x4x128, .f32⟩
  | 54 => ⟨S8x2048x4x128, .f32⟩
  | 55 => ⟨S_, .f32⟩
  | 56 => ⟨S8x2048x4x128, .f32⟩
  | 57 => ⟨S8x2048x4x128, .f32⟩
  | 58 => ⟨S8x2048x512, .f32⟩
  | 59 => ⟨S8x8x2048x2048, .f32⟩
  | 60 => ⟨S_, .f32⟩
  | 61 => ⟨S8x8x2048x2048, .f32⟩
  | 62 => ⟨S8x8x2048x2048, .f32⟩
  | 63 => ⟨S1x2048, .i32⟩
  | 64 => ⟨S2048x1, .i32⟩
  | 65 => ⟨S2048x2048, .i32⟩
  | 66 => ⟨S2048x2048, .i32⟩
  | 67 => ⟨S2048x2048, .i1⟩
  | 68 => ⟨S1x1x2048x2048, .i1⟩
  | 69 => ⟨S_, .f32⟩
  | 70 => ⟨S8x8x2048x2048, .f32⟩
  | 71 => ⟨S8x8x2048x2048, .f32⟩
  | 72 => ⟨S8x8x2048x2048, .f32⟩
  | 73 => ⟨S8x8x2048x2048, .f32⟩
  | 74 => ⟨S8x8x2048x2048, .i1⟩
  | 75 => ⟨S8x8x2048x2048, .f32⟩
  | 76 => ⟨S8x8x2048x2048, .f32⟩
  | 77 => ⟨S8x8x2048x2048, .f32⟩
  | 78 => ⟨S8x8x2048x2048, .f32⟩
  | 79 => ⟨S8x8x2048x2048, .f32⟩
  | 80 => ⟨S8x8x2048x2048, .f32⟩
  | 81 => ⟨S8x8x2048x2048, .f32⟩
  | 82 => ⟨S8x8x2048x2048, .f32⟩
  | 83 => ⟨S_, .f32⟩
  | 84 => ⟨S_, .f32⟩
  | 85 => ⟨S8x8x2048x2048, .i1⟩
  | 86 => ⟨S8x8x2048x2048, .f32⟩
  | 87 => ⟨S8x8x2048x2048, .f32⟩
  | 88 => ⟨S_, .f32⟩
  | 89 => ⟨S_, .f32⟩
  | 90 => ⟨S8x8x2048x2048, .f32⟩
  | 91 => ⟨S8x8x2048x2048, .f32⟩
  | 92 => ⟨S_, .f32⟩
  | 93 => ⟨S8x8x2048x2048, .f32⟩
  | 94 => ⟨S8x8x2048x2048, .f32⟩
  | 95 => ⟨S8x8x2048x2048, .f32⟩
  | 96 => ⟨S8x8x2048x2048, .f32⟩
  | 97 => ⟨S8x8x2048x2048, .i1⟩
  | 98 => ⟨S8x8x2048x2048, .f32⟩
  | 99 => ⟨S8x8x2048x2048, .f32⟩
  | 100 => ⟨S8x8x2048x2048, .f32⟩
  | 101 => ⟨S8x8x2048x2048, .f32⟩
  | 102 => ⟨S8x8x2048x2048, .f32⟩
  | 103 => ⟨S8x8x2048x2048, .f32⟩
  | 104 => ⟨S8x8x2048x2048, .f32⟩
  | 105 => ⟨S8x8x2048x2048, .f32⟩
  | 106 => ⟨S8x8x2048x2048, .f32⟩
  | 107 => ⟨S8x8x2048x2048, .f32⟩
  | 108 => ⟨S8x8x2048x2048, .f32⟩
  | 109 => ⟨S8x8x2048x2048, .f32⟩
  | 110 => ⟨S_, .f32⟩
  | 111 => ⟨S_, .f32⟩
  | 112 => ⟨S8x8x2048x2048, .i1⟩
  | 113 => ⟨S8x8x2048x2048, .f32⟩
  | 114 => ⟨S8x8x2048x2048, .f32⟩
  | 115 => ⟨S8x8x64x2048, .f32⟩
  | 116 => ⟨S8x2048x8x64, .f32⟩
  | 117 => ⟨S64, .f32⟩
  | 118 => ⟨S8x2048x8x64, .f32⟩
  | 119 => ⟨S_, .f32⟩
  | 120 => ⟨S8x2048x8, .f32⟩
  | 121 => ⟨S8x2048x8x1, .f32⟩
  | 122 => ⟨S_, .f32⟩
  | 123 => ⟨S8x2048x8x1, .f32⟩
  | 124 => ⟨S8x2048x8x1, .f32⟩
  | 125 => ⟨S_, .f32⟩
  | 126 => ⟨S8x2048x8x1, .f32⟩
  | 127 => ⟨S8x2048x8x1, .f32⟩
  | _ => ⟨S8x2048x1024, .f32⟩

abbrev hbmTy0_2 (i : Nat) : BufTy := match i % 128 with
  | 0 => ⟨S8x2048x8x1, .f32⟩
  | 1 => ⟨S8x2048x8x64, .f32⟩
  | 2 => ⟨S8x2048x8x64, .f32⟩
  | 3 => ⟨S1x1x1x64, .f32⟩
  | 4 => ⟨S8x2048x8x64, .f32⟩
  | 5 => ⟨S8x2048x8x64, .f32⟩
  | 6 => ⟨S8x2048x512, .f32⟩
  | 7 => ⟨S8x2048x1024, .f32⟩
  | 8 => ⟨S1024x1024, .f32⟩
  | 9 => ⟨S8x2048x1024, .f32⟩
  | 10 => ⟨S8x2048x1024, .f32⟩
  | 11 => ⟨S1024, .f32⟩
  | 12 => ⟨S8x2048x1024, .f32⟩
  | 13 => ⟨S_, .f32⟩
  | 14 => ⟨S8x2048, .f32⟩
  | 15 => ⟨S8x2048x1, .f32⟩
  | 16 => ⟨S_, .f32⟩
  | 17 => ⟨S8x2048x1, .f32⟩
  | 18 => ⟨S8x2048x1, .f32⟩
  | 19 => ⟨S_, .f32⟩
  | 20 => ⟨S8x2048x1, .f32⟩
  | 21 => ⟨S8x2048x1, .f32⟩
  | 22 => ⟨S8x2048x1, .f32⟩
  | 23 => ⟨S8x2048x1024, .f32⟩
  | 24 => ⟨S8x2048x1024, .f32⟩
  | 25 => ⟨S1x1x1024, .f32⟩
  | 26 => ⟨S8x2048x1024, .f32⟩
  | 27 => ⟨S8x2048x1024, .f32⟩
  | 28 => ⟨S1024x4096, .f32⟩
  | 29 => ⟨S8x2048x4096, .f32⟩
  | 30 => ⟨S_, .f32⟩
  | 31 => ⟨S8x2048x4096, .f32⟩
  | 32 => ⟨S8x2048x4096, .f32⟩
  | 33 => ⟨S8x2048x4096, .f32⟩
  | 34 => ⟨S4096x1024, .f32⟩
  | 35 => ⟨S8x2048x1024, .f32⟩
  | 36 => ⟨S8x2048x1024, .f32⟩
  | 37 => ⟨S8x2048x1024, .f32⟩
  | 38 => ⟨S_, .f32⟩
  | 39 => ⟨S8x2048, .f32⟩
  | 40 => ⟨S8x2048x1, .f32⟩
  | 41 => ⟨S_, .f32⟩
  | 42 => ⟨S8x2048x1, .f32⟩
  | 43 => ⟨S8x2048x1, .f32⟩
  | 44 => ⟨S_, .f32⟩
  | 45 => ⟨S8x2048x1, .f32⟩
  | 46 => ⟨S8x2048x1, .f32⟩
  | 47 => ⟨S8x2048x1, .f32⟩
  | 48 => ⟨S8x2048x1024, .f32⟩
  | 49 => ⟨S8x2048x1024, .f32⟩
  | 50 => ⟨S1x1x1024, .f32⟩
  | 51 => ⟨S8x2048x1024, .f32⟩
  | 52 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_4 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_c : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_v8 : Ref sig .tc := ⟨.hbm, 89, rfl⟩
abbrev main_call0_c : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_call0_c_0 : Ref sig .tc := ⟨.hbm, 94, rfl⟩
abbrev main_call0_v12 : Ref sig .tc := ⟨.hbm, 95, rfl⟩
abbrev main_call0_v13 : Ref sig .tc := ⟨.hbm, 96, rfl⟩
abbrev main_v55 : Ref sig .tc := ⟨.hbm, 97, rfl⟩
abbrev main_v56 : Ref sig .tc := ⟨.hbm, 98, rfl⟩
abbrev main_c_10 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_v7 : Ref sig .tc := ⟨.hbm, 107, rfl⟩
abbrev main_call1_v8 : Ref sig .tc := ⟨.hbm, 108, rfl⟩
abbrev main_call1_c : Ref sig .tc := ⟨.hbm, 109, rfl⟩
abbrev main_call1_v9 : Ref sig .tc := ⟨.hbm, 110, rfl⟩
abbrev main_call1_v10 : Ref sig .tc := ⟨.hbm, 111, rfl⟩
abbrev main_call1_v11 : Ref sig .tc := ⟨.hbm, 112, rfl⟩
abbrev main_call1_c_0 : Ref sig .tc := ⟨.hbm, 113, rfl⟩
abbrev main_call1_v12 : Ref sig .tc := ⟨.hbm, 114, rfl⟩
abbrev main_call1_v13 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_cst_11 : Ref sig .tc := ⟨.hbm, 138, rfl⟩
abbrev main_call2_v0 : Ref sig .tc := ⟨.hbm, 139, rfl⟩
abbrev main_call2_v1 : Ref sig .tc := ⟨.hbm, 140, rfl⟩
abbrev main_call2_v2 : Ref sig .tc := ⟨.hbm, 141, rfl⟩
abbrev main_v79 : Ref sig .tc := ⟨.hbm, 142, rfl⟩
abbrev main_cst_12 : Ref sig .tc := ⟨.hbm, 143, rfl⟩
abbrev main_v80 : Ref sig .tc := ⟨.hbm, 144, rfl⟩
abbrev main_cst_13 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_cst_14 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_cst_15 : Ref sig .tc := ⟨.hbm, 168, rfl⟩
abbrev main_v102 : Ref sig .tc := ⟨.hbm, 169, rfl⟩
abbrev main_v103 : Ref sig .tc := ⟨.hbm, 170, rfl⟩
abbrev main_cst_16 : Ref sig .tc := ⟨.hbm, 171, rfl⟩
abbrev main_v104 : Ref sig .tc := ⟨.hbm, 172, rfl⟩
abbrev main_v105 : Ref sig .tc := ⟨.hbm, 173, rfl⟩
abbrev main_cst_17 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_cst_18 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_cst_19 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_call3_cst : Ref sig .tc := ⟨.hbm, 197, rfl⟩
abbrev main_call3_v0 : Ref sig .tc := ⟨.hbm, 198, rfl⟩
abbrev main_call3_v1 : Ref sig .tc := ⟨.hbm, 199, rfl⟩
abbrev main_call3_v2 : Ref sig .tc := ⟨.hbm, 200, rfl⟩
abbrev main_call3_v3 : Ref sig .tc := ⟨.hbm, 201, rfl⟩
abbrev main_call3_v4 : Ref sig .tc := ⟨.hbm, 202, rfl⟩
abbrev main_call3_v5 : Ref sig .tc := ⟨.hbm, 203, rfl⟩
abbrev main_call3_v6 : Ref sig .tc := ⟨.hbm, 204, rfl⟩
abbrev main_call3_v7 : Ref sig .tc := ⟨.hbm, 205, rfl⟩
abbrev main_call3_v8 : Ref sig .tc := ⟨.hbm, 206, rfl⟩
abbrev main_call3_v9 : Ref sig .tc := ⟨.hbm, 207, rfl⟩
abbrev main_call3_v10 : Ref sig .tc := ⟨.hbm, 208, rfl⟩
abbrev main_call3_v11 : Ref sig .tc := ⟨.hbm, 209, rfl⟩
abbrev main_v126 : Ref sig .tc := ⟨.hbm, 210, rfl⟩
abbrev main_cst_20 : Ref sig .tc := ⟨.hbm, 211, rfl⟩
abbrev main_call4_v0 : Ref sig .tc := ⟨.hbm, 212, rfl⟩
abbrev main_call4_v1 : Ref sig .tc := ⟨.hbm, 213, rfl⟩
abbrev main_call4_v2 : Ref sig .tc := ⟨.hbm, 214, rfl⟩
abbrev main_v127 : Ref sig .tc := ⟨.hbm, 215, rfl⟩
abbrev main_call5_cst : Ref sig .tc := ⟨.hbm, 216, rfl⟩
abbrev main_call5_v0 : Ref sig .tc := ⟨.hbm, 217, rfl⟩
abbrev main_v128 : Ref sig .tc := ⟨.hbm, 218, rfl⟩
abbrev main_call6_v0 : Ref sig .tc := ⟨.hbm, 219, rfl⟩
abbrev main_call6_call0_cst : Ref sig .tc := ⟨.hbm, 220, rfl⟩
abbrev main_call6_call0_v0 : Ref sig .tc := ⟨.hbm, 221, rfl⟩
abbrev main_call6_call0_v1 : Ref sig .tc := ⟨.hbm, 222, rfl⟩
abbrev main_call6_call0_v2 : Ref sig .tc := ⟨.hbm, 223, rfl⟩
abbrev main_call6_call0_v3 : Ref sig .tc := ⟨.hbm, 224, rfl⟩
abbrev main_call6_call0_v4 : Ref sig .tc := ⟨.hbm, 225, rfl⟩
abbrev main_call6_call0_v5 : Ref sig .tc := ⟨.hbm, 226, rfl⟩
abbrev main_call6_call0_v6 : Ref sig .tc := ⟨.hbm, 227, rfl⟩
abbrev main_call6_call0_v7 : Ref sig .tc := ⟨.hbm, 228, rfl⟩
abbrev main_call6_call0_v8 : Ref sig .tc := ⟨.hbm, 229, rfl⟩
abbrev main_call6_call0_v9 : Ref sig .tc := ⟨.hbm, 230, rfl⟩
abbrev main_call6_call0_v10 : Ref sig .tc := ⟨.hbm, 231, rfl⟩
abbrev main_call6_call0_v11 : Ref sig .tc := ⟨.hbm, 232, rfl⟩
abbrev main_call6_v1 : Ref sig .tc := ⟨.hbm, 233, rfl⟩
abbrev main_v129 : Ref sig .tc := ⟨.hbm, 234, rfl⟩
abbrev main_v130 : Ref sig .tc := ⟨.hbm, 235, rfl⟩
abbrev main_v131 : Ref sig .tc := ⟨.hbm, 236, rfl⟩
abbrev main_v132 : Ref sig .tc := ⟨.hbm, 237, rfl⟩
abbrev main_cst_21 : Ref sig .tc := ⟨.hbm, 238, rfl⟩
abbrev main_call7_v0 : Ref sig .tc := ⟨.hbm, 239, rfl⟩
abbrev main_call7_v1 : Ref sig .tc := ⟨.hbm, 240, rfl⟩
abbrev main_call7_v2 : Ref sig .tc := ⟨.hbm, 241, rfl⟩
abbrev main_v133 : Ref sig .tc := ⟨.hbm, 242, rfl⟩
abbrev main_v134 : Ref sig .tc := ⟨.hbm, 243, rfl⟩
abbrev main_v135 : Ref sig .tc := ⟨.hbm, 244, rfl⟩
abbrev main_v136 : Ref sig .tc := ⟨.hbm, 245, rfl⟩
abbrev main_v137 : Ref sig .tc := ⟨.hbm, 246, rfl⟩
abbrev main_cst_22 : Ref sig .tc := ⟨.hbm, 247, rfl⟩
abbrev main_v138 : Ref sig .tc := ⟨.hbm, 248, rfl⟩
abbrev main_v139 : Ref sig .tc := ⟨.hbm, 249, rfl⟩
abbrev main_cst_23 : Ref sig .tc := ⟨.hbm, 250, rfl⟩
abbrev main_v140 : Ref sig .tc := ⟨.hbm, 251, rfl⟩
abbrev main_v141 : Ref sig .tc := ⟨.hbm, 252, rfl⟩
abbrev main_cst_24 : Ref sig .tc := ⟨.hbm, 253, rfl⟩
abbrev main_v142 : Ref sig .tc := ⟨.hbm, 254, rfl⟩
abbrev main_v143 : Ref sig .tc := ⟨.hbm, 255, rfl⟩
abbrev main_v144 : Ref sig .tc := ⟨.hbm, 256, rfl⟩
abbrev main_v145 : Ref sig .tc := ⟨.hbm, 257, rfl⟩
abbrev main_v146 : Ref sig .tc := ⟨.hbm, 258, rfl⟩
abbrev main_v147 : Ref sig .tc := ⟨.hbm, 259, rfl⟩
abbrev main_v148 : Ref sig .tc := ⟨.hbm, 260, rfl⟩
abbrev main_v149 : Ref sig .tc := ⟨.hbm, 261, rfl⟩
abbrev main_v150 : Ref sig .tc := ⟨.hbm, 262, rfl⟩
abbrev main_v151 : Ref sig .tc := ⟨.hbm, 263, rfl⟩
abbrev main_v152 : Ref sig .tc := ⟨.hbm, 264, rfl⟩
abbrev main_v153 : Ref sig .tc := ⟨.hbm, 265, rfl⟩
abbrev main_v154 : Ref sig .tc := ⟨.hbm, 266, rfl⟩
abbrev main_v155 : Ref sig .tc := ⟨.hbm, 267, rfl⟩
abbrev main_v156 : Ref sig .tc := ⟨.hbm, 268, rfl⟩
abbrev main_cst_25 : Ref sig .tc := ⟨.hbm, 269, rfl⟩
abbrev main_v157 : Ref sig .tc := ⟨.hbm, 270, rfl⟩
abbrev main_v158 : Ref sig .tc := ⟨.hbm, 271, rfl⟩
abbrev main_cst_26 : Ref sig .tc := ⟨.hbm, 272, rfl⟩
abbrev main_v159 : Ref sig .tc := ⟨.hbm, 273, rfl⟩
abbrev main_v160 : Ref sig .tc := ⟨.hbm, 274, rfl⟩
abbrev main_cst_27 : Ref sig .tc := ⟨.hbm, 275, rfl⟩
abbrev main_v161 : Ref sig .tc := ⟨.hbm, 276, rfl⟩
abbrev main_v162 : Ref sig .tc := ⟨.hbm, 277, rfl⟩
abbrev main_v163 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_v167 : Ref sig .tc := ⟨.hbm, 282, rfl⟩
abbrev main_v168 : Ref sig .tc := ⟨.hbm, 283, rfl⟩
abbrev main_v169 : Ref sig .tc := ⟨.hbm, 284, rfl⟩
abbrev main_v170 : Ref sig .tc := ⟨.hbm, 285, rfl⟩
abbrev main_call8_cst : Ref sig .tc := ⟨.hbm, 286, rfl⟩
abbrev main_call8_v0 : Ref sig .tc := ⟨.hbm, 287, rfl⟩
abbrev main_v171 : Ref sig .tc := ⟨.hbm, 288, rfl⟩
abbrev main_v172 : Ref sig .tc := ⟨.hbm, 289, rfl⟩
abbrev main_v173 : Ref sig .tc := ⟨.hbm, 290, rfl⟩
abbrev main_v174 : Ref sig .tc := ⟨.hbm, 291, rfl⟩
abbrev main_v175 : Ref sig .tc := ⟨.hbm, 292, rfl⟩
abbrev main_v176 : Ref sig .tc := ⟨.hbm, 293, rfl⟩
abbrev main_cst_28 : Ref sig .tc := ⟨.hbm, 294, rfl⟩
abbrev main_v177 : Ref sig .tc := ⟨.hbm, 295, rfl⟩
abbrev main_v178 : Ref sig .tc := ⟨.hbm, 296, rfl⟩
abbrev main_cst_29 : Ref sig .tc := ⟨.hbm, 297, rfl⟩
abbrev main_v179 : Ref sig .tc := ⟨.hbm, 298, rfl⟩
abbrev main_v180 : Ref sig .tc := ⟨.hbm, 299, rfl⟩
abbrev main_cst_30 : Ref sig .tc := ⟨.hbm, 300, rfl⟩
abbrev main_v181 : Ref sig .tc := ⟨.hbm, 301, rfl⟩
abbrev main_v182 : Ref sig .tc := ⟨.hbm, 302, rfl⟩
abbrev main_v183 : Ref sig .tc := ⟨.hbm, 303, rfl⟩
abbrev main_v184 : Ref sig .tc := ⟨.hbm, 304, rfl⟩
abbrev main_v185 : Ref sig .tc := ⟨.hbm, 305, rfl⟩
abbrev main_v186 : Ref sig .tc := ⟨.hbm, 306, rfl⟩
abbrev main_v187 : Ref sig .tc := ⟨.hbm, 307, rfl⟩
abbrev main_v188 : Ref sig .tc := ⟨.hbm, 308, rfl⟩

abbrev nD : Nat := 1
abbrev τ : Topo := Topo.v7x

variable {F : FTy → Type} [FloatOps F]
-- ==== Proof.Frames.lean ====
module

public import proofs.«01_k».proof.Proof.Gen.Kernel.Frame
public import proofs.«01_k».proof.Proof.Gen.KernelIdeal.Frame
public import proofs.«01_k».proof.Proof.Gen.ReferenceIdeal.Run
public import proofs.«01_k».proof.Defs
public import Idealize.ShloMosaic.Adequacy
public import Idealize.ShloMosaic.Lib.Claim
@[expose] public section

noncomputable section
open Idealize.ShloMosaic Idealize.SL.Sem

namespace Cert.Frames

/-- The reference returns with its arguments as launched and every counter at zero. -/
theorem reference :
    Cert.quiescent_ReferenceIdeal := by
  intro m g _
  exact (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The two named constants are the ones the kernel's literals stand for. -/
theorem preserves : Cert.preserves_Kernel_KernelIdeal :=
  ⟨IdealRules.named_const.statement Cert.KernelIdeal.κ "mask" .f32 0xF149F2CA#32 ⊥ rfl,
   IdealRules.named_const.statement Cert.KernelIdeal.κ "log2e" .f32 0x3FB8AA3B#32 (((Real.log 2)⁻¹ : ℝ) : EReal) rfl⟩

end Cert.Frames
-- ==== Proof.RealKit.lean ====
module

public import Idealize.ShloMosaic.Lib.Pipeline.ValueKit
public import Idealize.ShloMosaic.Lib.Pointwise

@[expose] public section

noncomputable section
open Idealize.ShloMosaic

/-! Extended-real operations on real arguments, read as operations on reals. -/

namespace Cert.RealKit

theorem coe_fsum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

theorem coe_ite (p : Prop) [Decidable p] (a b : ℝ) :
    (if p then (a : EReal) else (b : EReal)) = ((if p then a else b : ℝ) : EReal) := by split <;> rfl

theorem coe_dite (p : Prop) [Decidable p] (a : p → ℝ) (b : ¬ p → ℝ) :
    (if h : p then ((a h : ℝ) : EReal) else ((b h : ℝ) : EReal)) = ((if h : p then a h else b h : ℝ) : EReal) := by
  split <;> rfl

theorem exp2_real (a : ℝ) : Ideal.exp2 (a : EReal) = (((2 : ℝ) ^ a : ℝ) : EReal) := rfl

theorem log_real {a : ℝ} (h : 0 < a) : Ideal.log (a : EReal) = ((Real.log a : ℝ) : EReal) := by
  rw [Ideal.log_coe, if_neg (not_le.mpr h)]

theorem rsqrt_real {a : ℝ} (h : 0 < a) : Ideal.rsqrt (a : EReal) = (((Real.sqrt a)⁻¹ : ℝ) : EReal) := by
  rw [Ideal.rsqrt_coe, if_neg (not_lt.mpr h.le), if_neg h.ne']

theorem div_real {a b : ℝ} (h : b ≠ 0) : Ideal.div (a : EReal) (b : EReal) = ((a / b : ℝ) : EReal) := by
  rw [Ideal.div_coe h, ← EReal.coe_mul]; congr 1; field_simp

theorem abs_real (a : ℝ) : max (a : EReal) (-(a : EReal)) = ((|a| : ℝ) : EReal) := by
  rw [← EReal.coe_neg, coe_max]; rfl

/-- A sum over `Fin n` of a function of the index's value. -/
theorem sum_fin (n : ℕ) (f : ℕ → ℝ) : (∑ i : Fin n, f i.val) = ∑ i ∈ Finset.range n, f i :=
  Fin.sum_univ_eq_sum_range f n

/-- A sum over `Fin (a + b)` in its two parts. -/
theorem sum_range_split (a b : ℕ) (f : ℕ → ℝ) :
    (∑ i ∈ Finset.range (a + b), f i) = (∑ i ∈ Finset.range a, f i) + ∑ i ∈ Finset.range b, f (a + i) :=
  Finset.sum_range_add f a b

end Cert.RealKit
-- ==== Proof.Words.lean ====
module

public import proofs.«01_k».proof.Proof.Gen.KernelIdeal.Frame
public import Idealize.ShloMosaic.Lib.Pipeline.ValueKit
public import Idealize.ShloMosaic.Lib.Pointwise
public import proofs.«01_k».proof.Proof.RealKit
public import Idealize.ShloMosaic.Lib.WordCmp

@[expose] public section

set_option maxRecDepth 16384

noncomputable section
open Idealize.ShloMosaic Idealize.ShloMosaic.TcCoe Idealize.SL.Sem
open Idealize.ShloMosaic.Pipeline (Dat)
namespace Cert.KernelIdeal.Value
open Cert.KernelIdeal Cert.KernelIdeal.Gen
open Cert.RealKit Idealize.ShloMosaic.WordCmp

theorem sel_ite {α : Type} (p : Prop) [Decidable p] (x y : α) :
    Scalar.select (if p then 1#1 else 0#1) x y = if p then x else y := by split <;> rfl

/-- The lanes of the first half-head, and of the second. -/
def lo (d : ℕ) : ℝ := if d < 64 then 1 else 0
def hi (d : ℕ) : ℝ := if 64 ≤ d then 1 else 0

theorem word_lo : ∀ d : Fin 128, IntOp.cmpi .slt (BitVec.ofNat 32 d.val) 64#32 = if d.val < 64 then 1#1 else 0#1 := by
  decide +kernel
theorem word_hi : ∀ d : Fin 128, IntOp.cmpi .sge (BitVec.ofNat 32 d.val) 64#32 = if 64 ≤ d.val then 1#1 else 0#1 := by
  decide +kernel

theorem div128 : ∀ x : Fin 256,
  (Scalar.select
            (IntOp.andi
              (IntOp.cmpi CmpIPredicate.ne
                (IntOp.subi (BitVec.setWidth 32 (IntOp.cmpi CmpIPredicate.sgt (BitVec.ofNat 32 x.val) 0#32))
                  (BitVec.setWidth 32 (IntOp.cmpi CmpIPredicate.slt (BitVec.ofNat 32 x.val) 0#32)))
                (Scalar.subi (Scalar.extui (Scalar.cmpi CmpIPredicate.sgt 128#32 0#32))
                  (Scalar.extui (Scalar.cmpi CmpIPredicate.slt 128#32 0#32))))
              (IntOp.cmpi CmpIPredicate.ne (IntOp.remsi ArithUnit.vector (BitVec.ofNat 32 x.val) 128#32) 0#32))
            (IntOp.subi (IntOp.divsi ArithUnit.vector (BitVec.ofNat 32 x.val) 128#32) 1#32)
            (IntOp.divsi ArithUnit.vector (BitVec.ofNat 32 x.val) 128#32)) = BitVec.ofNat 32 (x.val / 128) := by
  decide +kernel

theorem and_ite (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

theorem ofBool_ite (p : Prop) [Decidable p] : BitVec.ofBool (decide p) = if p then 1#1 else 0#1 := by
  by_cases h : p <;> simp [h]

theorem sge_ofNat (x y : ℕ) (hx : x < 65536) (hy : y < 65536) :
    IntOp.cmpi .sge (BitVec.ofNat 32 x) (BitVec.ofNat 32 y) = if y ≤ x then 1#1 else 0#1 := by
  rw [cmpi_sge_ofNat (by omega) (by omega), ofBool_ite]
theorem sle_ofNat (x y : ℕ) (hx : x < 65536) (hy : y < 65536) :
    IntOp.cmpi .sle (BitVec.ofNat 32 x) (BitVec.ofNat 32 y) = if x ≤ y then 1#1 else 0#1 := by
  rw [cmpi_sle_ofNat (by omega) (by omega), ofBool_ite]
theorem slt_ofNat (x y : ℕ) (hx : x < 65536) (hy : y < 65536) :
    IntOp.cmpi .slt (BitVec.ofNat 32 x) (BitVec.ofNat 32 y) = if x < y then 1#1 else 0#1 := by
  rw [cmpi_slt_ofNat (by omega) (by omega), ofBool_ite]
theorem eq_ofNat (x y : ℕ) (hx : x < 65536) (hy : y < 65536) :
    IntOp.cmpi .eq (BitVec.ofNat 32 x) (BitVec.ofNat 32 y) = if x = y then 1#1 else 0#1 := by
  rw [cmpi_eq_eq_toNat, ofBool_ite]
  simp only [BitVec.toNat_ofNat]
  congr 1
  apply propext
  omega
theorem addi_ofNat (x y : ℕ) : IntOp.addi (BitVec.ofNat 32 x) (BitVec.ofNat 32 y) = BitVec.ofNat 32 (x + y) := by
  unfold IntOp.addi; rw [BitVec.ofNat_add]

/-! The literals. -/

theorem bits_64th : Ideal.ofBits .f32 1015021568#32 = (((1 : ℝ) / 64 : ℝ) : EReal) := by
  simp [Ideal.ofBits, Ideal.ieee]
  norm_num [← EReal.coe_mul, ← EReal.coe_div]

/-- The kernel's and the reference's ε, the f32 nearest to 1e-6. -/
def eps : ℝ := 8796093 / 2 ^ 43

theorem eps_pos : 0 < eps := by unfold eps; norm_num

theorem bits_eps : Ideal.ofBits .f32 897988541#32 = ((eps : ℝ) : EReal) := by
  unfold eps
  simp [Ideal.ofBits, Ideal.ieee]
  norm_num [← EReal.coe_mul, ← EReal.coe_div]

end Cert.KernelIdeal.Value
-- ==== Proof.Norm.lean ====
module

public import proofs.«01_k».proof.Proof.Gen.KernelIdeal.Frame
public import Idealize.ShloMosaic.Lib.Pipeline.ValueKit
public import Idealize.ShloMosaic.Lib.Pointwise
public import proofs.«01_k».proof.Proof.Words

@[expose] public section

set_option maxRecDepth 16384

noncomputable section
open Idealize.ShloMosaic Idealize.ShloMosaic.TcCoe Idealize.SL.Sem
open Idealize.ShloMosaic.Pipeline (Dat)
namespace Cert.KernelIdeal.Value
open Cert.KernelIdeal Cert.KernelIdeal.Gen
variable (V : (c : Dev nD) → (b : Ref sig .tc) → Buf (Elt Ideal) ((c : Thread nD τ).loc b))
open Cert.RealKit Finset
/-! The root-mean-square norm of a row, as the kernels compute it. -/

/-- The norm of a row of `n` columns, times a gain. -/
def nrm (n : ℕ) (v g : ℕ → ℝ) (d : ℕ) : ℝ := v d * (√((∑ x ∈ range n, v x * v x) / n + eps))⁻¹ * g d

theorem bits_1024 : Ideal.ofBits .f32 1149239296#32 = (((1024 : ℝ) : ℝ) : EReal) := by
  simp [Ideal.ofBits, Ideal.ieee]
  norm_num [← EReal.coe_mul, ← EReal.coe_div]

theorem nrm_pos (n : ℕ) (v : ℕ → ℝ) : 0 < (∑ x ∈ range n, v x * v x) / n + eps :=
  add_pos_of_nonneg_of_pos (div_nonneg (sum_nonneg fun x _ => mul_self_nonneg _) (Nat.cast_nonneg n)) eps_pos

/-- The norm of a row of 1024 real entries. -/
theorem nrm_real (v : Fin 1024 → EReal) (A : ℕ → ℝ) (h : ∀ e, v e = ((A e.val : ℝ) : EReal)) (g : EReal) (G : ℕ → ℝ) (e : Fin 1024) (hg : g = ((G e.val : ℝ) : EReal)) :
    v e * Ideal.rsqrt (Ideal.div (∑ x : Fin 1024, v x * v x) (Ideal.ofBits .f32 1149239296#32) + Ideal.ofBits .f32 897988541#32) * g = ((nrm 1024 A G e.val : ℝ) : EReal) := by
  simp only [h, hg, ← EReal.coe_mul, coe_fsum]
  rw [bits_1024, bits_eps, div_real (by norm_num), ← EReal.coe_add, sum_fin 1024 (fun x => A x * A x)]
  have hp := nrm_pos 1024 A
  push_cast at hp
  rw [rsqrt_real hp, ← EReal.coe_mul, ← EReal.coe_mul]
  unfold nrm
  push_cast
  rfl
end Cert.KernelIdeal.Value
-- ==== Proof.Region0.lean ====
module

public import proofs.«01_k».proof.Proof.Gen.KernelIdeal.Frame
public import Idealize.ShloMosaic.Lib.Pipeline.ValueKit
public import Idealize.ShloMosaic.Lib.Pointwise
public import proofs.«01_k».proof.Proof.Norm

@[expose] public section

set_option maxRecDepth 16384

noncomputable section
open Idealize.ShloMosaic Idealize.ShloMosaic.TcCoe Idealize.SL.Sem
open Idealize.ShloMosaic.Pipeline (Dat)
namespace Cert.KernelIdeal.Value
open Cert.KernelIdeal Cert.KernelIdeal.Gen
variable (V : (c : Dev nD) → (b : Ref sig .tc) → Buf (Elt Ideal) ((c : Thread nD τ).loc b))
open Cert.RealKit Finset
/-! The norm and projection region: its result as a real function of its entry arrays. -/

/-- A row of the scaled projection. -/
def rqkv (x g : ℕ → ℝ) (w : ℕ → ℕ → ℝ) (cs : ℕ → ℝ) (e : ℕ) : ℝ := (∑ k ∈ range 1024, nrm 1024 x g k * w k e) * cs e

theorem k0n_real (r : Fin 512) (v0 v12) (x g : ℕ → ℝ) (h0 : ∀ e : Fin 1024, v0 (ix2 r e) = ((x e.val : ℝ) : EReal))
    (h1 : ∀ e : Fin 1024, v12 (ix2 0 e) = ((g e.val : ℝ) : EReal)) (e : Fin 1024) :
    k0_pay2 (F := Ideal) v0 v12 (ix2 r e) = ((nrm 1024 x g e.val : ℝ) : EReal) := by
  pointwise [k0_pay2]
  exact nrm_real (fun e => v0 (ix2 r e)) x h0 _ g e (h1 e)

/-- A piece's contraction, over the reals. -/
theorem k0m_real (n w : Fin 1024 → EReal) (cs : EReal) (x g : ℕ → ℝ) (W : ℕ → ℕ → ℝ) (CS : ℕ → ℝ) (e : ℕ) (hn : ∀ k, n k = ((nrm 1024 x g k.val : ℝ) : EReal))
    (hw : ∀ k, w k = ((W k.val e : ℝ) : EReal)) (hc : cs = ((CS e : ℝ) : EReal)) :
    (∑ k, n k * w k) * cs = ((rqkv x g W CS e : ℝ) : EReal) := by
  simp only [hn, hw, hc, ← EReal.coe_mul, coe_fsum]
  rw [sum_fin 1024 (fun k => nrm 1024 x g k * W k e)]
  rfl

set_option maxHeartbeats 2000000 in
theorem out0_real (B0 : Vec Ideal S512x1024 .f32) (B1 : Vec Ideal S1x1024 .f32) (B2 : Vec Ideal S1024x3072 .bf16) (B3 : Vec Ideal S1x3072 .f32)
    (x g CS : ℕ → ℝ) (W : ℕ → ℕ → ℝ) (r : Fin 512)
    (b0 : ∀ e : Fin 1024, B0 (ix2 r e) = ((x e.val : ℝ) : EReal)) (b1 : ∀ e : Fin 1024, B1 (ix2 0 e) = ((g e.val : ℝ) : EReal))
    (b2 : ∀ (k : Fin 1024) (e : Fin 3072), B2 (ix2 k e) = ((W k.val e.val : ℝ) : EReal)) (b3 : ∀ e : Fin 3072, B3 (ix2 0 e) = ((CS e.val : ℝ) : EReal)) (e : Fin 3072) :
    out0_4 (F := Ideal) B0 B1 B2 B3 (ix2 r e) = ((rqkv x g W CS e.val : ℝ) : EReal) := by
  have key := k0n_real r B0 B1 x g b0 b1
  unfold_out out0_4
  simp (disch := decide) only [View.ld_unit_lit' (S := S512x1024), View.ld_unit_lit' (S := S1x1024)]
  canon_tiles z h
  case piece0 =>
    obtain ⟨e', rfl⟩ : ∃ e' : Fin 512, z = ix2 r e' := ⟨z 1, by funext a; fin_cases a; exacts [Fin.ext h0.symm, rfl]⟩
    have he : e.val = 2560 + e'.val := h1
    rw [he]
    pointwise [k0_pay1, k0_pay8, k0_pay9]
    refine k0m_real (fun k => k0_pay2 (F := Ideal) B0 B1 (ix2 r k)) _ _ x g W CS (2560 + e'.val) key (fun k => b2 k ⟨2560 + e'.val, by omega⟩) (b3 ⟨2560 + e'.val, by omega⟩)
  case piece1 =>
    obtain ⟨e', rfl⟩ : ∃ e' : Fin 512, z = ix2 r e' := ⟨z 1, by funext a; fin_cases a; exacts [Fin.ext h0.symm, rfl]⟩
    have he : e.val = 2048 + e'.val := h1
    rw [he]
    pointwise [k0_pay7]
    refine k0m_real (fun k => k0_pay2 (F := Ideal) B0 B1 (ix2 r k)) _ _ x g W CS (2048 + e'.val) key (fun k => b2 k ⟨2048 + e'.val, by omega⟩) (b3 ⟨2048 + e'.val, by omega⟩)
  case piece2 =>
    obtain ⟨e', rfl⟩ : ∃ e' : Fin 512, z = ix2 r e' := ⟨z 1, by funext a; fin_cases a; exacts [Fin.ext h0.symm, rfl]⟩
    have he : e.val = 1536 + e'.val := h1
    rw [he]
    pointwise [k0_pay6]
    refine k0m_real (fun k => k0_pay2 (F := Ideal) B0 B1 (ix2 r k)) _ _ x g W CS (1536 + e'.val) key (fun k => b2 k ⟨1536 + e'.val, by omega⟩) (b3 ⟨1536 + e'.val, by omega⟩)
  case piece3 =>
    obtain ⟨e', rfl⟩ : ∃ e' : Fin 512, z = ix2 r e' := ⟨z 1, by funext a; fin_cases a; exacts [Fin.ext h0.symm, rfl]⟩
    have he : e.val = 1024 + e'.val := h1
    rw [he]
    pointwise [k0_pay5]
    refine k0m_real (fun k => k0_pay2 (F := Ideal) B0 B1 (ix2 r k)) _ _ x g W CS (1024 + e'.val) key (fun k => b2 k ⟨1024 + e'.val, by omega⟩) (b3 ⟨1024 + e'.val, by omega⟩)
  case piece4 =>
    obtain ⟨e', rfl⟩ : ∃ e' : Fin 512, z = ix2 r e' := ⟨z 1, by funext a; fin_cases a; exacts [Fin.ext h0.symm, rfl]⟩
    have he : e.val = 512 + e'.val := h1
    rw [he]
    pointwise [k0_pay4]
    refine k0m_real (fun k => k0_pay2 (F := Ideal) B0 B1 (ix2 r k)) _ _ x g W CS (512 + e'.val) key (fun k => b2 k ⟨512 + e'.val, by omega⟩) (b3 ⟨512 + e'.val, by omega⟩)
  case piece5 =>
    obtain ⟨e', rfl⟩ : ∃ e' : Fin 512, z = ix2 r e' := ⟨z 1, by funext a; fin_cases a; exacts [Fin.ext h0.symm, rfl]⟩
    have he : e.val = e'.val := h1
    rw [he]
    pointwise [k0_pay3]
    refine k0m_real (fun k => k0_pay2 (F := Ideal) B0 B1 (ix2 r k)) _ _ x g W CS (e'.val) key (fun k => b2 k ⟨e'.val, by omega⟩) (b3 ⟨e'.val, by omega⟩)

theorem idx0 : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

section Out
variable (c : Dev nD) (X W : ℕ → ℕ → ℝ) (G CS : ℕ → ℝ)
  (hX : ∀ (i : Fin 16384) (e : Fin 1024), (V c main_v0 : Vec Ideal S16384x1024 .f32) (ix2 i e) = ((X i.val e.val : ℝ) : EReal))
  (hG : ∀ (e : Fin 1024), (V c main_v10 : Vec Ideal S1x1024 .f32) (ix2 0 e) = ((G e.val : ℝ) : EReal))
  (hW : ∀ (i : Fin 1024) (e : Fin 3072), (V c main_v12 : Vec Ideal S1024x3072 .bf16) (ix2 i e) = ((W i.val e.val : ℝ) : EReal))
  (hCS : ∀ (e : Fin 3072), (V c main_v6 : Vec Ideal S1x3072 .f32) (ix2 0 e) = ((CS e.val : ℝ) : EReal))
include hX in
theorem qx_blk (t : Fin cfg0.N) (r : Fin 512) (e : Fin 1024) : iblk0 V c 0 t (ix2 r e) = ((X (512 * t.val + r.val) e.val : ℝ) : EReal) := by
  have h0 : t.val < 32 := lt_of_lt_of_eq t.isLt N_0
  rw [← hX ⟨512 * t.val + r.val, by omega⟩ e]
  blk_ext [iblk0, idx0 t]
include hG in
theorem qg_blk (t : Fin cfg0.N) (e : Fin 1024) : iblk0 V c 1 t (ix2 0 e) = ((G e.val : ℝ) : EReal) := by
  rw [← hG e]
  blk_ext [iblk0, idx0 t]
include hW in
theorem qw_blk (t : Fin cfg0.N) (k : Fin 1024) (e : Fin 3072) : iblk0 V c 2 t (ix2 k e) = ((W k.val e.val : ℝ) : EReal) := by
  rw [← hW k e]
  blk_ext [iblk0, idx0 t]
include hCS in
theorem qc_blk (t : Fin cfg0.N) (e : Fin 3072) : iblk0 V c 3 t (ix2 0 e) = ((CS e.val : ℝ) : EReal) := by
  rw [← hCS e]
  blk_ext [iblk0, idx0 t]

include hX hG hW hCS in
/-- The region's array at the end, over the reals. -/
theorem region0 : (dat0 V c).arrAt 4 cfg0.N = (fun j => ((rqkv (X (j 0).val) G W CS (j 1).val : ℝ) : EReal) : Vec Ideal S16384x3072 .bf16) := by
  refine (dat0 V c).arrAt_eq_of_covers 4 _ (by decide +kernel) fun t hf y => ?_
  obtain ⟨r, e, rfl⟩ : ∃ (r : Fin 512) (e : Fin 3072), y = ix2 r e := ⟨y 0, y 1, by funext a; fin_cases a <;> rfl⟩
  blk_simp [idx0 t]
  rw [after0_4]
  have hA : ∀ j i : ℕ, i = 512 * t.val + r.val → j = e.val →
      rqkv (X (512 * t.val + r.val)) G W CS e.val = rqkv (X i) G W CS j := by
    rintro j i rfl rfl; rfl
  refine Eq.trans (out0_real _ _ _ _ _ G CS W r (qx_blk V c X hX t r) (qg_blk V c G hG t) (qw_blk V c W hW t) (qc_blk V c CS hCS t) e) (congrArg (fun x : ℝ => (x : EReal)) (hA _ _ ?_ ?_))
  · omega
  · simp
end Out
end Cert.KernelIdeal.Value
-- ==== Proof.DaMath.lean ====
module

public import proofs.«01_k».proof.Proof.RealKit

@[expose] public section

noncomputable section
open Idealize.ShloMosaic Finset

/-! A base-2 softmax kept as a running maximum, a running sum of weights and a running weighted sum:
one block of 128 keys at a time. -/

namespace Cert.DaMath
open Cert.RealKit

variable (y : ℕ → ℝ) (vis : ℕ → Prop) [DecidablePred vis] (V : ℕ → ℕ → ℝ)

/-- The weight of key `k` relative to the level `M`: zero where the key isn't visible. -/
def ow (M : ℝ) (k : ℕ) : ℝ := if vis k then (2 : ℝ) ^ (y k - M) else 0

/-- The running state over the keys `K`: the weights and the weighted values are summed relative to a level that
the maximum holds. -/
def OsInv (K : Finset ℕ) (m l : EReal) (acc : Fin 128 → EReal) : Prop :=
  ∃ M : ℝ, m = (M : EReal) ∧ l = ((∑ k ∈ K, ow y vis M k : ℝ) : EReal) ∧ ∀ e, acc e = ((∑ k ∈ K, ow y vis M k * V k e.val : ℝ) : EReal)

theorem ow_shift (M M' : ℝ) (k : ℕ) : (2 : ℝ) ^ (M - M') * ow y vis M k = ow y vis M' k := by
  unfold ow
  split
  · rw [← Real.rpow_add (by norm_num)]; congr 1; ring
  · rw [mul_zero]

theorem exp2_bot : Ideal.exp2 (⊥ : EReal) = 0 := rfl

/-- The maximum of a row of reals and bottoms is one of them. -/
theorem fold_max_cases (s : Finset (Fin 128)) (u : Fin 128 → EReal) (f : Fin 128 → ℝ) (P : Fin 128 → Prop) [DecidablePred P]
    (hu : ∀ x, u x = if P x then ((f x : ℝ) : EReal) else ⊥) :
    (s.fold max ⊥ u = ⊥ ∧ ∀ x ∈ s, ¬ P x) ∨ ∃ R : ℝ, s.fold max ⊥ u = (R : EReal) := by
  induction s using Finset.induction_on with
  | empty => left; simp
  | insert a s ha ih =>
    rw [fold_insert ha, hu a]
    by_cases hp : P a
    · right
      rw [if_pos hp]
      rcases ih with ⟨h, -⟩ | ⟨R, h⟩
      · exact ⟨f a, by rw [h, max_eq_left bot_le]⟩
      · exact ⟨max (f a) R, by rw [h, coe_max]⟩
    · rw [if_neg hp, max_eq_right bot_le]
      rcases ih with ⟨h, h'⟩ | h
      · left
        refine ⟨h, fun x hx => ?_⟩
        rcases mem_insert.mp hx with rfl | hx
        · exact hp
        · exact h' x hx
      · exact Or.inr h

section Step
variable {y vis V}
variable {n : ℕ} {σ : ℝ} {u p : Fin 128 → EReal} {v : Fin 128 → Fin 128 → EReal} {m m' a l l' : EReal} {acc acc' : Fin 128 → EReal} {K K' : Finset ℕ}

theorem p_real {M' : ℝ} (hu : ∀ x : Fin 128, u x = if vis (n + x.val) then ((y (n + x.val) - σ : ℝ) : EReal) else ⊥)
    (hm : m' = (M' : EReal)) (hp : ∀ x, p x = Ideal.exp2 (u x - (m' - (σ : EReal)))) (x : Fin 128) :
    p x = ((ow y vis M' (n + x.val) : ℝ) : EReal) := by
  rw [hp, hu, hm, ← EReal.coe_sub]
  unfold ow
  split
  · rw [← EReal.coe_sub, exp2_real]; congr 2; ring
  · rw [EReal.bot_sub, exp2_bot, EReal.coe_zero]

theorem sum_p {M' : ℝ} (hp : ∀ x : Fin 128, p x = ((ow y vis M' (n + x.val) : ℝ) : EReal)) :
    ∑ x, p x = ((∑ x : Fin 128, ow y vis M' (n + x.val) : ℝ) : EReal) := by
  rw [← coe_fsum]; exact sum_congr rfl fun x _ => hp x

theorem sum_pv {M' : ℝ} (hp : ∀ x : Fin 128, p x = ((ow y vis M' (n + x.val) : ℝ) : EReal)) (hv : ∀ x e, v x e = ((V (n + x.val) e.val : ℝ) : EReal)) (e : Fin 128) :
    ∑ x, p x * v x e = ((∑ x : Fin 128, ow y vis M' (n + x.val) * V (n + x.val) e.val : ℝ) : EReal) := by
  rw [← coe_fsum]; exact sum_congr rfl fun x _ => by rw [hp, hv, EReal.coe_mul]

/-- A further block. -/
theorem os_step (hI : OsInv y vis V K m l acc)
    (hu : ∀ x : Fin 128, u x = if vis (n + x.val) then ((y (n + x.val) - σ : ℝ) : EReal) else ⊥)
    (hm : m' = max m ((univ : Finset (Fin 128)).fold max ⊥ u + (σ : EReal)))
    (hp : ∀ x, p x = Ideal.exp2 (u x - (m' - (σ : EReal)))) (ha : a = Ideal.exp2 (m - m')) (hl : l' = a * l + ∑ x, p x)
    (hv : ∀ x e, v x e = ((V (n + x.val) e.val : ℝ) : EReal)) (hacc : ∀ e, acc' e = acc e * a + ∑ x, p x * v x e)
    (hK : ∀ f : ℕ → ℝ, ∑ k ∈ K', f k = ∑ k ∈ K, f k + ∑ x : Fin 128, f (n + x.val)) :
    OsInv y vis V K' m' l' acc' := by
  obtain ⟨M, hM, hL, hA⟩ := hI
  obtain ⟨M', hM'⟩ : ∃ M' : ℝ, m' = (M' : EReal) := by
    rcases fold_max_cases univ u _ _ hu with ⟨h, -⟩ | ⟨R, h⟩
    · exact ⟨M, by rw [hm, h, hM, EReal.bot_add, max_eq_left bot_le]⟩
    · exact ⟨max M (R + σ), by rw [hm, h, hM, ← EReal.coe_add, coe_max]⟩
  have hp' := p_real hu hM' hp
  have ha' : a = (((2 : ℝ) ^ (M - M') : ℝ) : EReal) := by rw [ha, hM, hM', ← EReal.coe_sub, exp2_real]
  refine ⟨M', hM', ?_, fun e => ?_⟩
  · rw [hl, ha', hL, sum_p hp', ← EReal.coe_mul, ← EReal.coe_add, hK, mul_sum]
    simp only [ow_shift]
  · rw [hacc, ha', hA, sum_pv hp' hv, ← EReal.coe_mul, ← EReal.coe_add, hK, mul_comm, mul_sum]
    simp only [← mul_assoc, ow_shift]

/-- The first block, in which some key is visible. -/
theorem os_first (hm0 : m = ⊥) (hl0 : l = 0) (ha0 : ∀ e, acc e = 0)
    (hu : ∀ x : Fin 128, u x = if vis (n + x.val) then ((y (n + x.val) - σ : ℝ) : EReal) else ⊥) (hx : ∃ x : Fin 128, vis (n + x.val))
    (hm : m' = max m ((univ : Finset (Fin 128)).fold max ⊥ u + (σ : EReal)))
    (hp : ∀ x, p x = Ideal.exp2 (u x - (m' - (σ : EReal)))) (ha : a = Ideal.exp2 (m - m')) (hl : l' = a * l + ∑ x, p x)
    (hv : ∀ x e, v x e = ((V (n + x.val) e.val : ℝ) : EReal)) (hacc : ∀ e, acc' e = acc e * a + ∑ x, p x * v x e)
    (hK : ∀ f : ℕ → ℝ, ∑ k ∈ K', f k = ∑ x : Fin 128, f (n + x.val)) :
    OsInv y vis V K' m' l' acc' := by
  obtain ⟨M', hM'⟩ : ∃ M' : ℝ, m' = (M' : EReal) := by
    rcases fold_max_cases univ u _ _ hu with ⟨-, h⟩ | ⟨R, h⟩
    · obtain ⟨x, hx⟩ := hx
      exact absurd hx (h x (mem_univ x))
    · exact ⟨R + σ, by rw [hm, h, hm0, ← EReal.coe_add, max_eq_right bot_le]⟩
  have hp' := p_real hu hM' hp
  refine ⟨M', hM', ?_, fun e => ?_⟩
  · rw [hl, hl0, mul_zero, zero_add, sum_p hp', hK]
  · rw [hacc, ha0, zero_mul, zero_add, sum_pv hp' hv, hK]

end Step

/-- The weighted mean over the first `N` keys. -/
def osm (N : ℕ) (e : ℕ) : ℝ := (∑ k ∈ range N, ow y vis 0 k * V k e) / ∑ k ∈ range N, ow y vis 0 k

variable {y vis V}

theorem ow_nonneg (M : ℝ) (k : ℕ) : 0 ≤ ow y vis M k := by
  unfold ow; split
  · exact (Real.rpow_pos_of_pos (by norm_num) _).le
  · exact le_rfl

theorem ow_sum_pos (M : ℝ) (N k : ℕ) (hk : k < N) (h : vis k) : 0 < ∑ k ∈ range N, ow y vis M k :=
  sum_pos' (fun _ _ => ow_nonneg _ _) ⟨k, mem_range.mpr hk, by unfold ow; rw [if_pos h]; exact Real.rpow_pos_of_pos (by norm_num) _⟩

/-- The end of the pass: the weighted sum over the sum of weights. -/
theorem os_end {N : ℕ} {m l : EReal} {acc : Fin 128 → EReal} (hI : OsInv y vis V (range N) m l acc) (k : ℕ) (hk : k < N) (h : vis k) (e : Fin 128) :
    Ideal.div (acc e) l = ((osm y vis V N e.val : ℝ) : EReal) := by
  obtain ⟨M, -, hL, hA⟩ := hI
  have hpos := ow_sum_pos (y := y) M N k hk h
  rw [hL, hA, div_real hpos.ne']
  congr 1
  unfold osm
  have h0 : ∀ k, ow y vis M k = (2 : ℝ) ^ (0 - M) * ow y vis 0 k := fun k => (ow_shift y vis 0 M k).symm
  simp only [h0, mul_assoc]
  rw [← mul_sum, ← mul_sum, mul_div_mul_left _ _ (Real.rpow_pos_of_pos (by norm_num) _).ne']

/-- Keys beyond the last visible one add nothing. -/
theorem osm_extend (N N' : ℕ) (hN : N ≤ N') (h : ∀ k, N ≤ k → ¬ vis k) (e : ℕ) : osm y vis V N e = osm y vis V N' e := by
  unfold osm
  have hz : ∀ k, N ≤ k → ow y vis 0 k = 0 := fun k hk => by unfold ow; rw [if_neg (h k hk)]
  obtain ⟨d, rfl⟩ := Nat.exists_eq_add_of_le hN
  rw [sum_range_split N d, sum_range_split N d, sum_eq_zero (s := range d) (f := fun i => ow y vis 0 (N + i)) (fun i _ => hz _ (by omega)),
    sum_eq_zero (s := range d) (f := fun i => ow y vis 0 (N + i) * V (N + i) e) (fun i _ => by rw [hz _ (by omega), zero_mul]), add_zero, add_zero]

end Cert.DaMath
-- ==== Proof.SbMath.lean ====
module

public import proofs.«01_k».proof.Proof.RealKit

@[expose] public section

noncomputable section

/-! Stick-breaking weights over the reals, in base 2, visited block by block from the right. -/

namespace Cert.SbMath
open Finset

/-- `log2 (1 + 2^x)`, written as the kernel computes it. -/
def sp2 (x : ℝ) : ℝ := max x 0 + Real.log (1 + (2 : ℝ) ^ (0 - |x|)) * (Real.log 2)⁻¹

/-- The softplus of key `s`'s score, zero where the row `ρ` doesn't see the key. -/
def spm (z : ℕ → ℝ) (ρ s : ℕ) : ℝ := if s < ρ then sp2 (z s) else 0

/-- The sum of the softpluses of the keys from `n` up to `T`. -/
def suf (z : ℕ → ℝ) (ρ T n : ℕ) : ℝ := ∑ s ∈ Ico n T, spm z ρ s

/-- The weight of key `s`. -/
def wt (z : ℕ → ℝ) (ρ T s : ℕ) : ℝ := if s < ρ then (2 : ℝ) ^ (z s - suf z ρ T s) else 0

/-- A block's 256 columns: the first half-head's 128 keys, then the second's. -/
def col (f g : ℕ → ℝ) (n y : ℕ) : ℝ := if y < 128 then f (n + y) else g (n + (y - 128))

/-- The block-diagonal lower triangle. -/
def ub (y x : ℕ) : ℝ := if x ≤ y ∧ y / 128 = x / 128 then 1 else 0

theorem sum_ico (f : ℕ → ℝ) (n : ℕ) (x : ℕ) (hx : x < 128) :
    (∑ y ∈ range 128, f (n + y) * (if x ≤ y then 1 else 0)) = ∑ s ∈ Ico (n + x) (n + 128), f s := by
  have h1 : ∀ y ∈ range 128, f (n + y) * (if x ≤ y then (1 : ℝ) else 0) = if x ≤ y then f (n + y) else 0 := by
    intro y _; split <;> simp
  rw [sum_congr rfl h1, ← sum_filter]
  have h2 : (range 128).filter (fun y => x ≤ y) = Ico x 128 := by ext a; simp; omega
  rw [h2, sum_Ico_add f x 128 n |>.symm.symm]
  rw [add_comm x n, add_comm 128 n]

theorem sum_ub_lo (f g : ℕ → ℝ) (n x : ℕ) (hx : x < 128) :
    (∑ y : Fin 256, col f g n y.val * ub y.val x) = ∑ s ∈ Ico (n + x) (n + 128), f s := by
  rw [RealKit.sum_fin 256 (fun y => col f g n y * ub y x), RealKit.sum_range_split 128 128, ← sum_ico f n x hx]
  have h0 : ∑ i ∈ range 128, col f g n (128 + i) * ub (128 + i) x = 0 := by
    refine sum_eq_zero fun i hi => ?_
    have := mem_range.mp hi
    have : ub (128 + i) x = 0 := by unfold ub; rw [if_neg (by omega)]
    rw [this, mul_zero]
  rw [h0, add_zero]
  refine sum_congr rfl fun y hy => ?_
  have := mem_range.mp hy
  have h1 : col f g n y = f (n + y) := by unfold col; rw [if_pos (by omega)]
  have h2 : ub y x = if x ≤ y then 1 else 0 := by unfold ub; congr 1; apply propext; omega
  rw [h1, h2]

theorem sum_ub_hi (f g : ℕ → ℝ) (n x : ℕ) (hx : x < 128) :
    (∑ y : Fin 256, col f g n y.val * ub y.val (128 + x)) = ∑ s ∈ Ico (n + x) (n + 128), g s := by
  rw [RealKit.sum_fin 256 (fun y => col f g n y * ub y (128 + x)), RealKit.sum_range_split 128 128, ← sum_ico g n x hx]
  have h0 : ∑ i ∈ range 128, col f g n i * ub i (128 + x) = 0 := by
    refine sum_eq_zero fun i hi => ?_
    have := mem_range.mp hi
    have : ub i (128 + x) = 0 := by unfold ub; rw [if_neg (by omega)]
    rw [this, mul_zero]
  rw [h0, zero_add]
  refine sum_congr rfl fun y hy => ?_
  have := mem_range.mp hy
  have h1 : col f g n (128 + y) = g (n + y) := by
    unfold col; rw [if_neg (by omega), show 128 + y - 128 = y by omega]
  have h2 : ub (128 + y) (128 + x) = if x ≤ y then 1 else 0 := by unfold ub; congr 1; apply propext; omega
  rw [h1, h2]

theorem suf_split (z : ℕ → ℝ) (ρ T n x : ℕ) (hx : x ≤ 128) (h : n + 128 ≤ T) :
    (∑ s ∈ Ico (n + x) (n + 128), spm z ρ s) + suf z ρ T (n + 128) = suf z ρ T (n + x) :=
  sum_Ico_consecutive _ (by omega) h

theorem suf_step (z : ℕ → ℝ) (ρ T n : ℕ) (h : n + 128 ≤ T) :
    suf z ρ T (n + 128) + (∑ x : Fin 128, spm z ρ (n + x.val)) = suf z ρ T n := by
  rw [RealKit.sum_fin 128 (fun x => spm z ρ (n + x)), add_comm]
  have := suf_split z ρ T n 0 (by omega) h
  rw [add_zero] at this
  have h3 := sum_ico (spm z ρ) n 0 (by omega)
  rw [add_zero] at h3
  rw [← this, ← h3]
  simp

/-- A block's weights, as the kernel computes them from the block's own triangle and the carried sum. -/
theorem wt_eq (z : ℕ → ℝ) (ρ T n x : ℕ) (hx : x ≤ 128) (h : n + 128 ≤ T) :
    (if n + x < ρ then (2 : ℝ) ^ (z (n + x) - (∑ s ∈ Ico (n + x) (n + 128), spm z ρ s) - suf z ρ T (n + 128)) else 0)
      = wt z ρ T (n + x) := by
  unfold wt
  rw [sub_sub, suf_split z ρ T n x hx h]

/-- The weighted sum of the keys from `n` up to `T`. -/
def wsum (z : ℕ → ℝ) (ρ T : ℕ) (v : ℕ → ℝ) (n : ℕ) : ℝ := ∑ s ∈ Ico n T, wt z ρ T s * v s

theorem wsum_step (z : ℕ → ℝ) (ρ T : ℕ) (v : ℕ → ℝ) (n : ℕ) (h : n + 128 ≤ T) :
    wsum z ρ T v (n + 128) + (∑ x : Fin 128, wt z ρ T (n + x.val) * v (n + x.val)) = wsum z ρ T v n := by
  rw [RealKit.sum_fin 128 (fun x => wt z ρ T (n + x) * v (n + x)), add_comm]
  unfold wsum
  rw [← sum_Ico_consecutive _ (show n ≤ n + 128 by omega) h]
  congr 1
  have := sum_ico (fun s => wt z ρ T s * v s) n 0 (by omega)
  rw [add_zero] at this
  rw [← this]; simp

/-! The same weights in base e. -/

def softplus (x : ℝ) : ℝ := Real.log (1 + Real.exp x)

theorem softplus_eq (x : ℝ) : softplus x = max x 0 + Real.log (1 + Real.exp (-|x|)) := by
  unfold softplus
  rcases le_total 0 x with h | h
  · rw [max_eq_left h, abs_of_nonneg h]
    have : 1 + Real.exp x = Real.exp x * (1 + Real.exp (-x)) := by
      rw [mul_add, ← Real.exp_add]; simp [add_comm]
    rw [this, Real.log_mul (Real.exp_pos _).ne' (by positivity), Real.log_exp]
  · rw [max_eq_right h, abs_of_nonpos h]; simp

theorem two_rpow (x : ℝ) : (2 : ℝ) ^ ((Real.log 2)⁻¹ * x) = Real.exp x := by
  have h2 : Real.log 2 ≠ 0 := (Real.log_pos (by norm_num)).ne'
  rw [Real.rpow_def_of_pos (by norm_num), ← mul_assoc, mul_inv_cancel₀ h2, one_mul]

theorem sp2_eq (x : ℝ) : sp2 ((Real.log 2)⁻¹ * x) = (Real.log 2)⁻¹ * softplus x := by
  have hp : 0 < (Real.log 2)⁻¹ := inv_pos.mpr (Real.log_pos (by norm_num))
  unfold sp2
  rw [softplus_eq, abs_mul, abs_of_pos hp, zero_sub, ← mul_neg, two_rpow, mul_add]
  congr 1
  · rw [mul_max_of_nonneg _ _ hp.le, mul_zero]
  · ring

/-- The weight of key `s` in row `ρ`, in base e. -/
def wexp (z : ℕ → ℝ) (ρ s : ℕ) : ℝ :=
  if s < ρ then Real.exp (z s - ∑ j ∈ Ico s ρ, softplus (z j)) else 0

theorem wt_exp (z : ℕ → ℝ) (ρ T s : ℕ) (hT : ρ ≤ T) :
    wt (fun k => (Real.log 2)⁻¹ * z k) ρ T s = wexp z ρ s := by
  unfold wt wexp
  split
  · rename_i hs
    have : suf (fun k => (Real.log 2)⁻¹ * z k) ρ T s = (Real.log 2)⁻¹ * ∑ j ∈ Ico s ρ, softplus (z j) := by
      unfold suf
      rw [← sum_Ico_consecutive _ hs.le hT, mul_sum]
      have h0 : ∑ i ∈ Ico ρ T, spm (fun k => (Real.log 2)⁻¹ * z k) ρ i = 0 :=
        sum_eq_zero fun i hi => by unfold spm; rw [if_neg (by have := mem_Ico.mp hi; omega)]
      rw [h0, add_zero]
      refine sum_congr rfl fun j hj => ?_
      unfold spm
      rw [if_pos (mem_Ico.mp hj).2, sp2_eq]
    rw [this, ← mul_sub, two_rpow]
  · rfl

/-- The whole weighted sum of row `ρ`, in base e and over any range of keys that reaches the row. -/
theorem wsum_exp (z v : ℕ → ℝ) (ρ T N : ℕ) (hT : ρ ≤ T) (hN : ρ ≤ N) :
    wsum (fun k => (Real.log 2)⁻¹ * z k) ρ T v 0 = ∑ s ∈ range N, wexp z ρ s * v s := by
  unfold wsum
  have h : ∀ M, ρ ≤ M → ∑ s ∈ range M, wexp z ρ s * v s = ∑ s ∈ range ρ, wexp z ρ s * v s := by
    intro M hM
    obtain ⟨k, rfl⟩ := Nat.exists_eq_add_of_le hM
    rw [sum_range_add]
    refine add_eq_left.mpr (sum_eq_zero fun i _ => ?_)
    unfold wexp; rw [if_neg (by omega), zero_mul]
  rw [h N hN, ← h T hT, Finset.range_eq_Ico]
  exact sum_congr rfl fun s _ => by rw [wt_exp z ρ T s hT]

end Cert.SbMath
-- ==== Proof.Region2.lean ====
module

public import proofs.«01_k».proof.Proof.Gen.KernelIdeal.Frame
public import Idealize.ShloMosaic.Lib.Pipeline.ValueKit
public import Idealize.ShloMosaic.Lib.Pointwise
public import proofs.«01_k».proof.Proof.SbMath
public import proofs.«01_k».proof.Proof.Words

@[expose] public section

set_option maxRecDepth 16384

noncomputable section
open Idealize.ShloMosaic Idealize.ShloMosaic.TcCoe Idealize.SL.Sem
open Idealize.ShloMosaic.Pipeline (Dat)
namespace Cert.KernelIdeal.Value
open Cert.KernelIdeal Cert.KernelIdeal.Gen
variable (V : (c : Dev nD) → (b : Ref sig .tc) → Buf (Elt Ideal) ((c : Thread nD τ).loc b))
open Cert.RealKit Cert.SbMath

theorem sb_lo (a : Fin 1) (d : Fin 128) : k2_pay11 (F := Ideal) (ix2 a d) = ((lo d.val : ℝ) : EReal) := by
  pointwise [k2_pay11]
  rw [word_lo, sel_ite]; unfold lo; split <;> simp
theorem sb_hi (a : Fin 1) (d : Fin 128) : k2_pay12 (F := Ideal) (ix2 a d) = ((hi d.val : ℝ) : EReal) := by
  pointwise [k2_pay12]
  rw [word_hi, sel_ite]; unfold hi; split <;> simp

theorem rem128 : ∀ c : Fin 256, k2_pay13 (ix2 (0 : Fin 256) c) = BitVec.ofNat 32 (c.val % 128) := by
  decide +kernel

/-- The block-diagonal triangle the kernel multiplies by. -/
abbrev tri : FVec Ideal S256x256 .bf16 := k2_pay17 (F := Ideal)
  (k2_pay16 (iota Kind.tc S256x256 32 [0] iota_S256x256_d0_w32)
    (iota Kind.tc S256x256 32 [1] iota_S256x256_d1_w32) k2_pay14 (128#32) k2_pay15 0#32)

theorem tri_eq (a b : Fin 256) : tri (ix2 a b) = ((ub a.val b.val : ℝ) : EReal) := by
  pointwise [tri, k2_pay17, k2_pay16, k2_pay14, k2_pay15]
  rw [div128, div128, sge_ofNat _ _ (by omega) (by omega), eq_ofNat _ _ (by omega) (by omega), and_ite, sel_ite]
  unfold ub
  split <;> simp

/-- The two diagonal blocks' masks. -/
theorem mask1 (r c : Fin 256) : k2_pay21 (iota Kind.tc S256x256 32 [0] iota_S256x256_d0_w32) k2_pay13 (ix2 r c)
    = if c.val % 128 + 128 < r.val then 1#1 else 0#1 := by
  have h := rem128 c
  pointwise [k2_pay13] at h
  pointwise [k2_pay21, k2_pay13]
  rw [h, addi_ofNat, slt_ofNat _ _ (by omega) (by omega)]

theorem mask2 (r c : Fin 256) : k2_pay30 (iota Kind.tc S256x256 32 [0] iota_S256x256_d0_w32) k2_pay13 (ix2 r c)
    = if c.val % 128 < r.val then 1#1 else 0#1 := by
  have h := rem128 c
  pointwise [k2_pay13] at h
  pointwise [k2_pay30, k2_pay13]
  rw [h, slt_ofNat _ _ (by omega) (by omega)]

/-- The kernel's softplus in base 2. -/
theorem sp_real (z : ℝ) : max (z : EReal) 0 + Ideal.log (1 + FloatOps.exp2 (F := Ideal) (φ := .f32) (0 - FloatOps.absf (F := Ideal) (φ := .f32) (z : EReal))) * Named.named (F := Ideal) (φ := .f32) κ "log2e" 1069066811#32 = ((sp2 z : ℝ) : EReal) := by
  have hk : (Named.named (F := Ideal) (φ := .f32) κ "log2e" 1069066811#32 : EReal) = (((Real.log 2)⁻¹ : ℝ) : EReal) := by
    refine (IdealRules.named_const.ideal_named_scalar _ _ _ _ rfl).trans ?_
    norm_num
  rw [hk]
  have h1 : (FloatOps.exp2 (F := Ideal) (φ := .f32) (0 - FloatOps.absf (F := Ideal) (φ := .f32) (z : EReal)) : EReal) = (((2 : ℝ) ^ (0 - |z|) : ℝ) : EReal) := by
    have : (0 - FloatOps.absf (F := Ideal) (φ := .f32) (z : EReal) : EReal) = ((0 - |z| : ℝ) : EReal) := by
      rw [show (FloatOps.absf (F := Ideal) (φ := .f32) (z : EReal) : EReal) = ((|z| : ℝ) : EReal) from abs_real z, EReal.coe_sub, EReal.coe_zero]
    rw [this]; rfl
  have hp : (0 : ℝ) < 1 + (2 : ℝ) ^ (0 - |z|) := by positivity
  rw [h1, ← EReal.coe_one, ← EReal.coe_add, log_real hp, ← EReal.coe_mul, ← EReal.coe_zero, coe_max, ← EReal.coe_add]
  rfl

section Block
variable (r : Fin 256) (Q : ℕ → ℝ) (K : ℕ → ℕ → ℝ) (n : ℕ)

/-- A row's score on one half-head's key `s`. -/
def zsc (Q : ℕ → ℝ) (K : ℕ → ℕ → ℝ) (m : ℕ → ℝ) (s : ℕ) : ℝ := ∑ d : Fin 128, Q d.val * (K s d.val * m d.val)

/-- A block's scores. -/
theorem z_real (q : FVec Ideal S256x128 .bf16) (kb : Vec Ideal S1x128x128 .bf16)
    (hq : ∀ d : Fin 128, q (ix2 r d) = ((Q d.val : ℝ) : EReal))
    (hk : ∀ s d : Fin 128, kb (ix3 0 s d) = ((K (n + s.val) d.val : ℝ) : EReal)) (y : Fin 256) :
    k2_pay2 q k2_pay11 k2_pay12 kb (ix2 r y) = ((col (zsc Q K lo) (zsc Q K hi) n y.val : ℝ) : EReal) := by
  pointwise [k2_pay2]
  unfold col
  by_cases h : y.val < 128
  · simp only [dif_pos h, if_pos h, hq, hk, sb_lo, ← EReal.coe_mul, coe_fsum]
    rfl
  · simp only [dif_neg h, if_neg h, hq, hk, sb_hi, ← EReal.coe_mul, coe_fsum]
    rfl

theorem pay3_real (q : FVec Ideal S256x128 .bf16) (kb : Vec Ideal S1x128x128 .bf16)
    (hq : ∀ d : Fin 128, q (ix2 r d) = ((Q d.val : ℝ) : EReal))
    (hk : ∀ s d : Fin 128, kb (ix3 0 s d) = ((K (n + s.val) d.val : ℝ) : EReal)) (y : Fin 256) :
    k2_pay3 q k2_pay11 k2_pay12 kb (ix2 r y) = ((sp2 (col (zsc Q K lo) (zsc Q K hi) n y.val) : ℝ) : EReal) := by
  pointwise [k2_pay3]
  rw [z_real r Q K n q kb hq hk]
  exact sp_real _

theorem col_map (g : ℝ → ℝ) (a b : ℕ → ℝ) (n y : ℕ) : g (col a b n y) = col (fun s => g (a s)) (fun s => g (b s)) n y := by
  unfold col; split <;> rfl

theorem col_lo (a b : ℕ → ℝ) (n : ℕ) (x : Fin 128) : col a b n x.val = a (n + x.val) := by
  unfold col; rw [if_pos x.isLt]

theorem col_hi (a b : ℕ → ℝ) (n : ℕ) (x : Fin 128) : col a b n (128 + x.val) = b (n + x.val) := by
  unfold col; rw [if_neg (by omega), show 128 + x.val - 128 = x.val by omega]

theorem tri_lo (f g : ℕ → ℝ) (p : Fin 256 → EReal) (hp : ∀ y, p y = ((col f g n y.val : ℝ) : EReal)) (x : Fin 128) (hx : x.val < 256) :
    (∑ y : Fin 256, p y * tri (ix2 y ⟨x.val, hx⟩)) = ((∑ s ∈ Finset.Ico (n + x.val) (n + 128), f s : ℝ) : EReal) := by
  simp only [hp, tri_eq, ← EReal.coe_mul, coe_fsum]
  rw [sum_ub_lo f g n x.val x.isLt]

theorem tri_hi (f g : ℕ → ℝ) (p : Fin 256 → EReal) (hp : ∀ y, p y = ((col f g n y.val : ℝ) : EReal)) (x : Fin 128) (hx : 128 + x.val < 256) :
    (∑ y : Fin 256, p y * tri (ix2 y ⟨128 + x.val, hx⟩)) = ((∑ s ∈ Finset.Ico (n + x.val) (n + 128), g s : ℝ) : EReal) := by
  simp only [hp, tri_eq, ← EReal.coe_mul, coe_fsum]
  rw [sum_ub_hi f g n x.val x.isLt]

/-- The carried sums take in a block. -/
theorem car_lo (z g : ℕ → ℝ) (ρ T : ℕ) (h : n + 128 ≤ T) (p : Fin 256 → EReal) (a : EReal)
    (ha : a = ((suf z ρ T (n + 128) : ℝ) : EReal))
    (hp : ∀ y, p y = ((col (spm z ρ) g n y.val : ℝ) : EReal)) :
    (a + ∑ x : Fin 128, p ⟨x.val, by omega⟩) = ((suf z ρ T n : ℝ) : EReal) := by
  have : ∀ x : Fin 128, p ⟨x.val, by omega⟩ = ((spm z ρ (n + x.val) : ℝ) : EReal) := fun x => by
    rw [hp]; exact congrArg _ (col_lo _ _ n x)
  simp only [this, ha, coe_fsum, ← EReal.coe_add]
  rw [suf_step z ρ T n h]

theorem car_hi (z f : ℕ → ℝ) (ρ T : ℕ) (h : n + 128 ≤ T) (p : Fin 256 → EReal) (a : EReal)
    (ha : a = ((suf z ρ T (n + 128) : ℝ) : EReal))
    (hp : ∀ y, p y = ((col f (spm z ρ) n y.val : ℝ) : EReal)) :
    (a + ∑ x : Fin 128, p ⟨128 + x.val, by omega⟩) = ((suf z ρ T n : ℝ) : EReal) := by
  have : ∀ x : Fin 128, p ⟨128 + x.val, by omega⟩ = ((spm z ρ (n + x.val) : ℝ) : EReal) := fun x => by
    rw [hp]; exact congrArg _ (col_hi _ _ n x)
  simp only [this, ha, coe_fsum, ← EReal.coe_add]
  rw [suf_step z ρ T n h]

/-- One row's state: the two carried sums and the output so far, the keys from `n` on taken in. -/
structure SbInv (Q : ℕ → ℝ) (K Vv : ℕ → ℕ → ℝ) (ρ T n : ℕ) (r : Fin 256)
    (a b : FVec Ideal S256x1 .f32) (acc : FVec Ideal S256x128 .f32) : Prop where
  ca : a (ix2 r 0) = ((suf (zsc Q K lo) ρ T n : ℝ) : EReal)
  cb : b (ix2 r 0) = ((suf (zsc Q K hi) ρ T n : ℝ) : EReal)
  acc : ∀ e : Fin 128, acc (ix2 r e) = ((wsum (zsc Q K lo) ρ T (fun s => Vv s e.val * lo e.val) n
    + wsum (zsc Q K hi) ρ T (fun s => Vv s e.val * hi e.val) n : ℝ) : EReal)

/-- The output takes in a block. -/
theorem acc_step (zA zB : ℕ → ℝ) (ρ T : ℕ) (h : n + 128 ≤ T) (vA vB : ℕ → ℝ) :
    (wsum zA ρ T vA (n + 128) + wsum zB ρ T vB (n + 128))
      + ((∑ x : Fin 128, wt zA ρ T (n + x.val) * vA (n + x.val)) + ∑ x : Fin 128, wt zB ρ T (n + x.val) * vB (n + x.val))
      = wsum zA ρ T vA n + wsum zB ρ T vB n := by
  rw [← wsum_step zA ρ T vA n h, ← wsum_step zB ρ T vB n h]; ring

theorem sum_col (f g : ℕ → ℝ) : (∑ y : Fin 256, col f g n y.val) = (∑ x : Fin 128, f (n + x.val)) + ∑ x : Fin 128, g (n + x.val) := by
  rw [sum_fin 256 (fun y => col f g n y), sum_fin 128 (fun x => f (n + x)), sum_fin 128 (fun x => g (n + x)), sum_range_split 128 128]
  have h1 : ∑ i ∈ Finset.range 128, col f g n i = ∑ i ∈ Finset.range 128, f (n + i) :=
    Finset.sum_congr rfl fun x hx => col_lo f g n ⟨x, Finset.mem_range.mp hx⟩
  have h2 : ∑ i ∈ Finset.range 128, col f g n (128 + i) = ∑ i ∈ Finset.range 128, g (n + i) :=
    Finset.sum_congr rfl fun x hx => col_hi f g n ⟨x, Finset.mem_range.mp hx⟩
  rw [h1, h2]

/-- A block of keys all below the row. -/
theorem step_low (Vv : ℕ → ℕ → ℝ) (ρ T : ℕ) (q : FVec Ideal S256x128 .bf16) (kb vb : Vec Ideal S1x128x128 .bf16)
    (hq : ∀ d : Fin 128, q (ix2 r d) = ((Q d.val : ℝ) : EReal))
    (hk : ∀ s d : Fin 128, kb (ix3 0 s d) = ((K (n + s.val) d.val : ℝ) : EReal))
    (hv : ∀ s d : Fin 128, vb (ix3 0 s d) = ((Vv (n + s.val) d.val : ℝ) : EReal))
    (hρ : n + 128 ≤ ρ) (hT : n + 128 ≤ T) (a b : FVec Ideal S256x1 .f32) (acc : FVec Ideal S256x128 .f32)
    (h : SbInv Q K Vv ρ T (n + 128) r a b acc) :
    SbInv Q K Vv ρ T n r (k2_pay40 a (k2_pay3 q k2_pay11 k2_pay12 kb)) (k2_pay41 b (k2_pay3 q k2_pay11 k2_pay12 kb))
      (k2_pay39 acc (k2_pay4 k2_pay11 k2_pay12 vb) (k2_pay5 q k2_pay11 k2_pay12 tri a b kb) (constant S256x128 FTy.f32 0#32)) := by
  have hp : ∀ y : Fin 256, k2_pay3 q k2_pay11 k2_pay12 kb (ix2 r y)
      = ((col (spm (zsc Q K lo) ρ) (spm (zsc Q K hi) ρ) n y.val : ℝ) : EReal) := fun y => by
    rw [pay3_real r Q K n q kb hq hk, col_map sp2]
    congr 1
    unfold col spm
    have := y.isLt
    split
    · rw [if_pos (by omega)]
    · rw [if_pos (by omega)]
  refine ⟨?_, ?_, fun e => ?_⟩
  · pointwise [k2_pay40]
    exact car_lo n _ _ ρ T hT (fun y => k2_pay3 q k2_pay11 k2_pay12 kb (ix2 r y)) _ h.ca hp
  · pointwise [k2_pay41]
    exact car_hi n _ _ ρ T hT (fun y => k2_pay3 q k2_pay11 k2_pay12 kb (ix2 r y)) _ h.cb hp
  · have h5 : ∀ y : Fin 256, k2_pay5 q k2_pay11 k2_pay12 tri a b kb (ix2 r y)
        = ((col (wt (zsc Q K lo) ρ T) (wt (zsc Q K hi) ρ T) n y.val : ℝ) : EReal) := fun y => by
      pointwise [k2_pay5]
      rw [z_real r Q K n q kb hq hk]
      by_cases hy : y.val < 128
      · have e1 := tri_lo n _ _ (fun y => k2_pay3 q k2_pay11 k2_pay12 kb (ix2 r y)) hp ⟨y.val, hy⟩ y.isLt
        rw [show (∑ x, k2_pay3 q k2_pay11 k2_pay12 kb (ix2 r x) * tri (ix2 x y)) = _ from e1, dif_pos hy, h.ca, ← EReal.coe_sub, ← EReal.coe_sub,
          show ∀ x : ℝ, (FloatOps.exp2 (F := Ideal) (φ := .f32) (x : EReal) : EReal) = (((2 : ℝ) ^ x : ℝ) : EReal) from fun _ => rfl]
        congr 1
        have e2 := col_lo (wt (zsc Q K lo) ρ T) (wt (zsc Q K hi) ρ T) n ⟨y.val, hy⟩
        have e3 := col_lo (zsc Q K lo) (zsc Q K hi) n ⟨y.val, hy⟩
        rw [e2, e3, ← wt_eq (zsc Q K lo) ρ T n y.val (by omega) hT, if_pos (by omega)]
      · have hx : y.val - 128 < 128 := by have := y.isLt; omega
        have hxx : 128 + (y.val - 128) = y.val := by omega
        have e1 := tri_hi n _ _ (fun y => k2_pay3 q k2_pay11 k2_pay12 kb (ix2 r y)) hp ⟨y.val - 128, hx⟩ (by simp only; omega)
        simp only [hxx] at e1
        have e2 := col_hi (wt (zsc Q K lo) ρ T) (wt (zsc Q K hi) ρ T) n ⟨y.val - 128, hx⟩
        have e3 := col_hi (zsc Q K lo) (zsc Q K hi) n ⟨y.val - 128, hx⟩
        simp only [hxx] at e2 e3
        rw [show (∑ x, k2_pay3 q k2_pay11 k2_pay12 kb (ix2 r x) * tri (ix2 x y)) = _ from e1, dif_neg hy, h.cb, ← EReal.coe_sub, ← EReal.coe_sub,
          show ∀ x : ℝ, (FloatOps.exp2 (F := Ideal) (φ := .f32) (x : EReal) : EReal) = (((2 : ℝ) ^ x : ℝ) : EReal) from fun _ => rfl]
        congr 1
        rw [e2, e3, ← wt_eq (zsc Q K hi) ρ T n (y.val - 128) (by omega) hT, if_pos (by omega)]
    have h4 : ∀ y : Fin 256, k2_pay4 k2_pay11 k2_pay12 vb (ix2 y e)
        = ((col (fun s => Vv s e.val * lo e.val) (fun s => Vv s e.val * hi e.val) n y.val : ℝ) : EReal) := fun y => by
      pointwise [k2_pay4]
      unfold col
      split <;> simp only [hv, sb_lo, sb_hi, ← EReal.coe_mul]
    have h6 : ∀ y : ℕ, col (wt (zsc Q K lo) ρ T) (wt (zsc Q K hi) ρ T) n y * col (fun s => Vv s e.val * lo e.val) (fun s => Vv s e.val * hi e.val) n y
        = col (fun s => wt (zsc Q K lo) ρ T s * (Vv s e.val * lo e.val)) (fun s => wt (zsc Q K hi) ρ T s * (Vv s e.val * hi e.val)) n y := fun y => by
      unfold col; split <;> rfl
    pointwise [k2_pay39]
    simp only [h4, h5, h.acc, ← EReal.coe_mul, coe_fsum, h6, sum_col]
    rw [← EReal.coe_add, acc_step n _ _ ρ T hT]

/-- The softpluses of a masked block. -/
theorem masked_real (ρ : ℕ) (mk : IVec S256x256 1) (z : EReal) (y : Fin 256)
    (hm : mk (ix2 r y) = if n + y.val % 128 < ρ then 1#1 else 0#1)
    (hz : z = ((sp2 (col (zsc Q K lo) (zsc Q K hi) n y.val) : ℝ) : EReal)) :
    Scalar.select (mk (ix2 r y)) z 0 = ((col (spm (zsc Q K lo) ρ) (spm (zsc Q K hi) ρ) n y.val : ℝ) : EReal) := by
  have := y.isLt
  rw [hm, sel_ite, hz, col_map sp2]
  unfold col spm
  by_cases hy : y.val < 128
  · simp only [if_pos hy, show y.val % 128 = y.val by omega]
    split <;> simp
  · simp only [if_neg hy, show y.val % 128 = y.val - 128 by omega]
    split <;> simp

/-- A masked block's weight. -/
theorem masked_wt (z : ℕ → ℝ) (ρ T : ℕ) (hT : n + 128 ≤ T) (mk : BitVec 1) (x : Fin 128)
    (hm : mk = if n + x.val < ρ then 1#1 else 0#1) (za sa ca : EReal) (v : ℝ)
    (hz : za = ((z (n + x.val) : ℝ) : EReal))
    (hs : sa = ((∑ s ∈ Finset.Ico (n + x.val) (n + 128), spm z ρ s : ℝ) : EReal))
    (hc : ca = ((suf z ρ T (n + 128) : ℝ) : EReal)) :
    Scalar.select mk (FloatOps.exp2 (F := Ideal) (φ := .f32) (za - sa - ca)) (0 : EReal) * (v : EReal) = ((wt z ρ T (n + x.val) * v : ℝ) : EReal) := by
  rw [hm, sel_ite, hz, hs, hc, ← EReal.coe_sub, ← EReal.coe_sub,
    show ∀ x : ℝ, (FloatOps.exp2 (F := Ideal) (φ := .f32) (x : EReal) : EReal) = (((2 : ℝ) ^ x : ℝ) : EReal) from fun _ => rfl,
    ← EReal.coe_zero, coe_ite, wt_eq z ρ T n x.val (by omega) hT, ← EReal.coe_mul]

theorem sel_mul (b : BitVec 1) (x y : EReal) : Scalar.select b (x * y) 0 = Scalar.select b x 0 * y := by
  rcases (show b = 0#1 ∨ b = 1#1 by revert b; decide) with h | h <;> subst h <;> simp [Scalar.select]

abbrev io0 : IVec S256x256 32 := iota Kind.tc S256x256 32 [0] iota_S256x256_d0_w32

/-- The block of the last 128 keys, from the empty state. -/
theorem step_first (t0 : ℕ) (hn : n = t0 + 128) (Vv : ℕ → ℕ → ℝ) (ρ T : ℕ) (hρ : ρ = t0 + r.val) (hT : T = n + 128)
    (q : FVec Ideal S256x128 .bf16) (kb vb : Vec Ideal S1x128x128 .bf16)
    (hq : ∀ d : Fin 128, q (ix2 r d) = ((Q d.val : ℝ) : EReal))
    (hk : ∀ s d : Fin 128, kb (ix3 0 s d) = ((K (n + s.val) d.val : ℝ) : EReal))
    (hv : ∀ s d : Fin 128, vb (ix3 0 s d) = ((Vv (n + s.val) d.val : ℝ) : EReal)) (f : IVec S256x256 1)
    (hf : k2_pay17 (F := Ideal) f = tri) :
    SbInv Q K Vv ρ T n r (k2_pay28 k2_pay18 (k2_pay24 q k2_pay11 k2_pay12 io0 k2_pay13 kb))
      (k2_pay29 k2_pay19 (k2_pay24 q k2_pay11 k2_pay12 io0 k2_pay13 kb))
      (k2_pay27 k2_pay11 k2_pay12 k2_pay19 k2_pay20 (k2_pay21 io0 k2_pay13) (k2_pay22 vb)
        (k2_pay23 q k2_pay11 k2_pay12 kb) (k2_pay25 q k2_pay11 k2_pay12 io0 k2_pay13 f kb) k2_pay26) := by
  have hm : ∀ y : Fin 256, k2_pay21 io0 k2_pay13 (ix2 r y) = if n + y.val % 128 < ρ then 1#1 else 0#1 := fun y => by
    rw [mask1]; congr 1; apply propext; omega
  have hp : ∀ y : Fin 256, k2_pay24 q k2_pay11 k2_pay12 io0 k2_pay13 kb (ix2 r y)
      = ((col (spm (zsc Q K lo) ρ) (spm (zsc Q K hi) ρ) n y.val : ℝ) : EReal) := fun y => by
    pointwise [k2_pay24]
    refine masked_real r Q K n ρ _ _ y (hm y) ?_
    rw [show k2_pay23 q k2_pay11 k2_pay12 kb (ix2 r y) = _ from z_real r Q K n q kb hq hk y]
    exact sp_real _
  have h0 : ∀ z : ℕ → ℝ, (0 : EReal) = ((suf z ρ T (n + 128) : ℝ) : EReal) := fun z => by
    unfold suf; rw [hT]; simp
  refine ⟨?_, ?_, fun e => ?_⟩
  · pointwise [k2_pay28, k2_pay18]
    rw [← zero_add (∑ x : Fin 128, _)]
    exact car_lo n _ _ ρ T hT.ge (fun y => k2_pay24 q k2_pay11 k2_pay12 io0 k2_pay13 kb (ix2 r y)) _ (h0 _) hp
  · pointwise [k2_pay29, k2_pay19]
    rw [← zero_add (∑ x : Fin 128, _)]
    exact car_hi n _ _ ρ T hT.ge (fun y => k2_pay24 q k2_pay11 k2_pay12 io0 k2_pay13 kb (ix2 r y)) _ (h0 _) hp
  · have h25 : ∀ y : Fin 256, k2_pay25 q k2_pay11 k2_pay12 io0 k2_pay13 f kb (ix2 r y)
        = ∑ x : Fin 256, k2_pay24 q k2_pay11 k2_pay12 io0 k2_pay13 kb (ix2 r x) * tri (ix2 x y) := fun y => by
      pointwise [k2_pay25]
      rw [hf]
    have h18 : k2_pay18 (F := Ideal) (ix2 r 0) = (0 : EReal) := by pointwise [k2_pay18]
    have tA : ∀ x : Fin 128, Scalar.select (k2_pay21 io0 k2_pay13 (ix2 r ⟨x.val, by omega⟩)) (FloatOps.exp2 (F := Ideal) (φ := .f32) (k2_pay23 q k2_pay11 k2_pay12 kb (ix2 r ⟨x.val, by omega⟩) -
          k2_pay25 q k2_pay11 k2_pay12 io0 k2_pay13 f kb (ix2 r ⟨x.val, by omega⟩) - k2_pay18 (F := Ideal) (ix2 r 0)) * (vb (ix3 0 x e) * k2_pay11 (F := Ideal) (ix2 0 e))) (0 : EReal)
        = ((wt (zsc Q K lo) ρ T (n + x.val) * (Vv (n + x.val) e.val * lo e.val) : ℝ) : EReal) := fun x => by
      rw [sel_mul, hv, sb_lo, ← EReal.coe_mul, h18]
      refine masked_wt n _ ρ T hT.ge _ x ?_ _ _ _ _ ?_ ?_ (h0 _)
      · rw [hm]; congr 1; apply propext; simp only; omega
      · exact (z_real r Q K n q kb hq hk _).trans (congrArg _ (col_lo _ _ n x))
      · rw [h25]
        exact tri_lo n _ _ (fun y => k2_pay24 q k2_pay11 k2_pay12 io0 k2_pay13 kb (ix2 r y)) hp x _
    have tB : ∀ x : Fin 128, Scalar.select (k2_pay21 io0 k2_pay13 (ix2 r ⟨128 + x.val, by omega⟩)) (FloatOps.exp2 (F := Ideal) (φ := .f32) (k2_pay23 q k2_pay11 k2_pay12 kb (ix2 r ⟨128 + x.val, by omega⟩) -
          k2_pay25 q k2_pay11 k2_pay12 io0 k2_pay13 f kb (ix2 r ⟨128 + x.val, by omega⟩)) * (vb (ix3 0 x e) * k2_pay12 (F := Ideal) (ix2 0 e))) (0 : EReal)
        = ((wt (zsc Q K hi) ρ T (n + x.val) * (Vv (n + x.val) e.val * hi e.val) : ℝ) : EReal) := fun x => by
      rw [sel_mul, hv, sb_hi, ← EReal.coe_mul, ← sub_zero (k2_pay23 q k2_pay11 k2_pay12 kb (ix2 r ⟨128 + x.val, by omega⟩) - _)]
      refine masked_wt n _ ρ T hT.ge _ x ?_ _ _ _ _ ?_ ?_ (h0 _)
      · rw [hm]; congr 1; apply propext; simp only; omega
      · exact (z_real r Q K n q kb hq hk _).trans (congrArg _ (col_hi _ _ n x))
      · rw [h25]
        exact tri_hi n _ _ (fun y => k2_pay24 q k2_pay11 k2_pay12 io0 k2_pay13 kb (ix2 r y)) hp x _
    pointwise [k2_pay27, k2_pay22, k2_pay26, k2_pay19, k2_pay20]
    have hs := acc_step n (zsc Q K lo) (zsc Q K hi) ρ T hT.ge (fun s => Vv s e.val * lo e.val) (fun s => Vv s e.val * hi e.val)
    rw [show wsum (zsc Q K lo) ρ T (fun s => Vv s e.val * lo e.val) (n + 128) = 0 by unfold wsum; rw [hT]; simp,
      show wsum (zsc Q K hi) ρ T (fun s => Vv s e.val * hi e.val) (n + 128) = 0 by unfold wsum; rw [hT]; simp, zero_add, zero_add] at hs
    rw [← hs, EReal.coe_add, ← coe_fsum, ← coe_fsum]
    exact congrArg₂ _ (Finset.sum_congr rfl fun x _ => tA x) (Finset.sum_congr rfl fun x _ => tB x)

/-- The block before it, which the rows see in part. -/
theorem step_second (Vv : ℕ → ℕ → ℝ) (ρ T : ℕ) (hρ : ρ = n + r.val) (hT : n + 128 ≤ T)
    (q : FVec Ideal S256x128 .bf16) (kb vb : Vec Ideal S1x128x128 .bf16)
    (hq : ∀ d : Fin 128, q (ix2 r d) = ((Q d.val : ℝ) : EReal))
    (hk : ∀ s d : Fin 128, kb (ix3 0 s d) = ((K (n + s.val) d.val : ℝ) : EReal))
    (hv : ∀ s d : Fin 128, vb (ix3 0 s d) = ((Vv (n + s.val) d.val : ℝ) : EReal))
    (a b : FVec Ideal S256x1 .f32) (acc : FVec Ideal S256x128 .f32) (h : SbInv Q K Vv ρ T (n + 128) r a b acc) :
    SbInv Q K Vv ρ T n r
      (k2_pay37 a (k2_pay30 io0 k2_pay13) (k2_pay33 q k2_pay11 k2_pay12 kb) (k2_pay34 q k2_pay11 k2_pay12 kb) (Named.named (F := Ideal) (φ := .f32) κ "log2e" 1069066811#32))
      (k2_pay38 b (k2_pay30 io0 k2_pay13) (k2_pay33 q k2_pay11 k2_pay12 kb) (k2_pay34 q k2_pay11 k2_pay12 kb) (Named.named (F := Ideal) (φ := .f32) κ "log2e" 1069066811#32))
      (k2_pay36 k2_pay11 k2_pay12 tri acc a b (k2_pay30 io0 k2_pay13) (k2_pay31 vb) (k2_pay32 q k2_pay11 k2_pay12 kb)
        (k2_pay33 q k2_pay11 k2_pay12 kb) (k2_pay34 q k2_pay11 k2_pay12 kb) (Named.named (F := Ideal) (φ := .f32) κ "log2e" 1069066811#32)) := by
  have hm : ∀ y : Fin 256, k2_pay30 io0 k2_pay13 (ix2 r y) = if n + y.val % 128 < ρ then 1#1 else 0#1 := fun y => by
    rw [mask2]; congr 1; apply propext; omega
  have hp : ∀ y : Fin 256, k2_pay35 (k2_pay30 io0 k2_pay13) (k2_pay33 q k2_pay11 k2_pay12 kb) (k2_pay34 q k2_pay11 k2_pay12 kb) (Named.named (F := Ideal) (φ := .f32) κ "log2e" 1069066811#32) (ix2 r y)
      = ((col (spm (zsc Q K lo) ρ) (spm (zsc Q K hi) ρ) n y.val : ℝ) : EReal) := fun y => by
    pointwise [k2_pay35, k2_pay33, k2_pay34]
    refine masked_real r Q K n ρ _ _ y (hm y) ?_
    rw [show k2_pay32 q k2_pay11 k2_pay12 kb (ix2 r y) = _ from z_real r Q K n q kb hq hk y]
    exact sp_real _
  generalize hP : k2_pay35 (k2_pay30 io0 k2_pay13) (k2_pay33 q k2_pay11 k2_pay12 kb) (k2_pay34 q k2_pay11 k2_pay12 kb) (Named.named (F := Ideal) (φ := .f32) κ "log2e" 1069066811#32) = P at hp
  refine ⟨?_, ?_, fun e => ?_⟩
  · pointwise [k2_pay37]
    rw [hP]
    exact car_lo n _ _ ρ T hT (fun y => P (ix2 r y)) _ h.ca hp
  · pointwise [k2_pay38]
    rw [hP]
    exact car_hi n _ _ ρ T hT (fun y => P (ix2 r y)) _ h.cb hp
  · pointwise [k2_pay36, k2_pay31]
    rw [hP, ← acc_step n _ _ ρ T hT, EReal.coe_add, ← h.acc e, EReal.coe_add, ← coe_fsum, ← coe_fsum]
    refine congrArg₂ _ rfl (congrArg₂ _ (Finset.sum_congr rfl fun x _ => ?_) (Finset.sum_congr rfl fun x _ => ?_))
    · rw [sel_mul, hv, sb_lo, ← EReal.coe_mul]
      refine masked_wt n _ ρ T hT _ x ?_ _ _ _ _ ?_ ?_ h.ca
      · rw [hm]; congr 1; apply propext; simp only; omega
      · exact (z_real r Q K n q kb hq hk _).trans (congrArg _ (col_lo _ _ n x))
      · exact tri_lo n _ _ (fun y => P (ix2 r y)) hp x _
    · rw [sel_mul, hv, sb_hi, ← EReal.coe_mul]
      refine masked_wt n _ ρ T hT _ x ?_ _ _ _ _ ?_ ?_ h.cb
      · rw [hm]; congr 1; apply propext; simp only; omega
      · exact (z_real r Q K n q kb hq hk _).trans (congrArg _ (col_hi _ _ n x))
      · exact tri_hi n _ _ (fun y => P (ix2 r y)) hp x _

end Block

end Cert.KernelIdeal.Value
-- ==== Proof.Region1.lean ====
module

public import proofs.«01_k».proof.Proof.Gen.KernelIdeal.Frame
public import Idealize.ShloMosaic.Lib.Pipeline.ValueKit
public import Idealize.ShloMosaic.Lib.Pointwise
public import proofs.«01_k».proof.Proof.DaMath
public import proofs.«01_k».proof.Proof.Region2

@[expose] public section

set_option maxRecDepth 16384

noncomputable section
open Idealize.ShloMosaic Idealize.ShloMosaic.TcCoe Idealize.SL.Sem
open Idealize.ShloMosaic.Pipeline (Dat)
namespace Cert.KernelIdeal.Value
open Cert.KernelIdeal Cert.KernelIdeal.Gen
variable (V : (c : Dev nD) → (b : Ref sig .tc) → Buf (Elt Ideal) ((c : Thread nD τ).loc b))
open Cert.RealKit Cert.DaMath Finset
/-! The differential attention's blocks, one row at a time. -/

theorem subi_toInt (a b : ℕ) (ha : a < 65536) (hb : b < 65536) : (IntOp.subi (BitVec.ofNat 32 a) (BitVec.ofNat 32 b)).toInt = (a : ℤ) - b := by
  unfold IntOp.subi
  rw [BitVec.toInt_sub, WordCmp.toInt_ofNat_of_lt (by omega), WordCmp.toInt_ofNat_of_lt (by omega)]
  simp only [Int.bmod]
  norm_num
  split <;> omega

theorem absi_toInt (a b : ℕ) (ha : a < 65536) (hb : b < 65536) : (IntOp.absi (IntOp.subi (BitVec.ofNat 32 a) (BitVec.ofNat 32 b))).toInt = |(a : ℤ) - b| := by
  have h := subi_toInt a b ha hb
  unfold IntOp.absi
  rw [BitVec.msb_eq_toInt, h]
  by_cases hn : (a : ℤ) - b < 0
  · rw [if_pos (by simpa using hn), BitVec.toInt_neg, h, abs_of_neg hn]
    simp only [Int.bmod]
    norm_num
    split <;> omega
  · rw [if_neg (by simpa using hn), h, abs_of_nonneg (by omega)]

theorem sitofp_real (w : BitVec 32) : (FloatOps.sitofp (F := Ideal) FTy.f32 w : EReal) = ((w.toInt : ℝ) : EReal) := rfl

/-- The mask reads as the bottom element. -/
theorem mask_bot : (Named.named (F := Ideal) (φ := .f32) κ "mask" 4048155338#32 : EReal) = ⊥ := by
  refine (IdealRules.named_const.ideal_named_scalar _ _ _ _ rfl).trans ?_
  rfl

theorem bits_bot : Ideal.ofBits FTy.f32 4286578688#32 = ⊥ := by
  simp [Ideal.ofBits, Ideal.ieee]

theorem div64 : ∀ x : Fin 256,
  (Scalar.select
            (IntOp.andi
              (IntOp.cmpi CmpIPredicate.ne
                (IntOp.subi (BitVec.setWidth 32 (IntOp.cmpi CmpIPredicate.sgt (BitVec.ofNat 32 x.val) 0#32))
                  (BitVec.setWidth 32 (IntOp.cmpi CmpIPredicate.slt (BitVec.ofNat 32 x.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 x.val) 64#32) 0#32))
            (IntOp.subi (IntOp.divsi ArithUnit.vector (BitVec.ofNat 32 x.val) 64#32) 1#32)
            (IntOp.divsi ArithUnit.vector (BitVec.ofNat 32 x.val) 64#32)) = BitVec.ofNat 32 (x.val / 64) := by
  decide +kernel

theorem neg_mul_real (s d : ℝ) : ((0 : EReal) - (s : EReal)) * (d : EReal) = ((-s * d : ℝ) : EReal) := by
  rw [← EReal.coe_zero, ← EReal.coe_sub, ← EReal.coe_mul, zero_sub]

/-- One row's logits, base 2, against key `k`. -/
def dly (Q : ℕ → ℝ) (K : ℕ → ℕ → ℝ) (sl : ℝ) (m : ℕ → ℝ) (ρ k : ℕ) : ℝ := zsc Q K m k - sl * |(ρ : ℝ) - (k : ℝ)|

/-- The keys a row sees: those of its own group of 64 and of the earlier ones. -/
def dvis (ρ k : ℕ) : Prop := k / 64 ≤ ρ / 64
instance (ρ : ℕ) : DecidablePred (dvis ρ) := fun k => inferInstanceAs (Decidable (k / 64 ≤ ρ / 64))

section Row
variable (r : Fin 256) (Q : ℕ → ℝ) (K Vv : ℕ → ℕ → ℝ) (sl : ℝ)

/-- Both softmaxes' states at a row. -/
structure DaInv (ρ : ℕ) (S : Finset ℕ) (m1 m2 l1 l2 : FVec Ideal S256x1 .f32) (acc : FVec Ideal S256x256 .f32) : Prop where
  a : OsInv (dly Q K sl lo ρ) (dvis ρ) Vv S (m1 (ix2 r 0)) (l1 (ix2 r 0)) (fun e => acc (ix2 r ⟨e.val, by omega⟩))
  b : OsInv (dly Q K sl hi ρ) (dvis ρ) Vv S (m2 (ix2 r 0)) (l2 (ix2 r 0)) (fun e => acc (ix2 r ⟨128 + e.val, by omega⟩))

theorem da_lo (d : Fin 128) : k1_pay30 (F := Ideal) (ix2 0 d) = ((lo d.val : ℝ) : EReal) := sb_lo 0 d
theorem da_hi (d : Fin 128) : k1_pay31 (F := Ideal) (ix2 0 d) = ((hi d.val : ℝ) : EReal) := sb_hi 0 d

theorem da_score (n : ℕ) (q : FVec Ideal S256x128 .bf16) (kb : Vec Ideal S1x128x128 .bf16)
    (hq : ∀ d : Fin 128, q (ix2 r d) = ((Q d.val : ℝ) : EReal))
    (hk : ∀ s d : Fin 128, kb (ix3 0 s d) = ((K (n + s.val) d.val : ℝ) : EReal)) (y : Fin 256) :
    k1_pay4 q k1_pay30 k1_pay31 kb (ix2 r y) = ((Cert.SbMath.col (zsc Q K lo) (zsc Q K hi) n y.val : ℝ) : EReal) :=
  z_real r Q K n q kb hq hk y

/-- A block that lies wholly below the query rows. -/
theorem da_low (i : grid1.Coords) (k : Fin (k1_t1_loop i).trips) (n t0 ρ : ℕ) (S S' : Finset ℕ) (v0 : BitVec 32) (v2 : Elt Ideal .f32)
    (hv0 : v0 = BitVec.ofNat 32 t0) (hv2 : v2 = ((sl : ℝ) : EReal)) (ht0 : t0 < 2048) (hρ : ρ = t0 + r.val) (hn : n + 128 ≤ t0) (hkn : n = 128 * k.val)
    (q : FVec Ideal S256x128 .bf16) (kb vb : Vec Ideal S1x128x128 .bf16)
    (hq : ∀ d : Fin 128, q (ix2 r d) = ((Q d.val : ℝ) : EReal))
    (hk : ∀ s d : Fin 128, kb (ix3 0 s d) = ((K (n + s.val) d.val : ℝ) : EReal))
    (hv : ∀ s d : Fin 128, vb (ix3 0 s d) = ((Vv (n + s.val) d.val : ℝ) : EReal))
    (m1 m2 l1 l2 : FVec Ideal S256x1 .f32) (acc : FVec Ideal S256x256 .f32)
    (hI : DaInv r Q K Vv sl ρ S m1 m2 l1 l2 acc) (hS : ∀ f : ℕ → ℝ, ∑ k ∈ S', f k = ∑ k ∈ S, f k + ∑ x : Fin 128, f (n + x.val)) :
    DaInv r Q K Vv sl ρ S'
      (k1_pay7 i v0 v2 q k1_pay30 k1_pay31 (k1_pay33 v2 k1_pay32) 0#32 1#32 k m1 kb) (k1_pay8 i v0 v2 q k1_pay30 k1_pay31 (k1_pay33 v2 k1_pay32) 0#32 1#32 k m2 kb)
      (k1_pay78 (k1_pay13 i v0 v2 q k1_pay30 k1_pay31 (k1_pay33 v2 k1_pay32) 0#32 1#32 k m1 l1 kb) (k1_pay14 i v0 v2 q k1_pay30 k1_pay31 (k1_pay33 v2 k1_pay32) 0#32 1#32 k m1 kb))
      (k1_pay79 l2 (k1_pay10 i v0 v2 q k1_pay30 k1_pay31 (k1_pay33 v2 k1_pay32) 0#32 1#32 k m2 kb) (k1_pay12 i v0 v2 q k1_pay30 k1_pay31 (k1_pay33 v2 k1_pay32) 0#32 1#32 k m2 kb))
      (k1_pay80 acc (k1_pay3 vb) (k1_pay9 i v0 v2 q k1_pay30 k1_pay31 (k1_pay33 v2 k1_pay32) 0#32 1#32 k m1 kb) (k1_pay10 i v0 v2 q k1_pay30 k1_pay31 (k1_pay33 v2 k1_pay32) 0#32 1#32 k m2 kb)
        (k1_pay11 i v0 v2 q k1_pay30 k1_pay31 (k1_pay33 v2 k1_pay32) 0#32 1#32 k m1 kb) (k1_pay12 i v0 v2 q k1_pay30 k1_pay31 (k1_pay33 v2 k1_pay32) 0#32 1#32 k m2 kb)) := by
  subst hv0 hv2 hρ
  have hr := r.isLt
  have hsh : k1_pay2 (F := Ideal) i (BitVec.ofNat 32 t0) ((sl : ℝ) : EReal) 0#32 1#32 k = ((-sl * ((t0 : ℝ) - n) : ℝ) : EReal) := by
    have hw : Scalar.muli (Scf.iv 0#32 1#32 k.val) 128#32 = BitVec.ofNat 32 n := by
      unfold Scalar.muli IntOp.muli Scf.iv
      apply BitVec.eq_of_toNat_eq
      simp
      omega
    have hz : ((Scalar.subi (BitVec.ofNat 32 t0) (Scalar.muli (Scf.iv 0#32 1#32 k.val) 128#32)).toInt) = (t0 : ℤ) - n := by
      rw [hw]; exact subi_toInt _ _ (by omega) (by omega)
    pointwise [k1_pay2]
    rw [hz, neg_mul_real]
    push_cast; rfl
  have hb : ∀ x : Fin 128, k1_pay33 (F := Ideal) ((sl : ℝ) : EReal) k1_pay32 (ix2 r x) = ((-sl * ((r.val : ℝ) - x.val) : ℝ) : EReal) := fun x => by
    pointwise [k1_pay33, k1_pay32]
    rw [sitofp_real, subi_toInt _ _ (by omega) (by omega), neg_mul_real]
    push_cast; rfl
  have hvis : ∀ x : Fin 128, dvis (t0 + r.val) (n + x.val) := fun x => by unfold dvis; omega
  have habs : ∀ x : Fin 128, |((t0 + r.val : ℕ) : ℝ) - ((n + x.val : ℕ) : ℝ)| = ((t0 : ℝ) + r.val) - (n + x.val) := fun x => by
    rw [abs_of_nonneg]
    · push_cast; ring
    · have : n + x.val ≤ t0 + r.val := by omega
      have : ((n + x.val : ℕ) : ℝ) ≤ ((t0 + r.val : ℕ) : ℝ) := by exact_mod_cast this
      linarith
  have hu1 : ∀ x : Fin 128, k1_pay5 q k1_pay30 k1_pay31 (k1_pay33 ((sl : ℝ) : EReal) k1_pay32) kb (ix2 r x)
      = if dvis (t0 + r.val) (n + x.val) then ((dly Q K sl lo (t0 + r.val) (n + x.val) - (-sl * ((t0 : ℝ) - n)) : ℝ) : EReal) else ⊥ := fun x => by
    pointwise [k1_pay5]
    rw [da_score r Q K n q kb hq hk, hb, if_pos (hvis x), ← EReal.coe_add]
    congr 1
    unfold dly
    rw [habs]
    show Cert.SbMath.col _ _ n x.val + _ = _
    rw [col_lo]; ring
  have hu2 : ∀ x : Fin 128, k1_pay6 q k1_pay30 k1_pay31 (k1_pay33 ((sl : ℝ) : EReal) k1_pay32) kb (ix2 r x)
      = if dvis (t0 + r.val) (n + x.val) then ((dly Q K sl hi (t0 + r.val) (n + x.val) - (-sl * ((t0 : ℝ) - n)) : ℝ) : EReal) else ⊥ := fun x => by
    pointwise [k1_pay6]
    rw [da_score r Q K n q kb hq hk, hb, if_pos (hvis x), ← EReal.coe_add]
    congr 1
    unfold dly
    rw [habs]
    show Cert.SbMath.col _ _ n (128 + x.val) + _ = _
    rw [col_hi]; ring
  have hvv : ∀ x e : Fin 128, k1_pay3 vb (ix2 x e) = ((Vv (n + x.val) e.val : ℝ) : EReal) := fun x e => by
    pointwise [k1_pay3]
    exact hv x e
  constructor
  · have hm : k1_pay7 (F := Ideal) i (BitVec.ofNat 32 t0) ((sl : ℝ) : EReal) q k1_pay30 k1_pay31 (k1_pay33 ((sl : ℝ) : EReal) k1_pay32) 0#32 1#32 k m1 kb (ix2 r 0) = max (m1 (ix2 r 0)) ((univ : Finset (Fin 128)).fold max ⊥ (fun x => k1_pay5 q k1_pay30 k1_pay31 (k1_pay33 ((sl : ℝ) : EReal) k1_pay32) kb (ix2 r x)) + ((-sl * ((t0 : ℝ) - n) : ℝ) : EReal)) := by
      pointwise [k1_pay7]
      rw [bits_bot, hsh]
    have hp : ∀ x : Fin 128, k1_pay9 (F := Ideal) i (BitVec.ofNat 32 t0) ((sl : ℝ) : EReal) q k1_pay30 k1_pay31 (k1_pay33 ((sl : ℝ) : EReal) k1_pay32) 0#32 1#32 k m1 kb (ix2 r x) = Ideal.exp2 (k1_pay5 q k1_pay30 k1_pay31 (k1_pay33 ((sl : ℝ) : EReal) k1_pay32) kb (ix2 r x) - (k1_pay7 (F := Ideal) i (BitVec.ofNat 32 t0) ((sl : ℝ) : EReal) q k1_pay30 k1_pay31 (k1_pay33 ((sl : ℝ) : EReal) k1_pay32) 0#32 1#32 k m1 kb (ix2 r 0) - ((-sl * ((t0 : ℝ) - n) : ℝ) : EReal))) := fun x => by
      pointwise [k1_pay9]
      rw [hsh]; rfl
    have ha : k1_pay11 (F := Ideal) i (BitVec.ofNat 32 t0) ((sl : ℝ) : EReal) q k1_pay30 k1_pay31 (k1_pay33 ((sl : ℝ) : EReal) k1_pay32) 0#32 1#32 k m1 kb (ix2 r 0) = Ideal.exp2 (m1 (ix2 r 0) - k1_pay7 (F := Ideal) i (BitVec.ofNat 32 t0) ((sl : ℝ) : EReal) q k1_pay30 k1_pay31 (k1_pay33 ((sl : ℝ) : EReal) k1_pay32) 0#32 1#32 k m1 kb (ix2 r 0)) := by
      pointwise [k1_pay11]
      rfl
    refine os_step (a := k1_pay11 (F := Ideal) i (BitVec.ofNat 32 t0) ((sl : ℝ) : EReal) q k1_pay30 k1_pay31 (k1_pay33 ((sl : ℝ) : EReal) k1_pay32) 0#32 1#32 k m1 kb (ix2 r 0)) hI.a hu1 hm hp ha ?_ hvv (fun e => ?_) hS
    · pointwise [k1_pay78, k1_pay13, k1_pay14]
    · pointwise [k1_pay80]
      simp only [mul_zero, sum_const_zero, add_zero, zero_add]
  · have hm : k1_pay8 (F := Ideal) i (BitVec.ofNat 32 t0) ((sl : ℝ) : EReal) q k1_pay30 k1_pay31 (k1_pay33 ((sl : ℝ) : EReal) k1_pay32) 0#32 1#32 k m2 kb (ix2 r 0) = max (m2 (ix2 r 0)) ((univ : Finset (Fin 128)).fold max ⊥ (fun x => k1_pay6 q k1_pay30 k1_pay31 (k1_pay33 ((sl : ℝ) : EReal) k1_pay32) kb (ix2 r x)) + ((-sl * ((t0 : ℝ) - n) : ℝ) : EReal)) := by
      pointwise [k1_pay8]
      rw [bits_bot, hsh]
    have hp : ∀ x : Fin 128, k1_pay10 (F := Ideal) i (BitVec.ofNat 32 t0) ((sl : ℝ) : EReal) q k1_pay30 k1_pay31 (k1_pay33 ((sl : ℝ) : EReal) k1_pay32) 0#32 1#32 k m2 kb (ix2 r x) = Ideal.exp2 (k1_pay6 q k1_pay30 k1_pay31 (k1_pay33 ((sl : ℝ) : EReal) k1_pay32) kb (ix2 r x) - (k1_pay8 (F := Ideal) i (BitVec.ofNat 32 t0) ((sl : ℝ) : EReal) q k1_pay30 k1_pay31 (k1_pay33 ((sl : ℝ) : EReal) k1_pay32) 0#32 1#32 k m2 kb (ix2 r 0) - ((-sl * ((t0 : ℝ) - n) : ℝ) : EReal))) := fun x => by
      pointwise [k1_pay10]
      rw [hsh]; rfl
    have ha : k1_pay12 (F := Ideal) i (BitVec.ofNat 32 t0) ((sl : ℝ) : EReal) q k1_pay30 k1_pay31 (k1_pay33 ((sl : ℝ) : EReal) k1_pay32) 0#32 1#32 k m2 kb (ix2 r 0) = Ideal.exp2 (m2 (ix2 r 0) - k1_pay8 (F := Ideal) i (BitVec.ofNat 32 t0) ((sl : ℝ) : EReal) q k1_pay30 k1_pay31 (k1_pay33 ((sl : ℝ) : EReal) k1_pay32) 0#32 1#32 k m2 kb (ix2 r 0)) := by
      pointwise [k1_pay12]
      rfl
    refine os_step (a := k1_pay12 (F := Ideal) i (BitVec.ofNat 32 t0) ((sl : ℝ) : EReal) q k1_pay30 k1_pay31 (k1_pay33 ((sl : ℝ) : EReal) k1_pay32) 0#32 1#32 k m2 kb (ix2 r 0)) hI.b hu2 hm hp ha ?_ hvv (fun e => ?_) hS
    · pointwise [k1_pay79]
    · pointwise [k1_pay80]
      simp only [mul_zero, sum_const_zero, add_zero, zero_add]

theorem bias_first (v2 : Elt Ideal .f32) (hv2 : v2 = ((sl : ℝ) : EReal)) (x : Fin 128) :
    k1_pay44 (F := Ideal) v2 (iota Kind.tc S256x128 32 [0] iota_S256x128_d0_w32) (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) (ix2 r x) = if x.val / 64 ≤ r.val / 64 then ((-sl * |(r.val : ℝ) - x.val| : ℝ) : EReal) else ⊥ := by
  subst hv2
  have hr := r.isLt
  have hx := x.isLt
  have h39 : k1_pay39 (iota Kind.tc S256x128 32 [1] iota_S256x128_d1_w32) (ix2 r x) = BitVec.ofNat 32 x.val := by
    pointwise [k1_pay39]
    simp [IntOp.addi]
  have h40 : k1_pay40 (iota Kind.tc S256x128 32 [1] iota_S256x128_d1_w32) (ix2 r x) = BitVec.ofNat 32 (x.val / 64) := by
    pointwise [k1_pay40]
    rw [h39]
    exact div64 ⟨x.val, by omega⟩
  have hR : (iota Kind.tc S256x128 32 [0] iota_S256x128_d0_w32) (ix2 r x) = BitVec.ofNat 32 r.val := by pointwise
  pointwise [k1_pay44, k1_pay41, k1_pay42, k1_pay43]
  rw [h40, h39, mask_bot, sitofp_real, absi_toInt _ _ (by omega) (by omega), neg_mul_real, div64 r, sle_ofNat _ _ (by omega) (by omega), sel_ite]
  push_cast; rfl

theorem bias_second (v2 : Elt Ideal .f32) (hv2 : v2 = ((sl : ℝ) : EReal)) (x : Fin 128) :
    k1_pay63 (F := Ideal) v2 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) (ix2 r x) = if (x.val + 128) / 64 ≤ r.val / 64 then ((-sl * |(r.val : ℝ) - ((x.val + 128 : ℕ) : ℝ)| : ℝ) : EReal) else ⊥ := by
  subst hv2
  have hr := r.isLt
  have hx := x.isLt
  have h58 : k1_pay58 (iota Kind.tc S256x128 32 [1] iota_S256x128_d1_w32) (ix2 r x) = BitVec.ofNat 32 (x.val + 128) := by
    pointwise [k1_pay58]
    exact addi_ofNat _ _
  pointwise [k1_pay63, k1_pay61, k1_pay62, k1_pay59, k1_pay60]
  rw [h58, mask_bot, sitofp_real, absi_toInt _ _ (by omega) (by omega), neg_mul_real, div64 r, div64 ⟨x.val + 128, by omega⟩, sle_ofNat _ _ (by omega) (by omega), sel_ite]
  push_cast; rfl

section Diag
variable (t0 ρ : ℕ) (S S' : Finset ℕ) (v2 : Elt Ideal .f32) (hv2 : v2 = ((sl : ℝ) : EReal)) (ht0 : 64 ∣ t0) (hρ : ρ = t0 + r.val)
    (q : FVec Ideal S256x128 .bf16) (kb vb : Vec Ideal S1x128x128 .bf16)
    (hq : ∀ d : Fin 128, q (ix2 r d) = ((Q d.val : ℝ) : EReal))
include hv2 ht0 hρ hq

/-- The first block on the diagonal. -/
theorem da_first
    (hk : ∀ s d : Fin 128, kb (ix3 0 s d) = ((K (t0 + s.val) d.val : ℝ) : EReal))
    (hv : ∀ s d : Fin 128, vb (ix3 0 s d) = ((Vv (t0 + s.val) d.val : ℝ) : EReal))
    (hS : ∀ f : ℕ → ℝ, ∑ k ∈ S', f k = ∑ x : Fin 128, f (t0 + x.val)) :
    DaInv r Q K Vv sl ρ S' (k1_pay49 v2 q k1_pay30 k1_pay31 (iota Kind.tc S256x128 32 [0] iota_S256x128_d0_w32) k1_pay34 (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb) (k1_pay50 k1_pay35 (k1_pay48 v2 q k1_pay30 k1_pay31 (iota Kind.tc S256x128 32 [0] iota_S256x128_d0_w32) (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb)) (k1_pay55 k1_pay34 k1_pay36 (k1_pay47 v2 q k1_pay30 k1_pay31 (iota Kind.tc S256x128 32 [0] iota_S256x128_d0_w32) (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb) (k1_pay49 v2 q k1_pay30 k1_pay31 (iota Kind.tc S256x128 32 [0] iota_S256x128_d0_w32) k1_pay34 (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb)) (k1_pay56 k1_pay35 k1_pay37 (k1_pay48 v2 q k1_pay30 k1_pay31 (iota Kind.tc S256x128 32 [0] iota_S256x128_d0_w32) (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb)) (k1_pay57 k1_pay34 k1_pay35 k1_pay38 (k1_pay45 vb) (k1_pay47 v2 q k1_pay30 k1_pay31 (iota Kind.tc S256x128 32 [0] iota_S256x128_d0_w32) (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb) (k1_pay48 v2 q k1_pay30 k1_pay31 (iota Kind.tc S256x128 32 [0] iota_S256x128_d0_w32) (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb) (k1_pay49 v2 q k1_pay30 k1_pay31 (iota Kind.tc S256x128 32 [0] iota_S256x128_d0_w32) k1_pay34 (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb)) := by
  subst hρ
  have hr := r.isLt
  have hb := bias_first r sl v2 hv2
  have hvis : ∀ x : Fin 128, dvis (t0 + r.val) (t0 + x.val) ↔ x.val / 64 ≤ r.val / 64 := fun x => by unfold dvis; omega
  have habs : ∀ x : Fin 128, |((t0 + r.val : ℕ) : ℝ) - ((t0 + x.val : ℕ) : ℝ)| = |(r.val : ℝ) - x.val| := fun x => by
    congr 1; push_cast; ring
  have hu1 : ∀ x : Fin 128, (k1_pay47 v2 q k1_pay30 k1_pay31 (iota Kind.tc S256x128 32 [0] iota_S256x128_d0_w32) (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb) (ix2 r x)
      = if dvis (t0 + r.val) (t0 + x.val) then ((dly Q K sl lo (t0 + r.val) (t0 + x.val) - 0 : ℝ) : EReal) else ⊥ := fun x => by
    pointwise [k1_pay47]
    rw [show k1_pay46 q k1_pay30 k1_pay31 kb = k1_pay4 q k1_pay30 k1_pay31 kb from rfl, da_score r Q K t0 q kb hq hk, hb]
    simp only [hvis]
    split
    · rw [← EReal.coe_add]
      congr 1
      unfold dly
      rw [habs]
      show Cert.SbMath.col _ _ t0 x.val + _ = _
      rw [col_lo]; ring
    · rw [EReal.add_bot]
  have hu2 : ∀ x : Fin 128, (k1_pay48 v2 q k1_pay30 k1_pay31 (iota Kind.tc S256x128 32 [0] iota_S256x128_d0_w32) (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb) (ix2 r x)
      = if dvis (t0 + r.val) (t0 + x.val) then ((dly Q K sl hi (t0 + r.val) (t0 + x.val) - 0 : ℝ) : EReal) else ⊥ := fun x => by
    pointwise [k1_pay48]
    rw [show k1_pay46 q k1_pay30 k1_pay31 kb = k1_pay4 q k1_pay30 k1_pay31 kb from rfl, da_score r Q K t0 q kb hq hk, hb]
    simp only [hvis]
    split
    · rw [← EReal.coe_add]
      congr 1
      unfold dly
      rw [habs]
      show Cert.SbMath.col _ _ t0 (128 + x.val) + _ = _
      rw [col_hi]; ring
    · rw [EReal.add_bot]
  have hvv : ∀ x e : Fin 128, k1_pay45 vb (ix2 x e) = ((Vv (t0 + x.val) e.val : ℝ) : EReal) := fun x e => by
    pointwise [k1_pay45]
    exact hv x e
  have hx : ∃ x : Fin 128, dvis (t0 + r.val) (t0 + x.val) := ⟨0, (hvis 0).mpr (by simp)⟩
  have h34 : (k1_pay34 (F := Ideal)) (ix2 r 0) = ⊥ := by pointwise [k1_pay34]; exact mask_bot
  have h35 : (k1_pay35 (F := Ideal)) (ix2 r 0) = ⊥ := by pointwise [k1_pay35]; exact mask_bot
  have h36 : (k1_pay36 (F := Ideal)) (ix2 r 0) = 0 := by pointwise [k1_pay36]
  have h37 : (k1_pay37 (F := Ideal)) (ix2 r 0) = 0 := by pointwise [k1_pay37]
  have h38 : ∀ e, (k1_pay38 (F := Ideal)) (ix2 r e) = 0 := fun e => by pointwise [k1_pay38]
  constructor
  · have hm : (k1_pay49 v2 q k1_pay30 k1_pay31 (iota Kind.tc S256x128 32 [0] iota_S256x128_d0_w32) k1_pay34 (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb) (ix2 r 0) = max (k1_pay34 (F := Ideal) (ix2 r 0)) ((univ : Finset (Fin 128)).fold max ⊥ (fun x => (k1_pay47 v2 q k1_pay30 k1_pay31 (iota Kind.tc S256x128 32 [0] iota_S256x128_d0_w32) (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb) (ix2 r x)) + ((0 : ℝ) : EReal)) := by
      pointwise [k1_pay49]
      rw [bits_bot, EReal.coe_zero, add_zero]
    have hp : ∀ x : Fin 128, k1_pay51 (k1_pay47 v2 q k1_pay30 k1_pay31 (iota Kind.tc S256x128 32 [0] iota_S256x128_d0_w32) (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb) (k1_pay49 v2 q k1_pay30 k1_pay31 (iota Kind.tc S256x128 32 [0] iota_S256x128_d0_w32) k1_pay34 (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb) (ix2 r x) = Ideal.exp2 ((k1_pay47 v2 q k1_pay30 k1_pay31 (iota Kind.tc S256x128 32 [0] iota_S256x128_d0_w32) (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb) (ix2 r x) - ((k1_pay49 v2 q k1_pay30 k1_pay31 (iota Kind.tc S256x128 32 [0] iota_S256x128_d0_w32) k1_pay34 (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb) (ix2 r 0) - ((0 : ℝ) : EReal))) := fun x => by
      pointwise [k1_pay51]
      rw [EReal.coe_zero, sub_zero]; rfl
    have ha : k1_pay53 k1_pay34 (k1_pay49 v2 q k1_pay30 k1_pay31 (iota Kind.tc S256x128 32 [0] iota_S256x128_d0_w32) k1_pay34 (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb) (ix2 r 0) = Ideal.exp2 (k1_pay34 (F := Ideal) (ix2 r 0) - (k1_pay49 v2 q k1_pay30 k1_pay31 (iota Kind.tc S256x128 32 [0] iota_S256x128_d0_w32) k1_pay34 (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb) (ix2 r 0)) := by
      pointwise [k1_pay53]
      rfl
    refine os_first h34 h36 (fun e => h38 ⟨e.val, by omega⟩) hu1 hx hm hp ha ?_ hvv (fun e => ?_) hS
    · pointwise [k1_pay55]
    · pointwise [k1_pay57]
      simp only [mul_zero, sum_const_zero, add_zero, zero_add]
  · have hm : (k1_pay50 k1_pay35 (k1_pay48 v2 q k1_pay30 k1_pay31 (iota Kind.tc S256x128 32 [0] iota_S256x128_d0_w32) (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb)) (ix2 r 0) = max (k1_pay35 (F := Ideal) (ix2 r 0)) ((univ : Finset (Fin 128)).fold max ⊥ (fun x => (k1_pay48 v2 q k1_pay30 k1_pay31 (iota Kind.tc S256x128 32 [0] iota_S256x128_d0_w32) (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb) (ix2 r x)) + ((0 : ℝ) : EReal)) := by
      pointwise [k1_pay50]
      rw [bits_bot, EReal.coe_zero, add_zero]
    have hp : ∀ x : Fin 128, k1_pay52 k1_pay35 (k1_pay48 v2 q k1_pay30 k1_pay31 (iota Kind.tc S256x128 32 [0] iota_S256x128_d0_w32) (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb) (ix2 r x) = Ideal.exp2 ((k1_pay48 v2 q k1_pay30 k1_pay31 (iota Kind.tc S256x128 32 [0] iota_S256x128_d0_w32) (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb) (ix2 r x) - ((k1_pay50 k1_pay35 (k1_pay48 v2 q k1_pay30 k1_pay31 (iota Kind.tc S256x128 32 [0] iota_S256x128_d0_w32) (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb)) (ix2 r 0) - ((0 : ℝ) : EReal))) := fun x => by
      pointwise [k1_pay52]
      rw [EReal.coe_zero, sub_zero]; rfl
    have ha : k1_pay54 k1_pay35 (k1_pay48 v2 q k1_pay30 k1_pay31 (iota Kind.tc S256x128 32 [0] iota_S256x128_d0_w32) (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb) (ix2 r 0) = Ideal.exp2 (k1_pay35 (F := Ideal) (ix2 r 0) - (k1_pay50 k1_pay35 (k1_pay48 v2 q k1_pay30 k1_pay31 (iota Kind.tc S256x128 32 [0] iota_S256x128_d0_w32) (k1_pay39 (iota Kind.tc S256x128 32 [1] iota_S256x128_d1_w32)) (k1_pay40 (iota Kind.tc S256x128 32 [1] iota_S256x128_d1_w32)) 64#32 (k1_pay41 (iota Kind.tc S256x128 32 [0] iota_S256x128_d0_w32)) (k1_pay42 (iota Kind.tc S256x128 32 [0] iota_S256x128_d0_w32)) (k1_pay43 (iota Kind.tc S256x128 32 [0] iota_S256x128_d0_w32)) kb)) (ix2 r 0)) := by
      pointwise [k1_pay54]
      rfl
    refine os_first h35 h37 (fun e => h38 ⟨128 + e.val, by omega⟩) hu2 hx hm hp ha ?_ hvv (fun e => ?_) hS
    · pointwise [k1_pay56]
    · pointwise [k1_pay57]
      simp only [mul_zero, sum_const_zero, add_zero, zero_add]

/-- The second block on the diagonal. -/
theorem da_second
    (hk : ∀ s d : Fin 128, kb (ix3 0 s d) = ((K (t0 + 128 + s.val) d.val : ℝ) : EReal))
    (hv : ∀ s d : Fin 128, vb (ix3 0 s d) = ((Vv (t0 + 128 + s.val) d.val : ℝ) : EReal))
    (m1 m2 l1 l2 : FVec Ideal S256x1 .f32) (acc : FVec Ideal S256x256 .f32)
    (hI : DaInv r Q K Vv sl ρ S m1 m2 l1 l2 acc) (hS : ∀ f : ℕ → ℝ, ∑ k ∈ S', f k = ∑ k ∈ S, f k + ∑ x : Fin 128, f (t0 + 128 + x.val)) :
    DaInv r Q K Vv sl ρ S' (k1_pay68 v2 q k1_pay30 k1_pay31 m1 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (k1_pay69 v2 q k1_pay30 k1_pay31 m2 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (k1_pay75 (k1_pay70 v2 q k1_pay30 k1_pay31 m1 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (k1_pay74 v2 q k1_pay30 k1_pay31 m1 l1 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb)) (k1_pay76 l2 (k1_pay71 v2 q k1_pay30 k1_pay31 m2 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (k1_pay73 v2 q k1_pay30 k1_pay31 m2 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb)) (k1_pay77 acc (k1_pay64 vb) (k1_pay70 v2 q k1_pay30 k1_pay31 m1 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (k1_pay71 v2 q k1_pay30 k1_pay31 m2 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (k1_pay72 v2 q k1_pay30 k1_pay31 m1 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (k1_pay73 v2 q k1_pay30 k1_pay31 m2 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb)) := by
  subst hρ
  have hr := r.isLt
  have hb := bias_second r sl v2 hv2
  have hvis : ∀ x : Fin 128, dvis (t0 + r.val) (t0 + 128 + x.val) ↔ (x.val + 128) / 64 ≤ r.val / 64 := fun x => by unfold dvis; omega
  have habs : ∀ x : Fin 128, |((t0 + r.val : ℕ) : ℝ) - ((t0 + 128 + x.val : ℕ) : ℝ)| = |(r.val : ℝ) - ((x.val + 128 : ℕ) : ℝ)| := fun x => by
    congr 1; push_cast; ring
  have hu1 : ∀ x : Fin 128, (k1_pay66 v2 q k1_pay30 k1_pay31 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (ix2 r x)
      = if dvis (t0 + r.val) (t0 + 128 + x.val) then ((dly Q K sl lo (t0 + r.val) (t0 + 128 + x.val) - 0 : ℝ) : EReal) else ⊥ := fun x => by
    pointwise [k1_pay66]
    rw [show k1_pay65 q k1_pay30 k1_pay31 kb = k1_pay4 q k1_pay30 k1_pay31 kb from rfl, da_score r Q K (t0 + 128) q kb hq hk, hb]
    simp only [hvis]
    split
    · rw [← EReal.coe_add]
      congr 1
      unfold dly
      rw [habs]
      show Cert.SbMath.col _ _ (t0 + 128) x.val + _ = _
      rw [col_lo]; ring
    · rw [EReal.add_bot]
  have hu2 : ∀ x : Fin 128, (k1_pay67 v2 q k1_pay30 k1_pay31 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (ix2 r x)
      = if dvis (t0 + r.val) (t0 + 128 + x.val) then ((dly Q K sl hi (t0 + r.val) (t0 + 128 + x.val) - 0 : ℝ) : EReal) else ⊥ := fun x => by
    pointwise [k1_pay67]
    rw [show k1_pay65 q k1_pay30 k1_pay31 kb = k1_pay4 q k1_pay30 k1_pay31 kb from rfl, da_score r Q K (t0 + 128) q kb hq hk, hb]
    simp only [hvis]
    split
    · rw [← EReal.coe_add]
      congr 1
      unfold dly
      rw [habs]
      show Cert.SbMath.col _ _ (t0 + 128) (128 + x.val) + _ = _
      rw [col_hi]; ring
    · rw [EReal.add_bot]
  have hvv : ∀ x e : Fin 128, k1_pay64 vb (ix2 x e) = ((Vv (t0 + 128 + x.val) e.val : ℝ) : EReal) := fun x e => by
    pointwise [k1_pay64]
    exact hv x e
  constructor
  · have hm : (k1_pay68 v2 q k1_pay30 k1_pay31 m1 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (ix2 r 0) = max (m1 (ix2 r 0)) ((univ : Finset (Fin 128)).fold max ⊥ (fun x => (k1_pay66 v2 q k1_pay30 k1_pay31 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (ix2 r x)) + ((0 : ℝ) : EReal)) := by
      pointwise [k1_pay68]
      rw [bits_bot, EReal.coe_zero, add_zero]
    have hp : ∀ x : Fin 128, (k1_pay70 v2 q k1_pay30 k1_pay31 m1 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (ix2 r x) = Ideal.exp2 ((k1_pay66 v2 q k1_pay30 k1_pay31 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (ix2 r x) - ((k1_pay68 v2 q k1_pay30 k1_pay31 m1 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (ix2 r 0) - ((0 : ℝ) : EReal))) := fun x => by
      pointwise [k1_pay70]
      rw [EReal.coe_zero, sub_zero]; rfl
    have ha : (k1_pay72 v2 q k1_pay30 k1_pay31 m1 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (ix2 r 0) = Ideal.exp2 (m1 (ix2 r 0) - (k1_pay68 v2 q k1_pay30 k1_pay31 m1 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (ix2 r 0)) := by
      pointwise [k1_pay72]
      rfl
    refine os_step hI.a hu1 hm hp ha ?_ hvv (fun e => ?_) hS
    · pointwise [k1_pay75, k1_pay74]
    · pointwise [k1_pay77]
      simp only [mul_zero, sum_const_zero, add_zero, zero_add]
  · have hm : (k1_pay69 v2 q k1_pay30 k1_pay31 m2 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (ix2 r 0) = max (m2 (ix2 r 0)) ((univ : Finset (Fin 128)).fold max ⊥ (fun x => (k1_pay67 v2 q k1_pay30 k1_pay31 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (ix2 r x)) + ((0 : ℝ) : EReal)) := by
      pointwise [k1_pay69]
      rw [bits_bot, EReal.coe_zero, add_zero]
    have hp : ∀ x : Fin 128, (k1_pay71 v2 q k1_pay30 k1_pay31 m2 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (ix2 r x) = Ideal.exp2 ((k1_pay67 v2 q k1_pay30 k1_pay31 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (ix2 r x) - ((k1_pay69 v2 q k1_pay30 k1_pay31 m2 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (ix2 r 0) - ((0 : ℝ) : EReal))) := fun x => by
      pointwise [k1_pay71]
      rw [EReal.coe_zero, sub_zero]; rfl
    have ha : (k1_pay73 v2 q k1_pay30 k1_pay31 m2 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (ix2 r 0) = Ideal.exp2 (m2 (ix2 r 0) - (k1_pay69 v2 q k1_pay30 k1_pay31 m2 (k1_pay61 (iota Kind.tc S256x128 32 [0] iota_S256x128_d0_w32) (k1_pay58 (iota Kind.tc S256x128 32 [1] iota_S256x128_d1_w32)) 64#32 (k1_pay59 (iota Kind.tc S256x128 32 [1] iota_S256x128_d1_w32)) k1_pay60) (k1_pay62 (iota Kind.tc S256x128 32 [0] iota_S256x128_d0_w32) (k1_pay58 (iota Kind.tc S256x128 32 [1] iota_S256x128_d1_w32))) kb) (ix2 r 0)) := by
      pointwise [k1_pay73]
      rfl
    refine os_step hI.b hu2 hm hp ha ?_ hvv (fun e => ?_) hS
    · pointwise [k1_pay76]
    · pointwise [k1_pay77]
      simp only [mul_zero, sum_const_zero, add_zero, zero_add]
end Diag
end Row
end Cert.KernelIdeal.Value
-- ==== Proof.Region2Loop.lean ====
module

public import proofs.«01_k».proof.Proof.Gen.KernelIdeal.Frame
public import Idealize.ShloMosaic.Lib.Pipeline.ValueKit
public import Idealize.ShloMosaic.Lib.Pointwise
public import proofs.«01_k».proof.Proof.SbMath
public import proofs.«01_k».proof.Proof.Region2

@[expose] public section

set_option maxRecDepth 16384

noncomputable section
open Idealize.ShloMosaic Idealize.ShloMosaic.TcCoe Idealize.SL.Sem
open Idealize.ShloMosaic.Pipeline (Dat)
namespace Cert.KernelIdeal.Value
open Cert.KernelIdeal Cert.KernelIdeal.Gen
variable (V : (c : Dev nD) → (b : Ref sig .tc) → Buf (Elt Ideal) ((c : Thread nD τ).loc b))
open Cert.RealKit Cert.SbMath

/-- One trip over the keys, as its payloads. -/
theorem trip2_eq (𝒱 : Variants) (c : Dev nD) (bd : Option 𝒱.V) (i : grid2.Coords) (arg3 : Memref sig .tc .vmem S1x128 .f32) (harg3 : arg3.IsWhole) (arg4 : Memref sig .tc .vmem S1x256x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x256x128 .bf16) (harg7 : arg7.IsWhole) (arg2 : BitVec 32) (v2 : FVec Ideal S256x128 .bf16) (v9 : FVec Ideal S1x128 .bf16) (v15 : FVec Ideal S1x128 .bf16) (v90 : FVec Ideal S256x256 .bf16) (v144 : FVec Ideal S256x128 .f32) (v148 : FVec Ideal S256x1 .f32) (v152 : FVec Ideal S256x1 .f32) (v154 : IVec S256x256 1) (v160 : FVec Ideal S128x128 .bf16) (v166 : FVec Ideal S256x256 .f32) (v168 : FVec Ideal S256x256 .f32) (v175 : FVec Ideal S256x256 .f32) (cst_53 : Ideal .f32) (X_arg5 : BufTy.Contents (Elt Ideal) arg5.view.ty) (X_arg6 : BufTy.Contents (Elt Ideal) arg6.view.ty) (k : Fin (k2_t1_loop i).trips) (acc : FVec Ideal S256x1 .f32 × FVec Ideal S256x1 .f32 × FVec Ideal S256x128 .f32) : tripR_k2_t1 (F := Ideal) 𝒱 c bd i arg3 harg3 arg4 harg4 arg5 harg5 arg6 harg6 arg7 harg7 arg2 v2 v9 v15 v90 v144 v148 v152 v154 v160 v166 v168 v175 cst_53 X_arg5 X_arg6 k acc = (k2_pay40 acc.1 (k2_pay3 v2 v9 v15 (View.ld (View.read (Elt Ideal) arg5.view X_arg5) (Rect.unit (s := S1x2048x128) (k2_off3 i k) S1x128x128.size (k2_off3_inb i k)))), k2_pay41 acc.2.1 (k2_pay3 v2 v9 v15 (View.ld (View.read (Elt Ideal) arg5.view X_arg5) (Rect.unit (s := S1x2048x128) (k2_off3 i k) S1x128x128.size (k2_off3_inb i k)))),
    k2_pay39 acc.2.2 (k2_pay4 v9 v15 (View.ld (View.read (Elt Ideal) arg6.view X_arg6) (Rect.unit (s := S1x2048x128) (k2_off3 i k) S1x128x128.size (k2_off3_inb i k)))) (k2_pay5 v2 v9 v15 v90 acc.1 acc.2.1 (View.ld (View.read (Elt Ideal) arg5.view X_arg5) (Rect.unit (s := S1x2048x128) (k2_off3 i k) S1x128x128.size (k2_off3_inb i k)))) (constant S256x128 FTy.f32 0#32)) := by
  unfold tripR_k2_t1 trip_k2_t1
  frame_out

theorem ld3 (X : Vec Ideal S1x2048x128 .bf16) (off : Fin 3 → ℕ) (n : ℕ) (h0 : off = ![0, n, 0]) (inb : ∀ a, off a + S1x128x128.size a ≤ S1x2048x128.size a)
    (f : ℕ → ℕ → ℝ) (hX : ∀ (s : Fin 2048) (d : Fin 128), X (ix3 0 s d) = ((f s.val d.val : ℝ) : EReal)) (s d : Fin 128) :
    View.ld X (Rect.unit (s := S1x2048x128) off S1x128x128.size inb) (ix3 0 s d) = ((f (n + s.val) d.val : ℝ) : EReal) := by
  subst h0
  have hb : n + 128 ≤ 2048 := inb 1
  rw [← hX ⟨n + s.val, by omega⟩ d]
  refine View.ld_unit_apply_of X _ _ inb _ _ fun a => ?_
  fin_cases a
  · show 0 = 0 + 0; rfl
  · rfl
  · show d.val = 0 + d.val; omega

theorem off1_val (i : grid2.Coords) : k2_off1 i = ![0, 256 * (i 2).val + 128, 0] := by
  unfold k2_off1
  have : ∀ a : Fin 8, (Scalar.indexCast (Scalar.addi (Scalar.muli (BitVec.ofNat 32 a.val) 256#32) 128#32)).toNat = 256 * a.val + 128 := by decide +kernel
  exact congrArg (fun n => ![0, n, 0]) (this (i 2))

theorem off2_val (i : grid2.Coords) : k2_off2 i = ![0, 256 * (i 2).val, 0] := by
  unfold k2_off2
  have : ∀ a : Fin 8, (Scalar.indexCast (Scalar.muli (BitVec.ofNat 32 a.val) 256#32)).toNat = 256 * a.val := by decide +kernel
  exact congrArg (fun n => ![0, n, 0]) (this (i 2))

theorem trips1 (i : grid2.Coords) : (k2_t1_loop i).trips = 2 * (i 2).val := by
  have : ∀ a : Fin 8, Scf.trips (0#32) (Scalar.addi 0#32 (Scalar.muli (Scalar.divsi (Scalar.subi (Scalar.muli 2#32 (BitVec.ofNat 32 a.val)) 0#32) 1#32) 1#32)) 1#32 = 2 * a.val := by decide +kernel
  exact this (i 2)

theorem trips2 (i : grid2.Coords) : (k2_t2_loop i).trips = 0 := by
  have : ∀ a : Fin 8, Scf.trips (Scalar.addi 0#32 (Scalar.muli (Scalar.divsi (Scalar.subi (Scalar.muli 2#32 (BitVec.ofNat 32 a.val)) 0#32) 1#32) 1#32)) (Scalar.addi 0#32 (Scalar.subi (Scalar.muli 2#32 (BitVec.ofNat 32 a.val)) 0#32)) 1#32 = 0 := by decide +kernel
  exact this (i 2)

theorem off3_val (i : grid2.Coords) (k : Fin (k2_t1_loop i).trips) : k2_off3 i k = ![0, 256 * (i 2).val - 128 * (k.val + 1), 0] := by
  have hk : k.val < 2 * (i 2).val := (trips1 i) ▸ k.isLt
  have h8 : (i 2).val < 8 := (i 2).isLt
  unfold k2_off3
  have : ∀ a : Fin 8, ∀ m : Fin 16, m.val < 2 * a.val → (Scalar.indexCast (Scalar.muli (Scalar.subi (Scalar.subi (Scalar.muli 2#32 (BitVec.ofNat 32 a.val)) 1#32) (Scf.iv 0#32 1#32 m.val)) 128#32)).toNat = 256 * a.val - 128 * (m.val + 1) := by decide +kernel
  exact congrArg (fun n => ![0, n, 0]) (this (i 2) ⟨k.val, by omega⟩ hk)

section Loop
variable (r : Fin 256) (Q : ℕ → ℝ) (K Vv : ℕ → ℕ → ℝ) (ρ T : ℕ)

/-- The loop over the keys below the query block. -/
theorem inv_t1 (𝒱 : Variants) (c : Dev nD) (bd : Option 𝒱.V) (i : grid2.Coords) (arg3 : Memref sig .tc .vmem S1x128 .f32) (harg3 : arg3.IsWhole) (arg4 : Memref sig .tc .vmem S1x256x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x256x128 .bf16) (harg7 : arg7.IsWhole) (arg2 : BitVec 32) (v2 : FVec Ideal S256x128 .bf16) (v9 : FVec Ideal S1x128 .bf16) (v15 : FVec Ideal S1x128 .bf16) (v90 : FVec Ideal S256x256 .bf16) (v144 : FVec Ideal S256x128 .f32) (v148 : FVec Ideal S256x1 .f32) (v152 : FVec Ideal S256x1 .f32) (v154 : IVec S256x256 1) (v160 : FVec Ideal S128x128 .bf16) (v166 : FVec Ideal S256x256 .f32) (v168 : FVec Ideal S256x256 .f32) (v175 : FVec Ideal S256x256 .f32) (cst_53 : Ideal .f32) (X_arg5 : BufTy.Contents (Elt Ideal) arg5.view.ty) (X_arg6 : BufTy.Contents (Elt Ideal) arg6.view.ty) (init : FVec Ideal S256x1 .f32 × FVec Ideal S256x1 .f32 × FVec Ideal S256x128 .f32) (hv9 : v9 = k2_pay11) (hv15 : v15 = k2_pay12) (hv90 : v90 = tri)
    (hq : ∀ d : Fin 128, v2 (ix2 r d) = ((Q d.val : ℝ) : EReal))
    (hk : ∀ (s : Fin 2048) (d : Fin 128), (View.read (Elt Ideal) arg5.view X_arg5 : Vec Ideal S1x2048x128 .bf16) (ix3 0 s d) = ((K s.val d.val : ℝ) : EReal))
    (hv : ∀ (s : Fin 2048) (d : Fin 128), (View.read (Elt Ideal) arg6.view X_arg6 : Vec Ideal S1x2048x128 .bf16) (ix3 0 s d) = ((Vv s.val d.val : ℝ) : EReal))
    (hρ : 256 * (i 2).val ≤ ρ) (hT : 256 * (i 2).val ≤ T)
    (hi : SbInv Q K Vv ρ T (256 * (i 2).val) r init.1 init.2.1 init.2.2) (k : ℕ) (hkt : k ≤ 2 * (i 2).val) :
    SbInv Q K Vv ρ T (256 * (i 2).val - 128 * k) r (st_k2_t1 (F := Ideal) 𝒱 c bd i arg3 harg3 arg4 harg4 arg5 harg5 arg6 harg6 arg7 harg7 arg2 v2 v9 v15 v90 v144 v148 v152 v154 v160 v166 v168 v175 cst_53 X_arg5 X_arg6 init k).1
      (st_k2_t1 (F := Ideal) 𝒱 c bd i arg3 harg3 arg4 harg4 arg5 harg5 arg6 harg6 arg7 harg7 arg2 v2 v9 v15 v90 v144 v148 v152 v154 v160 v166 v168 v175 cst_53 X_arg5 X_arg6 init k).2.1 (st_k2_t1 (F := Ideal) 𝒱 c bd i arg3 harg3 arg4 harg4 arg5 harg5 arg6 harg6 arg7 harg7 arg2 v2 v9 v15 v90 v144 v148 v152 v154 v160 v166 v168 v175 cst_53 X_arg5 X_arg6 init k).2.2 := by
  subst hv9 hv15 hv90
  induction k with
  | zero => exact hi
  | succ k ih =>
    have hlt : k < (k2_t1_loop i).trips := by rw [trips1]; omega
    have ih := ih (by omega)
    rw [st_k2_t1_succ (F := Ideal) 𝒱 c bd i arg3 harg3 arg4 harg4 arg5 harg5 arg6 harg6 arg7 harg7 arg2 v2 k2_pay11 k2_pay12 tri v144 v148 v152 v154 v160 v166 v168 v175 cst_53 X_arg5 X_arg6 init ⟨k, hlt⟩, trip2_eq]
    have ho := off3_val i ⟨k, hlt⟩
    rw [show 256 * (i 2).val - 128 * k = 256 * (i 2).val - 128 * (k + 1) + 128 by omega] at ih
    exact step_low r Q K _ Vv ρ T v2 _ _ hq (ld3 _ _ _ ho _ K hk) (ld3 _ _ _ ho _ Vv hv) (by omega) (by omega) _ _ _ ih

theorem inv_t1_end (𝒱 : Variants) (c : Dev nD) (bd : Option 𝒱.V) (i : grid2.Coords) (arg3 : Memref sig .tc .vmem S1x128 .f32) (harg3 : arg3.IsWhole) (arg4 : Memref sig .tc .vmem S1x256x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x256x128 .bf16) (harg7 : arg7.IsWhole) (arg2 : BitVec 32) (v2 : FVec Ideal S256x128 .bf16) (v9 : FVec Ideal S1x128 .bf16) (v15 : FVec Ideal S1x128 .bf16) (v90 : FVec Ideal S256x256 .bf16) (v144 : FVec Ideal S256x128 .f32) (v148 : FVec Ideal S256x1 .f32) (v152 : FVec Ideal S256x1 .f32) (v154 : IVec S256x256 1) (v160 : FVec Ideal S128x128 .bf16) (v166 : FVec Ideal S256x256 .f32) (v168 : FVec Ideal S256x256 .f32) (v175 : FVec Ideal S256x256 .f32) (cst_53 : Ideal .f32) (X_arg5 : BufTy.Contents (Elt Ideal) arg5.view.ty) (X_arg6 : BufTy.Contents (Elt Ideal) arg6.view.ty) (init : FVec Ideal S256x1 .f32 × FVec Ideal S256x1 .f32 × FVec Ideal S256x128 .f32) (hv9 : v9 = k2_pay11) (hv15 : v15 = k2_pay12) (hv90 : v90 = tri)
    (hq : ∀ d : Fin 128, v2 (ix2 r d) = ((Q d.val : ℝ) : EReal))
    (hk : ∀ (s : Fin 2048) (d : Fin 128), (View.read (Elt Ideal) arg5.view X_arg5 : Vec Ideal S1x2048x128 .bf16) (ix3 0 s d) = ((K s.val d.val : ℝ) : EReal))
    (hv : ∀ (s : Fin 2048) (d : Fin 128), (View.read (Elt Ideal) arg6.view X_arg6 : Vec Ideal S1x2048x128 .bf16) (ix3 0 s d) = ((Vv s.val d.val : ℝ) : EReal))
    (hρ : 256 * (i 2).val ≤ ρ) (hT : 256 * (i 2).val ≤ T)
    (hi : SbInv Q K Vv ρ T (256 * (i 2).val) r init.1 init.2.1 init.2.2) (k : ℕ) (hkt : k = (k2_t1_loop i).trips) :
    SbInv Q K Vv ρ T 0 r (st_k2_t1 (F := Ideal) 𝒱 c bd i arg3 harg3 arg4 harg4 arg5 harg5 arg6 harg6 arg7 harg7 arg2 v2 v9 v15 v90 v144 v148 v152 v154 v160 v166 v168 v175 cst_53 X_arg5 X_arg6 init k).1
      (st_k2_t1 (F := Ideal) 𝒱 c bd i arg3 harg3 arg4 harg4 arg5 harg5 arg6 harg6 arg7 harg7 arg2 v2 v9 v15 v90 v144 v148 v152 v154 v160 v166 v168 v175 cst_53 X_arg5 X_arg6 init k).2.1 (st_k2_t1 (F := Ideal) 𝒱 c bd i arg3 harg3 arg4 harg4 arg5 harg5 arg6 harg6 arg7 harg7 arg2 v2 v9 v15 v90 v144 v148 v152 v154 v160 v166 v168 v175 cst_53 X_arg5 X_arg6 init k).2.2 := by
  rw [trips1] at hkt
  have := inv_t1 r Q K Vv ρ T 𝒱 c bd i arg3 harg3 arg4 harg4 arg5 harg5 arg6 harg6 arg7 harg7 arg2 v2 v9 v15 v90 v144 v148 v152 v154 v160 v166 v168 v175 cst_53 X_arg5 X_arg6 init hv9 hv15 hv90 hq hk hv hρ hT hi k hkt.le
  rwa [show 256 * (i 2).val - 128 * k = 0 by omega] at this

/-- The second loop runs no trip. -/
theorem st2_zero (𝒱 : Variants) (c : Dev nD) (bd : Option 𝒱.V) (i : grid2.Coords) (arg3 : Memref sig .tc .vmem S1x128 .f32) (harg3 : arg3.IsWhole) (arg4 : Memref sig .tc .vmem S1x256x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x256x128 .bf16) (harg7 : arg7.IsWhole) (arg2 : BitVec 32) (v2 : FVec Ideal S256x128 .bf16) (v9 : FVec Ideal S1x128 .bf16) (v15 : FVec Ideal S1x128 .bf16) (v90 : FVec Ideal S256x256 .bf16) (v144 : FVec Ideal S256x128 .f32) (v148 : FVec Ideal S256x1 .f32) (v152 : FVec Ideal S256x1 .f32) (v154 : IVec S256x256 1) (v160 : FVec Ideal S128x128 .bf16) (v166 : FVec Ideal S256x256 .f32) (v168 : FVec Ideal S256x256 .f32) (v175 : FVec Ideal S256x256 .f32) (cst_53 : Ideal .f32) (v214 : BitVec 32) (X_arg5 : BufTy.Contents (Elt Ideal) arg5.view.ty) (X_arg6 : BufTy.Contents (Elt Ideal) arg6.view.ty) (init : FVec Ideal S256x1 .f32 × FVec Ideal S256x1 .f32 × FVec Ideal S256x128 .f32) (k : ℕ) (hk : k = (k2_t2_loop i).trips) : st_k2_t2 (F := Ideal) 𝒱 c bd i arg3 harg3 arg4 harg4 arg5 harg5 arg6 harg6 arg7 harg7 arg2 v2 v9 v15 v90 v144 v148 v152 v154 v160 v166 v168 v175 cst_53 v214 X_arg5 X_arg6 init k = init := by
  rw [trips2] at hk
  subst hk
  exact st_k2_t2_zero (F := Ideal) 𝒱 c bd i arg3 harg3 arg4 harg4 arg5 harg5 arg6 harg6 arg7 harg7 arg2 v2 v9 v15 v90 v144 v148 v152 v154 v160 v166 v168 v175 cst_53 v214 X_arg5 X_arg6 init

end Loop
end Cert.KernelIdeal.Value
-- ==== Proof.Region1Loop.lean ====
module

public import proofs.«01_k».proof.Proof.Gen.KernelIdeal.Frame
public import Idealize.ShloMosaic.Lib.Pipeline.ValueKit
public import Idealize.ShloMosaic.Lib.Pointwise
public import proofs.«01_k».proof.Proof.Region1
public import proofs.«01_k».proof.Proof.Region2Loop

@[expose] public section

set_option maxRecDepth 16384

noncomputable section
open Idealize.ShloMosaic Idealize.ShloMosaic.TcCoe Idealize.SL.Sem
open Idealize.ShloMosaic.Pipeline (Dat)
namespace Cert.KernelIdeal.Value
open Cert.KernelIdeal Cert.KernelIdeal.Gen
variable (V : (c : Dev nD) → (b : Ref sig .tc) → Buf (Elt Ideal) ((c : Thread nD τ).loc b))
open Cert.RealKit Cert.DaMath Finset

/-- One trip over the keys, as its payloads. -/
theorem trip1_eq (𝒱 : Variants) (c : Dev nD) (bd : Option 𝒱.V) (i : grid1.Coords) (arg3 : Memref sig .tc .smem S4 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S1x256x128 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x256x128 .bf16) (harg12 : arg12.IsWhole) (arg2 : BitVec 32) (v0 : BitVec 32) (v2 : Elt Ideal .f32) (v17 : FVec Ideal S1x1 .f32) (v19 : FVec Ideal S256x128 .bf16) (v26 : FVec Ideal S1x128 .bf16) (v32 : FVec Ideal S1x128 .bf16) (v39 : FVec Ideal S256x128 .f32) (v152 : FVec Ideal S256x1 .f32) (v166 : FVec Ideal S256x256 .f32) (v233 : FVec Ideal S128x128 .bf16) (v248 : FVec Ideal S256x1 .f32) (v253 : FVec Ideal S256x1 .f32) (v258 : FVec Ideal S256x128 .f32) (v263 : FVec Ideal S256x128 .f32) (v265 : FVec Ideal S256x1 .f32) (v267 : FVec Ideal S256x1 .f32) (v268 : FVec Ideal S256x1 .f32) (X_arg10 : BufTy.Contents (Elt Ideal) arg10.view.ty) (X_arg11 : BufTy.Contents (Elt Ideal) arg11.view.ty) (k : Fin (k1_t1_loop i).trips) (acc : FVec Ideal S256x1 .f32 × FVec Ideal S256x1 .f32 × FVec Ideal S256x1 .f32 × FVec Ideal S256x1 .f32 × FVec Ideal S256x256 .f32) : tripR_k1_t1 (F := Ideal) 𝒱 c bd i arg3 harg3 arg4 harg4 arg5 harg5 arg6 harg6 arg7 harg7 arg8 harg8 arg9 harg9 arg10 harg10 arg11 harg11 arg12 harg12 arg2 v0 v2 v17 v19 v26 v32 v39 v152 v166 v233 v248 v253 v258 v263 v265 v267 v268 X_arg10 X_arg11 k acc = (k1_pay7 i v0 v2 v19 v26 v32 v39 0#32 1#32 k acc.1 (View.ld (View.read (Elt Ideal) arg10.view X_arg10) (Rect.unit (s := S1x2048x128) (k1_off4 i k) S1x128x128.size (k1_off4_inb i k))), k1_pay8 i v0 v2 v19 v26 v32 v39 0#32 1#32 k acc.2.1 (View.ld (View.read (Elt Ideal) arg10.view X_arg10) (Rect.unit (s := S1x2048x128) (k1_off4 i k) S1x128x128.size (k1_off4_inb i k))),
    k1_pay78 (k1_pay13 i v0 v2 v19 v26 v32 v39 0#32 1#32 k acc.1 acc.2.2.1 (View.ld (View.read (Elt Ideal) arg10.view X_arg10) (Rect.unit (s := S1x2048x128) (k1_off4 i k) S1x128x128.size (k1_off4_inb i k)))) (k1_pay14 i v0 v2 v19 v26 v32 v39 0#32 1#32 k acc.1 (View.ld (View.read (Elt Ideal) arg10.view X_arg10) (Rect.unit (s := S1x2048x128) (k1_off4 i k) S1x128x128.size (k1_off4_inb i k)))),
    k1_pay79 acc.2.2.2.1 (k1_pay10 i v0 v2 v19 v26 v32 v39 0#32 1#32 k acc.2.1 (View.ld (View.read (Elt Ideal) arg10.view X_arg10) (Rect.unit (s := S1x2048x128) (k1_off4 i k) S1x128x128.size (k1_off4_inb i k)))) (k1_pay12 i v0 v2 v19 v26 v32 v39 0#32 1#32 k acc.2.1 (View.ld (View.read (Elt Ideal) arg10.view X_arg10) (Rect.unit (s := S1x2048x128) (k1_off4 i k) S1x128x128.size (k1_off4_inb i k)))),
    k1_pay80 acc.2.2.2.2 (k1_pay3 (View.ld (View.read (Elt Ideal) arg11.view X_arg11) (Rect.unit (s := S1x2048x128) (k1_off4 i k) S1x128x128.size (k1_off4_inb i k)))) (k1_pay9 i v0 v2 v19 v26 v32 v39 0#32 1#32 k acc.1 (View.ld (View.read (Elt Ideal) arg10.view X_arg10) (Rect.unit (s := S1x2048x128) (k1_off4 i k) S1x128x128.size (k1_off4_inb i k)))) (k1_pay10 i v0 v2 v19 v26 v32 v39 0#32 1#32 k acc.2.1 (View.ld (View.read (Elt Ideal) arg10.view X_arg10) (Rect.unit (s := S1x2048x128) (k1_off4 i k) S1x128x128.size (k1_off4_inb i k)))) (k1_pay11 i v0 v2 v19 v26 v32 v39 0#32 1#32 k acc.1 (View.ld (View.read (Elt Ideal) arg10.view X_arg10) (Rect.unit (s := S1x2048x128) (k1_off4 i k) S1x128x128.size (k1_off4_inb i k)))) (k1_pay12 i v0 v2 v19 v26 v32 v39 0#32 1#32 k acc.2.1 (View.ld (View.read (Elt Ideal) arg10.view X_arg10) (Rect.unit (s := S1x2048x128) (k1_off4 i k) S1x128x128.size (k1_off4_inb i k))))) := by
  unfold tripR_k1_t1 trip_k1_t1
  frame_out
  rfl

theorem da_off2 (i : grid1.Coords) : k1_off2 i = ![0, 256 * (i 2).val, 0] := by
  unfold k1_off2
  have : ∀ a : Fin 8, (Scalar.indexCast (Scalar.muli (BitVec.ofNat 32 a.val) 256#32)).toNat = 256 * a.val := by decide +kernel
  exact congrArg (fun n => ![0, n, 0]) (this (i 2))

theorem da_off3 (i : grid1.Coords) : k1_off3 i = ![0, 256 * (i 2).val + 128, 0] := by
  unfold k1_off3
  have : ∀ a : Fin 8, (Scalar.indexCast (Scalar.addi (Scalar.muli (BitVec.ofNat 32 a.val) 256#32) 128#32)).toNat = 256 * a.val + 128 := by decide +kernel
  exact congrArg (fun n => ![0, n, 0]) (this (i 2))

theorem da_off1 (i : grid1.Coords) : k1_off1 i = ![(i 1).val] := by
  unfold k1_off1
  have : ∀ a : Fin 4, (Scalar.indexCast (BitVec.ofNat 32 a.val)).toNat = a.val := by decide +kernel
  exact congrArg (fun n => ![n]) (this (i 1))

theorem da_trips1 (i : grid1.Coords) : (k1_t1_loop i).trips = 2 * (i 2).val := by
  have : ∀ a : Fin 8, Scf.trips (0#32) (Scalar.addi 0#32 (Scalar.muli (Scalar.divsi (Scalar.subi (Scalar.muli 2#32 (BitVec.ofNat 32 a.val)) 0#32) 1#32) 1#32)) 1#32 = 2 * a.val := by decide +kernel
  exact this (i 2)

theorem da_trips2 (i : grid1.Coords) : (k1_t2_loop i).trips = 0 := by
  have : ∀ a : Fin 8, Scf.trips (Scalar.addi 0#32 (Scalar.muli (Scalar.divsi (Scalar.subi (Scalar.muli 2#32 (BitVec.ofNat 32 a.val)) 0#32) 1#32) 1#32)) (Scalar.addi 0#32 (Scalar.subi (Scalar.muli 2#32 (BitVec.ofNat 32 a.val)) 0#32)) 1#32 = 0 := by decide +kernel
  exact this (i 2)

theorem da_off4 (i : grid1.Coords) (k : Fin (k1_t1_loop i).trips) : k1_off4 i k = ![0, 128 * k.val, 0] := by
  have hk : k.val < 2 * (i 2).val := (da_trips1 i) ▸ k.isLt
  have h8 : (i 2).val < 8 := (i 2).isLt
  unfold k1_off4
  have : ∀ m : Fin 16, (Scalar.indexCast (Scalar.muli (Scf.iv 0#32 1#32 m.val) 128#32)).toNat = 128 * m.val := by decide +kernel
  exact congrArg (fun n => ![0, n, 0]) (this ⟨k.val, by omega⟩)

/-- The keys taken in once the diagonal's two blocks and the first `k` blocks are. -/
def dS (t0 k : ℕ) : Finset ℕ := Ico t0 (t0 + 256) ∪ range (128 * k)

theorem dS_sum (t0 k : ℕ) (h : 128 * k ≤ t0) (f : ℕ → ℝ) : ∑ x ∈ dS t0 k, f x = ∑ x ∈ Ico t0 (t0 + 256), f x + ∑ x ∈ range (128 * k), f x := by
  unfold dS
  refine sum_union (disjoint_left.mpr fun x hx hx' => ?_)
  rw [mem_Ico] at hx; rw [mem_range] at hx'; omega

theorem dS_step (t0 k : ℕ) (h : 128 * (k + 1) ≤ t0) (f : ℕ → ℝ) : ∑ x ∈ dS t0 (k + 1), f x = ∑ x ∈ dS t0 k, f x + ∑ x : Fin 128, f (128 * k + x.val) := by
  rw [dS_sum _ _ h, dS_sum _ _ (by omega), add_assoc, show 128 * (k + 1) = 128 * k + 128 by ring, sum_range_split, sum_fin 128 (fun x => f (128 * k + x))]

theorem dS_end (t0 k : ℕ) (h : t0 = 128 * k) : dS t0 k = range (t0 + 256) := by
  unfold dS; ext x; simp only [mem_union, mem_Ico, mem_range]; omega

theorem dS_zero (t0 : ℕ) (f : ℕ → ℝ) : ∑ x ∈ dS t0 0, f x = ∑ x ∈ Ico t0 (t0 + 128), f x + ∑ x : Fin 128, f (t0 + 128 + x.val) := by
  rw [dS_sum _ _ (by omega), mul_zero, range_zero, sum_empty, add_zero, sum_fin 128 (fun x => f (t0 + 128 + x)), ← sum_Ico_consecutive f (show t0 ≤ t0 + 128 by omega) (show t0 + 128 ≤ t0 + 256 by omega), sum_Ico_eq_sum_range f (t0 + 128),
    show t0 + 256 - (t0 + 128) = 128 by omega]

theorem Ico_first (t0 : ℕ) (f : ℕ → ℝ) : ∑ x ∈ Ico t0 (t0 + 128), f x = ∑ x : Fin 128, f (t0 + x.val) := by
  rw [sum_fin 128 (fun x => f (t0 + x)), sum_Ico_eq_sum_range, show t0 + 128 - t0 = 128 by omega]

section Loop
variable (r : Fin 256) (Q : ℕ → ℝ) (K Vv : ℕ → ℕ → ℝ) (sl : ℝ) (ρ : ℕ)

/-- The loop over the keys below the query block. -/
theorem da_inv (𝒱 : Variants) (c : Dev nD) (bd : Option 𝒱.V) (i : grid1.Coords) (arg3 : Memref sig .tc .smem S4 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S1x256x128 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x256x128 .bf16) (harg12 : arg12.IsWhole) (arg2 : BitVec 32) (v0 : BitVec 32) (v2 : Elt Ideal .f32) (v17 : FVec Ideal S1x1 .f32) (v19 : FVec Ideal S256x128 .bf16) (v26 : FVec Ideal S1x128 .bf16) (v32 : FVec Ideal S1x128 .bf16) (v39 : FVec Ideal S256x128 .f32) (v152 : FVec Ideal S256x1 .f32) (v166 : FVec Ideal S256x256 .f32) (v233 : FVec Ideal S128x128 .bf16) (v248 : FVec Ideal S256x1 .f32) (v253 : FVec Ideal S256x1 .f32) (v258 : FVec Ideal S256x128 .f32) (v263 : FVec Ideal S256x128 .f32) (v265 : FVec Ideal S256x1 .f32) (v267 : FVec Ideal S256x1 .f32) (v268 : FVec Ideal S256x1 .f32) (X_arg10 : BufTy.Contents (Elt Ideal) arg10.view.ty) (X_arg11 : BufTy.Contents (Elt Ideal) arg11.view.ty) (init : FVec Ideal S256x1 .f32 × FVec Ideal S256x1 .f32 × FVec Ideal S256x1 .f32 × FVec Ideal S256x1 .f32 × FVec Ideal S256x256 .f32) (hv26 : v26 = k1_pay30) (hv32 : v32 = k1_pay31) (hv39 : v39 = k1_pay33 v2 k1_pay32) (hv0 : v0 = BitVec.ofNat 32 (256 * (i 2).val)) (hv2 : v2 = ((sl : ℝ) : EReal))
    (hq : ∀ d : Fin 128, v19 (ix2 r d) = ((Q d.val : ℝ) : EReal))
    (hk : ∀ (s : Fin 2048) (d : Fin 128), (View.read (Elt Ideal) arg10.view X_arg10 : Vec Ideal S1x2048x128 .bf16) (ix3 0 s d) = ((K s.val d.val : ℝ) : EReal))
    (hv : ∀ (s : Fin 2048) (d : Fin 128), (View.read (Elt Ideal) arg11.view X_arg11 : Vec Ideal S1x2048x128 .bf16) (ix3 0 s d) = ((Vv s.val d.val : ℝ) : EReal))
    (hρ : ρ = 256 * (i 2).val + r.val)
    (hi : DaInv r Q K Vv sl ρ (dS (256 * (i 2).val) 0) init.1 init.2.1 init.2.2.1 init.2.2.2.1 init.2.2.2.2) (k : ℕ) (hkt : k ≤ 2 * (i 2).val) :
    DaInv r Q K Vv sl ρ (dS (256 * (i 2).val) k) (st_k1_t1 (F := Ideal) 𝒱 c bd i arg3 harg3 arg4 harg4 arg5 harg5 arg6 harg6 arg7 harg7 arg8 harg8 arg9 harg9 arg10 harg10 arg11 harg11 arg12 harg12 arg2 v0 v2 v17 v19 v26 v32 v39 v152 v166 v233 v248 v253 v258 v263 v265 v267 v268 X_arg10 X_arg11 init k).1 (st_k1_t1 (F := Ideal) 𝒱 c bd i arg3 harg3 arg4 harg4 arg5 harg5 arg6 harg6 arg7 harg7 arg8 harg8 arg9 harg9 arg10 harg10 arg11 harg11 arg12 harg12 arg2 v0 v2 v17 v19 v26 v32 v39 v152 v166 v233 v248 v253 v258 v263 v265 v267 v268 X_arg10 X_arg11 init k).2.1 (st_k1_t1 (F := Ideal) 𝒱 c bd i arg3 harg3 arg4 harg4 arg5 harg5 arg6 harg6 arg7 harg7 arg8 harg8 arg9 harg9 arg10 harg10 arg11 harg11 arg12 harg12 arg2 v0 v2 v17 v19 v26 v32 v39 v152 v166 v233 v248 v253 v258 v263 v265 v267 v268 X_arg10 X_arg11 init k).2.2.1 (st_k1_t1 (F := Ideal) 𝒱 c bd i arg3 harg3 arg4 harg4 arg5 harg5 arg6 harg6 arg7 harg7 arg8 harg8 arg9 harg9 arg10 harg10 arg11 harg11 arg12 harg12 arg2 v0 v2 v17 v19 v26 v32 v39 v152 v166 v233 v248 v253 v258 v263 v265 v267 v268 X_arg10 X_arg11 init k).2.2.2.1 (st_k1_t1 (F := Ideal) 𝒱 c bd i arg3 harg3 arg4 harg4 arg5 harg5 arg6 harg6 arg7 harg7 arg8 harg8 arg9 harg9 arg10 harg10 arg11 harg11 arg12 harg12 arg2 v0 v2 v17 v19 v26 v32 v39 v152 v166 v233 v248 v253 v258 v263 v265 v267 v268 X_arg10 X_arg11 init k).2.2.2.2 := by
  subst hv26 hv32 hv39
  have h8 : (i 2).val < 8 := (i 2).isLt
  induction k with
  | zero => exact hi
  | succ k ih =>
    have hlt : k < (k1_t1_loop i).trips := by rw [da_trips1]; omega
    have ih := ih (by omega)
    rw [st_k1_t1_succ (F := Ideal) 𝒱 c bd i arg3 harg3 arg4 harg4 arg5 harg5 arg6 harg6 arg7 harg7 arg8 harg8 arg9 harg9 arg10 harg10 arg11 harg11 arg12 harg12 arg2 v0 v2 v17 v19 k1_pay30 k1_pay31 (k1_pay33 v2 k1_pay32) v152 v166 v233 v248 v253 v258 v263 v265 v267 v268 X_arg10 X_arg11 init ⟨k, hlt⟩, trip1_eq]
    have ho := da_off4 i ⟨k, hlt⟩
    exact da_low r Q K Vv sl i ⟨k, hlt⟩ (128 * k) (256 * (i 2).val) ρ _ _ v0 v2 hv0 hv2 (by omega) hρ (by omega) rfl v19 _ _ hq (ld3 _ _ _ ho _ K hk) (ld3 _ _ _ ho _ Vv hv) _ _ _ _ _ ih (dS_step _ _ (by omega))

theorem da_inv_end (𝒱 : Variants) (c : Dev nD) (bd : Option 𝒱.V) (i : grid1.Coords) (arg3 : Memref sig .tc .smem S4 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S1x256x128 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x256x128 .bf16) (harg12 : arg12.IsWhole) (arg2 : BitVec 32) (v0 : BitVec 32) (v2 : Elt Ideal .f32) (v17 : FVec Ideal S1x1 .f32) (v19 : FVec Ideal S256x128 .bf16) (v26 : FVec Ideal S1x128 .bf16) (v32 : FVec Ideal S1x128 .bf16) (v39 : FVec Ideal S256x128 .f32) (v152 : FVec Ideal S256x1 .f32) (v166 : FVec Ideal S256x256 .f32) (v233 : FVec Ideal S128x128 .bf16) (v248 : FVec Ideal S256x1 .f32) (v253 : FVec Ideal S256x1 .f32) (v258 : FVec Ideal S256x128 .f32) (v263 : FVec Ideal S256x128 .f32) (v265 : FVec Ideal S256x1 .f32) (v267 : FVec Ideal S256x1 .f32) (v268 : FVec Ideal S256x1 .f32) (X_arg10 : BufTy.Contents (Elt Ideal) arg10.view.ty) (X_arg11 : BufTy.Contents (Elt Ideal) arg11.view.ty) (init : FVec Ideal S256x1 .f32 × FVec Ideal S256x1 .f32 × FVec Ideal S256x1 .f32 × FVec Ideal S256x1 .f32 × FVec Ideal S256x256 .f32) (hv26 : v26 = k1_pay30) (hv32 : v32 = k1_pay31) (hv39 : v39 = k1_pay33 v2 k1_pay32) (hv0 : v0 = BitVec.ofNat 32 (256 * (i 2).val)) (hv2 : v2 = ((sl : ℝ) : EReal))
    (hq : ∀ d : Fin 128, v19 (ix2 r d) = ((Q d.val : ℝ) : EReal))
    (hk : ∀ (s : Fin 2048) (d : Fin 128), (View.read (Elt Ideal) arg10.view X_arg10 : Vec Ideal S1x2048x128 .bf16) (ix3 0 s d) = ((K s.val d.val : ℝ) : EReal))
    (hv : ∀ (s : Fin 2048) (d : Fin 128), (View.read (Elt Ideal) arg11.view X_arg11 : Vec Ideal S1x2048x128 .bf16) (ix3 0 s d) = ((Vv s.val d.val : ℝ) : EReal))
    (hρ : ρ = 256 * (i 2).val + r.val)
    (hi : DaInv r Q K Vv sl ρ (dS (256 * (i 2).val) 0) init.1 init.2.1 init.2.2.1 init.2.2.2.1 init.2.2.2.2) (k : ℕ) (hkt : k = (k1_t1_loop i).trips) :
    DaInv r Q K Vv sl ρ (range (256 * (i 2).val + 256)) (st_k1_t1 (F := Ideal) 𝒱 c bd i arg3 harg3 arg4 harg4 arg5 harg5 arg6 harg6 arg7 harg7 arg8 harg8 arg9 harg9 arg10 harg10 arg11 harg11 arg12 harg12 arg2 v0 v2 v17 v19 v26 v32 v39 v152 v166 v233 v248 v253 v258 v263 v265 v267 v268 X_arg10 X_arg11 init k).1 (st_k1_t1 (F := Ideal) 𝒱 c bd i arg3 harg3 arg4 harg4 arg5 harg5 arg6 harg6 arg7 harg7 arg8 harg8 arg9 harg9 arg10 harg10 arg11 harg11 arg12 harg12 arg2 v0 v2 v17 v19 v26 v32 v39 v152 v166 v233 v248 v253 v258 v263 v265 v267 v268 X_arg10 X_arg11 init k).2.1 (st_k1_t1 (F := Ideal) 𝒱 c bd i arg3 harg3 arg4 harg4 arg5 harg5 arg6 harg6 arg7 harg7 arg8 harg8 arg9 harg9 arg10 harg10 arg11 harg11 arg12 harg12 arg2 v0 v2 v17 v19 v26 v32 v39 v152 v166 v233 v248 v253 v258 v263 v265 v267 v268 X_arg10 X_arg11 init k).2.2.1 (st_k1_t1 (F := Ideal) 𝒱 c bd i arg3 harg3 arg4 harg4 arg5 harg5 arg6 harg6 arg7 harg7 arg8 harg8 arg9 harg9 arg10 harg10 arg11 harg11 arg12 harg12 arg2 v0 v2 v17 v19 v26 v32 v39 v152 v166 v233 v248 v253 v258 v263 v265 v267 v268 X_arg10 X_arg11 init k).2.2.2.1 (st_k1_t1 (F := Ideal) 𝒱 c bd i arg3 harg3 arg4 harg4 arg5 harg5 arg6 harg6 arg7 harg7 arg8 harg8 arg9 harg9 arg10 harg10 arg11 harg11 arg12 harg12 arg2 v0 v2 v17 v19 v26 v32 v39 v152 v166 v233 v248 v253 v258 v263 v265 v267 v268 X_arg10 X_arg11 init k).2.2.2.2 := by
  rw [da_trips1] at hkt
  have := da_inv r Q K Vv sl ρ 𝒱 c bd i arg3 harg3 arg4 harg4 arg5 harg5 arg6 harg6 arg7 harg7 arg8 harg8 arg9 harg9 arg10 harg10 arg11 harg11 arg12 harg12 arg2 v0 v2 v17 v19 v26 v32 v39 v152 v166 v233 v248 v253 v258 v263 v265 v267 v268 X_arg10 X_arg11 init hv26 hv32 hv39 hv0 hv2 hq hk hv hρ hi k hkt.le
  rwa [dS_end _ _ (by omega)] at this

/-- The second loop runs no trip. -/
theorem da_st2 (𝒱 : Variants) (c : Dev nD) (bd : Option 𝒱.V) (i : grid1.Coords) (arg3 : Memref sig .tc .smem S4 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S1x256x128 .bf16) (harg9 : arg9.IsWhole) (arg10 : Memref sig .tc .vmem S1x2048x128 .bf16) (harg10 : arg10.IsWhole) (arg11 : Memref sig .tc .vmem S1x2048x128 .bf16) (harg11 : arg11.IsWhole) (arg12 : Memref sig .tc .vmem S1x256x128 .bf16) (harg12 : arg12.IsWhole) (arg2 : BitVec 32) (v0 : BitVec 32) (v2 : Elt Ideal .f32) (v17 : FVec Ideal S1x1 .f32) (v19 : FVec Ideal S256x128 .bf16) (v26 : FVec Ideal S1x128 .bf16) (v32 : FVec Ideal S1x128 .bf16) (v39 : FVec Ideal S256x128 .f32) (v152 : FVec Ideal S256x1 .f32) (v166 : FVec Ideal S256x256 .f32) (v233 : FVec Ideal S128x128 .bf16) (v248 : FVec Ideal S256x1 .f32) (v253 : FVec Ideal S256x1 .f32) (v258 : FVec Ideal S256x128 .f32) (v263 : FVec Ideal S256x128 .f32) (v265 : FVec Ideal S256x1 .f32) (v267 : FVec Ideal S256x1 .f32) (v268 : FVec Ideal S256x1 .f32) (v295 : BitVec 32) (X_arg10 : BufTy.Contents (Elt Ideal) arg10.view.ty) (X_arg11 : BufTy.Contents (Elt Ideal) arg11.view.ty) (init : FVec Ideal S256x1 .f32 × FVec Ideal S256x1 .f32 × FVec Ideal S256x1 .f32 × FVec Ideal S256x1 .f32 × FVec Ideal S256x256 .f32) (k : ℕ) (hk : k = (k1_t2_loop i).trips) : st_k1_t2 (F := Ideal) 𝒱 c bd i arg3 harg3 arg4 harg4 arg5 harg5 arg6 harg6 arg7 harg7 arg8 harg8 arg9 harg9 arg10 harg10 arg11 harg11 arg12 harg12 arg2 v0 v2 v17 v19 v26 v32 v39 v152 v166 v233 v248 v253 v258 v263 v265 v267 v268 v295 X_arg10 X_arg11 init k = init := by
  rw [da_trips2] at hk
  subst hk
  exact st_k1_t2_zero (F := Ideal) 𝒱 c bd i arg3 harg3 arg4 harg4 arg5 harg5 arg6 harg6 arg7 harg7 arg8 harg8 arg9 harg9 arg10 harg10 arg11 harg11 arg12 harg12 arg2 v0 v2 v17 v19 v26 v32 v39 v152 v166 v233 v248 v253 v258 v263 v265 v267 v268 v295 X_arg10 X_arg11 init
end Loop
end Cert.KernelIdeal.Value
-- ==== Proof.Region1Out.lean ====
module

public import proofs.«01_k».proof.Proof.Gen.KernelIdeal.Frame
public import Idealize.ShloMosaic.Lib.Pipeline.ValueKit
public import Idealize.ShloMosaic.Lib.Pointwise
public import proofs.«01_k».proof.Proof.Region1Loop

@[expose] public section

set_option maxRecDepth 16384

noncomputable section
open Idealize.ShloMosaic Idealize.ShloMosaic.TcCoe Idealize.SL.Sem
open Idealize.ShloMosaic.Pipeline (Dat)
namespace Cert.KernelIdeal.Value
open Cert.KernelIdeal Cert.KernelIdeal.Gen
variable (V : (c : Dev nD) → (b : Ref sig .tc) → Buf (Elt Ideal) ((c : Thread nD τ).loc b))
open Cert.RealKit Cert.DaMath Finset
/-! The differential attention's region: its result as a real function of its entry arrays. -/

/-- The f32 nearest to 0.8, and the one nearest to 0.2. -/
def c08 : ℝ := 13421773 / 2 ^ 24
def c02 : ℝ := 13421773 / 2 ^ 26

theorem bits_08 : Ideal.ofBits .f32 1061997773#32 = ((c08 : ℝ) : EReal) := by
  unfold c08
  simp [Ideal.ofBits, Ideal.ieee]
  norm_num [← EReal.coe_mul, ← EReal.coe_div]

theorem bits_02 : Ideal.ofBits .f32 1045220557#32 = ((c02 : ℝ) : EReal) := by
  unfold c02
  simp [Ideal.ofBits, Ideal.ieee]
  norm_num [← EReal.coe_mul, ← EReal.coe_div]

theorem bits_128 : Ideal.ofBits .f32 1124073472#32 = (((128 : ℝ) : ℝ) : EReal) := by
  simp [Ideal.ofBits, Ideal.ieee]
  norm_num [← EReal.coe_mul, ← EReal.coe_div]

/-- λ of the differential attention. -/
def dlam (a b a' b' : ℕ → ℝ) : ℝ := Real.exp (∑ d ∈ range 64, a d * b d) - Real.exp (∑ d ∈ range 64, a' d * b' d) + c02

/-- One softmax's output at a row and lane, head `h`. -/
def dsm (X : ℕ → ℕ → ℕ → ℝ) (SL : ℕ → ℝ) (m : ℕ → ℝ) (b t h e : ℕ) : ℝ :=
  osm (dly (fun d => X b t (128 * h + d)) (fun s d => X b s (512 + 128 * h + d)) (SL h) m t) (dvis t) (fun s e => X b s (1024 + 128 * h + e)) 2048 e

/-- The difference of the two. -/
def dao (X : ℕ → ℕ → ℕ → ℝ) (SL : ℕ → ℝ) (lam : ℝ) (b t h e : ℕ) : ℝ := dsm X SL lo b t h e - lam * dsm X SL hi b t h e

/-- The norm of a head's 128 columns. -/
def dnorm (A : ℕ → ℝ) (e : ℕ) : ℝ := A e * (√((∑ d ∈ range 128, A d * A d) / 128 + eps))⁻¹

theorem lam_real (a b a' b' : Vec Ideal S1x64 .f32) (A B A' B' : ℕ → ℝ)
    (ha : ∀ d : Fin 64, a (ix2 0 d) = ((A d.val : ℝ) : EReal)) (hb : ∀ d : Fin 64, b (ix2 0 d) = ((B d.val : ℝ) : EReal))
    (ha' : ∀ d : Fin 64, a' (ix2 0 d) = ((A' d.val : ℝ) : EReal)) (hb' : ∀ d : Fin 64, b' (ix2 0 d) = ((B' d.val : ℝ) : EReal)) :
    k1_pay28 a b a' b' (ix2 0 0) = ((dlam A B A' B' : ℝ) : EReal) := by
  pointwise [k1_pay28]
  simp only [ha, hb, ha', hb', ← EReal.coe_mul, coe_fsum]
  rw [bits_02, sum_fin 64 (fun d => A d * B d), sum_fin 64 (fun d => A' d * B' d)]
  show ((Real.exp _ : ℝ) : EReal) - ((Real.exp _ : ℝ) : EReal) + _ = _
  rw [← EReal.coe_sub, ← EReal.coe_add]
  rfl

/-- The norm at the region's end. -/
theorem da_pay1 (r : Fin 256) (A : ℕ → ℝ) (lamv : FVec Ideal S1x1 .f32) (l1 l2 : FVec Ideal S256x1 .f32) (acc : FVec Ideal S256x256 .f32)
    (ha : ∀ e : Fin 128, Ideal.div (acc (ix2 r ⟨e.val, by omega⟩)) (l1 (ix2 r 0)) - lamv (ix2 0 0) * Ideal.div (acc (ix2 r ⟨128 + e.val, by omega⟩)) (l2 (ix2 r 0)) = ((A e.val : ℝ) : EReal))
    (g : Vec Ideal S1x128 .f32) (G : ℕ → ℝ) (hg : ∀ e : Fin 128, g (ix2 0 e) = ((G e.val : ℝ) : EReal)) (e : Fin 128) :
    k1_pay1 (k1_pay84 lamv l1 l2 acc) g (ix3 0 r e) = ((dnorm A e.val * G e.val * c08 : ℝ) : EReal) := by
  have h84 : k1_pay84 lamv l1 l2 acc (ix2 r e) = ((dnorm A e.val : ℝ) : EReal) := by
    have hnn : 0 < (∑ d ∈ range 128, A d * A d) / 128 + eps :=
      add_pos_of_nonneg_of_pos (div_nonneg (sum_nonneg fun _ _ => mul_self_nonneg _) (by norm_num)) eps_pos
    pointwise [k1_pay84]
    simp only [ha, ← EReal.coe_mul, coe_fsum]
    rw [sum_fin 128 (fun d => A d * A d), bits_128, div_real (by norm_num), bits_eps, ← EReal.coe_add, rsqrt_real hnn, ← EReal.coe_mul]
    rfl
  pointwise [k1_pay1]
  rw [h84, hg, bits_08, ← EReal.coe_mul, ← EReal.coe_mul]

/-- The two softmaxes at the end of the pass, and their difference. -/
theorem da_fin (r : Fin 256) (X : ℕ → ℕ → ℕ → ℝ) (SL : ℕ → ℝ) (lam : ℝ) (b h i : ℕ) (hi : i < 8) (lamv : EReal) (hl : lamv = ((lam : ℝ) : EReal))
    (m1 m2 l1 l2 : FVec Ideal S256x1 .f32) (acc : FVec Ideal S256x256 .f32)
    (hI : DaInv r (fun d => X b (256 * i + r.val) (128 * h + d)) (fun s d => X b s (512 + 128 * h + d)) (fun s e => X b s (1024 + 128 * h + e)) (SL h) (256 * i + r.val) (range (256 * i + 256)) m1 m2 l1 l2 acc) (e : Fin 128) :
    Ideal.div (acc (ix2 r ⟨e.val, by omega⟩)) (l1 (ix2 r 0)) - lamv * Ideal.div (acc (ix2 r ⟨128 + e.val, by omega⟩)) (l2 (ix2 r 0)) = ((dao X SL lam b (256 * i + r.val) h e.val : ℝ) : EReal) := by
  have hr := r.isLt
  have hv : dvis (256 * i + r.val) (256 * i + r.val) := le_refl _
  have hx : ∀ k, 256 * i + 256 ≤ k → ¬ dvis (256 * i + r.val) k := fun k hk => by unfold dvis; omega
  rw [os_end hI.a (256 * i + r.val) (by omega) hv e, os_end hI.b (256 * i + r.val) (by omega) hv e, hl, ← EReal.coe_mul, ← EReal.coe_sub]
  unfold dao dsm
  rw [osm_extend (256 * i + 256) 2048 (by omega) hx, osm_extend (256 * i + 256) 2048 (by omega) hx]

theorem v0_word (a : Fin 8) : Scalar.muli (BitVec.ofNat 32 a.val) 256#32 = BitVec.ofNat 32 (256 * a.val) := by
  revert a; decide +kernel

theorem idx1 : ∀ t : Fin cfg1.N, win1_0.index t = ![0] ∧ win1_1.index t = ![0, 0] ∧ win1_2.index t = ![0, 0] ∧ win1_3.index t = ![0, 0] ∧ win1_4.index t = ![0, 0] ∧ win1_5.index t = ![0, 0]
    ∧ win1_6.index t = ![(grid1.coords t 0).val, (grid1.coords t 2).val, (grid1.coords t 1).val]
    ∧ win1_7.index t = ![(grid1.coords t 0).val, 0, 4 + (grid1.coords t 1).val] ∧ win1_8.index t = ![(grid1.coords t 0).val, 0, 8 + (grid1.coords t 1).val]
    ∧ win1_9.index t = ![(grid1.coords t 0).val, (grid1.coords t 2).val, (grid1.coords t 1).val] :=
  (by decide +kernel : ∀ t : Fin grid1.N, _)

section Out
variable (c : Dev nD) (X : ℕ → ℕ → ℕ → ℝ) (SL A1 B1 A2 B2 G : ℕ → ℝ)
  (hX : ∀ (b : Fin 8) (t : Fin 2048) (e : Fin 3072), (V c main_v14 : Vec Ideal S8x2048x3072 .bf16) (ix3 b t e) = ((X b.val t.val e.val : ℝ) : EReal))
  (hSL : ∀ h : Fin 4, (V c main_v8 : Vec Ideal S4 .f32) (ix1 h) = ((SL h.val : ℝ) : EReal))
  (hA1 : ∀ d : Fin 64, (V c main_arg3 : Vec Ideal S1x64 .f32) (ix2 0 d) = ((A1 d.val : ℝ) : EReal))
  (hB1 : ∀ d : Fin 64, (V c main_arg4 : Vec Ideal S1x64 .f32) (ix2 0 d) = ((B1 d.val : ℝ) : EReal))
  (hA2 : ∀ d : Fin 64, (V c main_arg5 : Vec Ideal S1x64 .f32) (ix2 0 d) = ((A2 d.val : ℝ) : EReal))
  (hB2 : ∀ d : Fin 64, (V c main_arg6 : Vec Ideal S1x64 .f32) (ix2 0 d) = ((B2 d.val : ℝ) : EReal))
  (hG : ∀ e : Fin 128, (V c main_arg7 : Vec Ideal S1x128 .f32) (ix2 0 e) = ((G e.val : ℝ) : EReal))

include hX in
theorem daq_blk (t : Fin cfg1.N) (r : Fin 256) (d : Fin 128) :
    k1_pay29 (iblk1 V c 6 t) (ix2 r d) = ((X (grid1.coords t 0).val (256 * (grid1.coords t 2).val + r.val) (128 * (grid1.coords t 1).val + d.val) : ℝ) : EReal) := by
  have h0 : (grid1.coords t 0).val < 8 := (grid1.coords t 0).isLt
  have h1 : (grid1.coords t 1).val < 4 := (grid1.coords t 1).isLt
  have h2 : (grid1.coords t 2).val < 8 := (grid1.coords t 2).isLt
  rw [← hX ⟨_, h0⟩ ⟨256 * (grid1.coords t 2).val + r.val, by omega⟩ ⟨128 * (grid1.coords t 1).val + d.val, by omega⟩]
  pointwise [k1_pay29]
  blk_ext [iblk1, idx1 t]

include hX in
theorem dak_blk (t : Fin cfg1.N) (s : Fin 2048) (d : Fin 128) :
    iblk1 V c 7 t (ix3 0 s d) = ((X (grid1.coords t 0).val s.val (512 + 128 * (grid1.coords t 1).val + d.val) : ℝ) : EReal) := by
  have h0 : (grid1.coords t 0).val < 8 := (grid1.coords t 0).isLt
  have h1 : (grid1.coords t 1).val < 4 := (grid1.coords t 1).isLt
  rw [← hX ⟨_, h0⟩ s ⟨512 + 128 * (grid1.coords t 1).val + d.val, by omega⟩]
  blk_ext [iblk1, idx1 t]

include hX in
theorem dav_blk (t : Fin cfg1.N) (s : Fin 2048) (d : Fin 128) :
    iblk1 V c 8 t (ix3 0 s d) = ((X (grid1.coords t 0).val s.val (1024 + 128 * (grid1.coords t 1).val + d.val) : ℝ) : EReal) := by
  have h0 : (grid1.coords t 0).val < 8 := (grid1.coords t 0).isLt
  have h1 : (grid1.coords t 1).val < 4 := (grid1.coords t 1).isLt
  rw [← hX ⟨_, h0⟩ s ⟨1024 + 128 * (grid1.coords t 1).val + d.val, by omega⟩]
  blk_ext [iblk1, idx1 t]

include hSL in
theorem dasl_blk (t : Fin cfg1.N) (h : Fin 4) : iblk1 V c 0 t (ix1 h) = ((SL h.val : ℝ) : EReal) := by
  rw [← hSL h]
  blk_ext [iblk1, idx1 t]

include hA1 in
theorem daa1_blk (t : Fin cfg1.N) (d : Fin 64) : iblk1 V c 1 t (ix2 0 d) = ((A1 d.val : ℝ) : EReal) := by
  rw [← hA1 d]
  blk_ext [iblk1, idx1 t]
include hB1 in
theorem dab1_blk (t : Fin cfg1.N) (d : Fin 64) : iblk1 V c 2 t (ix2 0 d) = ((B1 d.val : ℝ) : EReal) := by
  rw [← hB1 d]
  blk_ext [iblk1, idx1 t]
include hA2 in
theorem daa2_blk (t : Fin cfg1.N) (d : Fin 64) : iblk1 V c 3 t (ix2 0 d) = ((A2 d.val : ℝ) : EReal) := by
  rw [← hA2 d]
  blk_ext [iblk1, idx1 t]
include hB2 in
theorem dab2_blk (t : Fin cfg1.N) (d : Fin 64) : iblk1 V c 4 t (ix2 0 d) = ((B2 d.val : ℝ) : EReal) := by
  rw [← hB2 d]
  blk_ext [iblk1, idx1 t]
include hG in
theorem dag_blk (t : Fin cfg1.N) (d : Fin 128) : iblk1 V c 5 t (ix2 0 d) = ((G d.val : ℝ) : EReal) := by
  rw [← hG d]
  blk_ext [iblk1, idx1 t]

include hSL in
theorem dasl_ld (t : Fin cfg1.N) (inb) (j) :
    View.ld (iblk1 V c 0 t : Vec Ideal S4 .f32) (Rect.unit (s := S4) (k1_off1 (grid1.coords t)) ![1] inb) j = ((SL (grid1.coords t 1).val : ℝ) : EReal) := by
  have h1 : (grid1.coords t 1).val < 4 := (grid1.coords t 1).isLt
  rw [← dasl_blk V c SL hSL t ⟨_, h1⟩]
  refine View.ld_unit_apply_of _ _ _ inb _ _ fun a => ?_
  fin_cases a
  have hj : (j 0).val < 1 := (j 0).isLt
  show (grid1.coords t 1).val = k1_off1 (grid1.coords t) 0 + (j 0).val
  have ho : k1_off1 (grid1.coords t) 0 = (grid1.coords t 1).val := congrFun (da_off1 (grid1.coords t)) 0
  omega

include hX hSL hA1 hB1 hA2 hB2 hG in
/-- The differential attention's result. -/
theorem region1 : (dat1 V c).arrAt 9 cfg1.N = (fun j => ((dnorm (dao X SL (dlam A1 B1 A2 B2) (j 0).val (j 1).val ((j 2).val / 128)) ((j 2).val % 128) * G ((j 2).val % 128) * c08 : ℝ) : EReal) : Vec Ideal S8x2048x512 .bf16) := by
  refine (dat1 V c).arrAt_eq_of_covers 9 _ (by decide +kernel) fun t hf y => ?_
  have h0 : (grid1.coords t 0).val < 8 := (grid1.coords t 0).isLt
  have h1 : (grid1.coords t 1).val < 4 := (grid1.coords t 1).isLt
  have h2 : (grid1.coords t 2).val < 8 := (grid1.coords t 2).isLt
  obtain ⟨r, e, rfl⟩ : ∃ (r : Fin 256) (e : Fin 128), y = ix3 0 r e := ⟨y 1, y 2, by
    funext a; fin_cases a
    · exact Fin.ext (by have : (y 0).val < 1 := (y 0).isLt; show (y 0).val = 0; omega)
    · rfl
    · rfl⟩
  blk_simp [idx1 t]
  rw [after1_9]
  unfold outsAt1
  frame_out
  have hr := r.isLt
  have he := e.isLt
  have hQ := fun d => daq_blk V c X hX t r d
  have hK := dak_blk V c X hX t
  have hVv := dav_blk V c X hX t
  have hA : ∀ j : ℕ, j = 128 * (grid1.coords t 1).val + e.val → ∀ b tt : ℕ, b = (grid1.coords t 0).val → tt = 256 * (grid1.coords t 2).val + r.val →
      dnorm (dao X SL (dlam A1 B1 A2 B2) (grid1.coords t 0).val (256 * (grid1.coords t 2).val + r.val) (grid1.coords t 1).val) e.val * G e.val * c08
        = dnorm (dao X SL (dlam A1 B1 A2 B2) b tt (j / 128)) (j % 128) * G (j % 128) * c08 := by
    rintro j rfl b tt rfl rfl
    rw [show (128 * (grid1.coords t 1).val + e.val) % 128 = e.val by omega, show (128 * (grid1.coords t 1).val + e.val) / 128 = (grid1.coords t 1).val by omega]
  refine Eq.trans (da_pay1 r (dao X SL (dlam A1 B1 A2 B2) (grid1.coords t 0).val (256 * (grid1.coords t 2).val + r.val) (grid1.coords t 1).val) _ _ _ _ ?_ _ G (dag_blk V c G hG t) e)
    (congrArg (fun x : ℝ => (x : EReal)) (hA _ ?_ _ _ ?_ ?_))
  · intro e
    rw [da_st2 (hk := rfl) ..]
    refine da_fin r X SL (dlam A1 B1 A2 B2) (grid1.coords t 0).val (grid1.coords t 1).val (grid1.coords t 2).val h2 _
      (lam_real _ _ _ _ A1 B1 A2 B2 (daa1_blk V c A1 hA1 t) (dab1_blk V c B1 hB1 t) (daa2_blk V c A2 hA2 t) (dab2_blk V c B2 hB2 t)) _ _ _ _ _
      (da_inv_end r _ _ _ _ _ (hv26 := rfl) (hv32 := rfl) (hv39 := rfl) (hv0 := v0_word _) (hv2 := dasl_ld V c SL hSL t _ _) (hq := hQ)
        (hk := fun s d => by rw [Memref.IsWhole.read_unread]; exact hK s d) (hv := fun s d => by rw [Memref.IsWhole.read_unread]; exact hVv s d)
        (hρ := rfl) (hkt := rfl) (hi := ?_) ..) e
    exact da_second r _ (fun s d => X (grid1.coords t 0).val s (512 + 128 * (grid1.coords t 1).val + d)) (fun s e => X (grid1.coords t 0).val s (1024 + 128 * (grid1.coords t 1).val + e)) _ _ _ _ _ _ (dasl_ld V c SL hSL t _ _) (by omega) rfl _ _ _ hQ (ld3 _ _ _ (da_off3 _) _ (fun s d => X (grid1.coords t 0).val s (512 + 128 * (grid1.coords t 1).val + d)) hK) (ld3 _ _ _ (da_off3 _) _ (fun s e => X (grid1.coords t 0).val s (1024 + 128 * (grid1.coords t 1).val + e)) hVv) _ _ _ _ _
      (da_first r _ (fun s d => X (grid1.coords t 0).val s (512 + 128 * (grid1.coords t 1).val + d)) (fun s e => X (grid1.coords t 0).val s (1024 + 128 * (grid1.coords t 1).val + e)) _ _ _ _ _ (dasl_ld V c SL hSL t _ _) (by omega) rfl _ _ _ hQ (ld3 _ _ _ (da_off2 _) _ (fun s d => X (grid1.coords t 0).val s (512 + 128 * (grid1.coords t 1).val + d)) hK) (ld3 _ _ _ (da_off2 _) _ (fun s e => X (grid1.coords t 0).val s (1024 + 128 * (grid1.coords t 1).val + e)) hVv) (Ico_first _)) (dS_zero _)
  · omega
  · simp
  · omega
end Out
end Cert.KernelIdeal.Value
-- ==== Proof.Region2Out.lean ====
module

public import proofs.«01_k».proof.Proof.Gen.KernelIdeal.Frame
public import Idealize.ShloMosaic.Lib.Pipeline.ValueKit
public import Idealize.ShloMosaic.Lib.Pointwise
public import proofs.«01_k».proof.Proof.SbMath
public import proofs.«01_k».proof.Proof.Region2Loop

@[expose] public section

set_option maxRecDepth 16384

noncomputable section
open Idealize.ShloMosaic Idealize.ShloMosaic.TcCoe Idealize.SL.Sem
open Idealize.ShloMosaic.Pipeline (Dat)
namespace Cert.KernelIdeal.Value
open Cert.KernelIdeal Cert.KernelIdeal.Gen
variable (V : (c : Dev nD) → (b : Ref sig .tc) → Buf (Elt Ideal) ((c : Thread nD τ).loc b))
open Cert.RealKit Cert.SbMath Finset
/-! The stick-breaking region's result, as a real function of its entry arrays. -/

/-- The score of key `s` for the row at `t`, head `h`, from the projected array. -/
def sbz (X : ℕ → ℕ → ℕ → ℝ) (b t h s : ℕ) : ℝ := ∑ d ∈ range 64, X b t (1536 + 64 * h + d) * X b s (2048 + 64 * h + d)

/-- The output column `j` before its norm. -/
def sbo (X : ℕ → ℕ → ℕ → ℝ) (b t j : ℕ) : ℝ :=
  wsum (sbz X b t (j / 64)) t (256 * (t / 256) + 256) (fun s => X b s (2560 + j)) 0

/-- The norm of a head's 64 columns. -/
def hnorm (A : ℕ → ℝ) (j : ℕ) : ℝ := A j * (√((∑ d ∈ range 64, A (64 * (j / 64) + d) * A (64 * (j / 64) + d)) * (1 / 64) + eps))⁻¹

theorem zsc_lo (Q : ℕ → ℝ) (K : ℕ → ℕ → ℝ) (s : ℕ) : zsc Q K lo s = ∑ d ∈ range 64, Q d * K s d := by
  unfold zsc
  rw [sum_fin 128 (fun d => Q d * (K s d * lo d)), sum_range_split 64 64,
    sum_eq_zero (s := range 64) (f := fun i => Q (64 + i) * (K s (64 + i) * lo (64 + i))) (fun i hi => by
      unfold lo; rw [if_neg (by omega)]; ring), add_zero]
  refine sum_congr rfl fun d hd => ?_
  unfold lo; rw [if_pos (mem_range.mp hd), mul_one]

theorem zsc_hi (Q : ℕ → ℝ) (K : ℕ → ℕ → ℝ) (s : ℕ) : zsc Q K hi s = ∑ d ∈ range 64, Q (64 + d) * K s (64 + d) := by
  unfold zsc
  rw [sum_fin 128 (fun d => Q d * (K s d * hi d)), sum_range_split 64 64,
    sum_eq_zero (s := range 64) (f := fun i => Q i * (K s i * hi i)) (fun i hi' => by
      have := mem_range.mp hi'
      unfold hi; rw [if_neg (by omega)]; ring), zero_add]
  refine sum_congr rfl fun d hd => ?_
  unfold hi; rw [if_pos (by omega), mul_one]

theorem wsum_zero (z : ℕ → ℝ) (ρ T n : ℕ) (v : ℕ → ℝ) (hv : ∀ s, v s = 0) : wsum z ρ T v n = 0 := by
  unfold wsum; exact sum_eq_zero fun s _ => by rw [hv, mul_zero]

/-- Both half-heads' sums at a lane: the lane's own head. -/
theorem sb_lane (X : ℕ → ℕ → ℕ → ℝ) (b t p e : ℕ) (he : e < 128) :
    wsum (zsc (fun d => X b t (1536 + 128 * p + d)) (fun s d => X b s (2048 + 128 * p + d)) lo) t (256 * (t / 256) + 256)
        (fun s => X b s (2560 + 128 * p + e) * lo e) 0
      + wsum (zsc (fun d => X b t (1536 + 128 * p + d)) (fun s d => X b s (2048 + 128 * p + d)) hi) t (256 * (t / 256) + 256)
        (fun s => X b s (2560 + 128 * p + e) * hi e) 0
      = sbo X b t (128 * p + e) := by
  unfold sbo
  rw [show (2560 + (128 * p + e)) = 2560 + 128 * p + e by omega]
  by_cases h : e < 64
  · have hl : lo e = 1 := by unfold lo; rw [if_pos h]
    have hh : hi e = 0 := by unfold hi; rw [if_neg (by omega)]
    rw [wsum_zero (zsc _ _ hi) _ _ _ _ (fun s => by rw [hh, mul_zero]), add_zero, hl]
    simp only [mul_one]
    congr 1
    funext s
    rw [zsc_lo]; unfold sbz
    rw [show (128 * p + e) / 64 = 2 * p by omega]
    refine sum_congr rfl fun d _ => ?_
    rw [show 64 * (2 * p) = 128 * p by omega]
  · have hl : lo e = 0 := by unfold lo; rw [if_neg h]
    have hh : hi e = 1 := by unfold hi; rw [if_pos (by omega)]
    rw [wsum_zero (zsc _ _ lo) _ _ _ _ (fun s => by rw [hl, mul_zero]), zero_add, hh]
    simp only [mul_one]
    congr 1
    funext s
    rw [zsc_hi]; unfold sbz
    rw [show (128 * p + e) / 64 = 2 * p + 1 by omega]
    refine sum_congr rfl fun d _ => ?_
    rw [show 1536 + 128 * p + (64 + d) = 1536 + 64 * (2 * p + 1) + d by omega, show 2048 + 128 * p + (64 + d) = 2048 + 64 * (2 * p + 1) + d by omega]

/-- The norm at the region's end. -/
theorem pay1_real (r : Fin 256) (A : ℕ → ℝ) (a : FVec Ideal S256x128 .f32) (ha : ∀ e : Fin 128, a (ix2 r e) = ((A e.val : ℝ) : EReal))
    (g : Vec Ideal S1x128 .f32) (G : ℕ → ℝ) (hg : ∀ e : Fin 128, g (ix2 0 e) = ((G e.val : ℝ) : EReal)) (e : Fin 128) :
    k2_pay1 a k2_pay45 (k2_pay46 a) (k2_pay47 a) g (ix3 0 r e) = ((hnorm A e.val * G e.val : ℝ) : EReal) := by
  have h45 : ∀ e : Fin 128, k2_pay45 (ix2 r e) = if e.val < 64 then 1#1 else 0#1 := fun e => by
    pointwise [k2_pay45]
    exact slt_ofNat _ _ (by omega) (by omega)
  have h46 : ∀ e : Fin 128, k2_pay46 a (ix2 r e) = ((A e.val * A e.val : ℝ) : EReal) := fun e => by
    pointwise [k2_pay46]
    rw [ha, ← EReal.coe_mul]
  have h47 : ∀ e : Fin 128, k2_pay47 a (ix2 r e) = ((if e.val < 64 then A e.val * A e.val else 0 : ℝ) : EReal) := fun e => by
    pointwise [k2_pay47]
    rw [h45, h46, sel_ite, ← EReal.coe_zero, coe_ite]
  have e1 : (∑ x : Fin 128, k2_pay47 a (ix2 r x)) = ((∑ d ∈ range 64, A d * A d : ℝ) : EReal) := by
    simp only [h47, coe_fsum]
    rw [sum_fin 128 (fun d => if d < 64 then A d * A d else 0), sum_range_split 64 64,
      sum_eq_zero (s := range 64) (f := fun i => if 64 + i < 64 then A (64 + i) * A (64 + i) else 0) (fun i hi' => if_neg (by omega)), add_zero,
      sum_congr rfl fun d hd => if_pos (mem_range.mp hd)]
  have e2 : (∑ x : Fin 128, Scalar.select (k2_pay45 (ix2 r x)) (0 : EReal) (k2_pay46 a (ix2 r x))) = ((∑ d ∈ range 64, A (64 + d) * A (64 + d) : ℝ) : EReal) := by
    simp only [h45, h46, sel_ite]
    simp only [← EReal.coe_zero, coe_ite, coe_fsum]
    rw [sum_fin 128 (fun d => if d < 64 then 0 else A d * A d), sum_range_split 64 64,
      sum_eq_zero (s := range 64) (f := fun i => if i < 64 then 0 else A i * A i) (fun i hi' => if_pos (mem_range.mp hi')), zero_add,
      sum_congr rfl fun d hd => if_neg (by omega)]
  have hnn : ∀ (k : ℕ), 0 < (∑ d ∈ range 64, A (k + d) * A (k + d)) * (1 / 64) + eps := fun k =>
    add_pos_of_nonneg_of_pos (mul_nonneg (sum_nonneg fun _ _ => mul_self_nonneg _) (by norm_num)) eps_pos
  pointwise [k2_pay1]
  rw [e1, e2, h45, sel_ite, bits_64th, bits_eps, ha, hg]
  unfold hnorm
  have := e.isLt
  by_cases h : e.val < 64
  · have h0 := hnn 0
    simp only [zero_add] at h0
    rw [if_pos h, ← EReal.coe_mul, ← EReal.coe_add, rsqrt_real h0, ← EReal.coe_mul, ← EReal.coe_mul, show e.val / 64 = 0 by omega]
    simp only [mul_zero, zero_add]
  · rw [if_neg h, ← EReal.coe_mul, ← EReal.coe_add, rsqrt_real (hnn 64), ← EReal.coe_mul, ← EReal.coe_mul, show e.val / 64 = 1 by omega]

theorem idx2 : ∀ t : Fin cfg2.N, win2_0.index t = ![0, 0] ∧ win2_1.index t = ![(grid2.coords t 0).val, (grid2.coords t 2).val, 12 + (grid2.coords t 1).val]
    ∧ win2_2.index t = ![(grid2.coords t 0).val, 0, 16 + (grid2.coords t 1).val] ∧ win2_3.index t = ![(grid2.coords t 0).val, 0, 20 + (grid2.coords t 1).val]
    ∧ win2_4.index t = ![(grid2.coords t 0).val, (grid2.coords t 2).val, (grid2.coords t 1).val] :=
  (by decide +kernel : ∀ t : Fin grid2.N, _)

section Out
variable (c : Dev nD) (X : ℕ → ℕ → ℕ → ℝ) (G : ℕ → ℝ)
  (hX : ∀ (b : Fin 8) (t : Fin 2048) (e : Fin 3072), (V c main_v14 : Vec Ideal S8x2048x3072 .bf16) (ix3 b t e) = ((X b.val t.val e.val : ℝ) : EReal))
  (hG : ∀ e : Fin 128, (V c main_v19 : Vec Ideal S1x128 .f32) (ix2 0 e) = ((G e.val : ℝ) : EReal))

include hX in
theorem q_blk (t : Fin cfg2.N) (r : Fin 256) (d : Fin 128) :
    k2_pay10 (iblk2 V c 1 t) (ix2 r d) = ((X (grid2.coords t 0).val (256 * (grid2.coords t 2).val + r.val) (1536 + 128 * (grid2.coords t 1).val + d.val) : ℝ) : EReal) := by
  have h0 : (grid2.coords t 0).val < 8 := (grid2.coords t 0).isLt
  have h1 : (grid2.coords t 1).val < 4 := (grid2.coords t 1).isLt
  have h2 : (grid2.coords t 2).val < 8 := (grid2.coords t 2).isLt
  rw [← hX ⟨_, h0⟩ ⟨256 * (grid2.coords t 2).val + r.val, by omega⟩ ⟨1536 + 128 * (grid2.coords t 1).val + d.val, by omega⟩]
  pointwise [k2_pay10]
  blk_ext [iblk2, idx2 t]

include hX in
theorem k_blk (t : Fin cfg2.N) (s : Fin 2048) (d : Fin 128) :
    iblk2 V c 2 t (ix3 0 s d) = ((X (grid2.coords t 0).val s.val (2048 + 128 * (grid2.coords t 1).val + d.val) : ℝ) : EReal) := by
  have h0 : (grid2.coords t 0).val < 8 := (grid2.coords t 0).isLt
  have h1 : (grid2.coords t 1).val < 4 := (grid2.coords t 1).isLt
  rw [← hX ⟨_, h0⟩ s ⟨2048 + 128 * (grid2.coords t 1).val + d.val, by omega⟩]
  blk_ext [iblk2, idx2 t]

include hX in
theorem v_blk (t : Fin cfg2.N) (s : Fin 2048) (d : Fin 128) :
    iblk2 V c 3 t (ix3 0 s d) = ((X (grid2.coords t 0).val s.val (2560 + 128 * (grid2.coords t 1).val + d.val) : ℝ) : EReal) := by
  have h0 : (grid2.coords t 0).val < 8 := (grid2.coords t 0).isLt
  have h1 : (grid2.coords t 1).val < 4 := (grid2.coords t 1).isLt
  rw [← hX ⟨_, h0⟩ s ⟨2560 + 128 * (grid2.coords t 1).val + d.val, by omega⟩]
  blk_ext [iblk2, idx2 t]

include hG in
theorem g_blk (t : Fin cfg2.N) (d : Fin 128) : iblk2 V c 0 t (ix2 0 d) = ((G d.val : ℝ) : EReal) := by
  rw [← hG d]
  blk_ext [iblk2, idx2 t]

include hX hG in
/-- The stick-breaking region's result. -/
theorem region2 : (dat2 V c).arrAt 4 cfg2.N = (fun j => ((hnorm (sbo X (j 0).val (j 1).val) (j 2).val * G ((j 2).val % 128) : ℝ) : EReal) : Vec Ideal S8x2048x512 .bf16) := by
  refine (dat2 V c).arrAt_eq_of_covers 4 _ (by decide +kernel) fun t hf y => ?_
  have h0 : (grid2.coords t 0).val < 8 := (grid2.coords t 0).isLt
  have h1 : (grid2.coords t 1).val < 4 := (grid2.coords t 1).isLt
  have h2 : (grid2.coords t 2).val < 8 := (grid2.coords t 2).isLt
  obtain ⟨r, e, rfl⟩ : ∃ (r : Fin 256) (e : Fin 128), y = ix3 0 r e := ⟨y 1, y 2, by
    funext a; fin_cases a
    · exact Fin.ext (by have : (y 0).val < 1 := (y 0).isLt; show (y 0).val = 0; omega)
    · rfl
    · rfl⟩
  blk_simp [idx2 t]
  rw [after2_4]
  unfold outsAt2
  frame_out
  have hr := r.isLt
  have he := e.isLt
  have hQ := fun d => q_blk V c X hX t r d
  have hK := k_blk V c X hX t
  have hVv := v_blk V c X hX t
  have hA : ∀ j : ℕ, j = 128 * (grid2.coords t 1).val + e.val → ∀ b tt : ℕ, b = (grid2.coords t 0).val → tt = 256 * (grid2.coords t 2).val + r.val →
      hnorm (fun e => sbo X (grid2.coords t 0).val (256 * (grid2.coords t 2).val + r.val) (128 * (grid2.coords t 1).val + e)) e.val * G e.val
        = hnorm (sbo X b tt) j * G (j % 128) := by
    rintro j rfl b tt rfl rfl
    unfold hnorm
    rw [show (128 * (grid2.coords t 1).val + e.val) % 128 = e.val by omega, show (128 * (grid2.coords t 1).val + e.val) / 64 = 2 * (grid2.coords t 1).val + e.val / 64 by omega]
    simp only [show ∀ d, 64 * (2 * (grid2.coords t 1).val + e.val / 64) + d = 128 * (grid2.coords t 1).val + (64 * (e.val / 64) + d) from fun d => by omega]
  refine Eq.trans (pay1_real r (fun e => sbo X (grid2.coords t 0).val (256 * (grid2.coords t 2).val + r.val) (128 * (grid2.coords t 1).val + e)) _ ?_ _ G (g_blk V c G hG t) e)
    (congrArg (fun x : ℝ => (x : EReal)) (hA _ ?_ _ _ ?_ ?_))
  · intro e
    refine Eq.trans (congrFun (congrArg (fun s => s.2.2) (st2_zero (hk := rfl) ..)) (ix2 r e)) ?_
    have hs := sb_lane X (grid2.coords t 0).val (256 * (grid2.coords t 2).val + r.val) (grid2.coords t 1).val e.val e.isLt
    rw [show 256 * ((256 * (grid2.coords t 2).val + r.val) / 256) + 256 = 256 * (grid2.coords t 2).val + 256 by omega] at hs
    rw [← hs]
    refine (inv_t1_end r (fun d => X (grid2.coords t 0).val (256 * (grid2.coords t 2).val + r.val) (1536 + 128 * (grid2.coords t 1).val + d))
      (fun s d => X (grid2.coords t 0).val s (2048 + 128 * (grid2.coords t 1).val + d)) (fun s d => X (grid2.coords t 0).val s (2560 + 128 * (grid2.coords t 1).val + d))
      (256 * (grid2.coords t 2).val + r.val) (256 * (grid2.coords t 2).val + 256) (hv9 := rfl) (hv15 := rfl) (hv90 := rfl) (hq := hQ)
      (hk := fun s d => by rw [Memref.IsWhole.read_unread]; exact hK s d) (hv := fun s d => by rw [Memref.IsWhole.read_unread]; exact hVv s d)
      (hρ := by omega) (hT := by omega) (hkt := rfl) (hi := ?_) ..).acc e
    exact step_second r _ _ _ _ _ _ rfl (by omega) _ _ _ hQ (ld3 _ _ _ (off2_val _) _ _ hK) (ld3 _ _ _ (off2_val _) _ _ hVv) _ _ _
      (step_first r _ _ _ (256 * (grid2.coords t 2).val) rfl _ _ _ rfl (by omega) _ _ _ hQ (ld3 _ _ _ (off1_val _) _ _ hK) (ld3 _ _ _ (off1_val _) _ _ hVv) _ rfl)
  · omega
  · simp
  · omega
end Out
end Cert.KernelIdeal.Value
-- ==== Proof.Region3.lean ====
module

public import proofs.«01_k».proof.Proof.Gen.KernelIdeal.Frame
public import Idealize.ShloMosaic.Lib.Pipeline.ValueKit
public import Idealize.ShloMosaic.Lib.Pointwise
public import proofs.«01_k».proof.Proof.Norm

@[expose] public section

set_option maxRecDepth 16384

noncomputable section
open Idealize.ShloMosaic Idealize.ShloMosaic.TcCoe Idealize.SL.Sem
open Idealize.ShloMosaic.Pipeline (Dat)
namespace Cert.KernelIdeal.Value
open Cert.KernelIdeal Cert.KernelIdeal.Gen
variable (V : (c : Dev nD) → (b : Ref sig .tc) → Buf (Elt Ideal) ((c : Thread nD τ).loc b))
open Cert.RealKit Finset
/-! The output projection and feed-forward region: its result as a real function of its entry arrays. -/

/-- The residual stream after the output projection. -/
def ohid (x od os : ℕ → ℝ) (wo : ℕ → ℕ → ℝ) (e : ℕ) : ℝ := x e + (∑ k ∈ range 512, od k * wo k e) + ∑ k ∈ range 512, os k * wo (512 + k) e

/-- The squared rectified hidden layer. -/
def oact (h g : ℕ → ℝ) (wu : ℕ → ℕ → ℝ) (f : ℕ) : ℝ :=
  max (∑ e ∈ range 1024, nrm 1024 h g e * wu e f) 0 * max (∑ e ∈ range 1024, nrm 1024 h g e * wu e f) 0

/-- The stream after the feed-forward block. -/
def ores (h g : ℕ → ℝ) (wu wd : ℕ → ℕ → ℝ) (e : ℕ) : ℝ := h e + ∑ f ∈ range 4096, oact h g wu f * wd f e

/-- The region's result row. -/
def orow (x od os g2 gf : ℕ → ℝ) (wo wu wd : ℕ → ℕ → ℝ) (e : ℕ) : ℝ := nrm 1024 (ores (ohid x od os wo) g2 wu wd) gf e

theorem ohid_real (r : Fin 512) (v0 v2 v4 v8 v10) (x od os : ℕ → ℝ) (wo : ℕ → ℕ → ℝ)
    (h0 : ∀ e : Fin 1024, v0 (ix2 r e) = ((x e.val : ℝ) : EReal)) (h2 : ∀ e : Fin 512, v2 (ix2 r e) = ((od e.val : ℝ) : EReal))
    (h4 : ∀ (k : Fin 512) (e : Fin 1024), v4 (ix2 k e) = ((wo k.val e.val : ℝ) : EReal))
    (h8 : ∀ e : Fin 512, v8 (ix2 r e) = ((os e.val : ℝ) : EReal))
    (h10 : ∀ (k : Fin 512) (e : Fin 1024), v10 (ix2 k e) = ((wo (512 + k.val) e.val : ℝ) : EReal)) (e : Fin 1024) :
    k3_pay2 (F := Ideal) v0 v2 v4 v8 v10 (ix2 r e) = ((ohid x od os wo e.val : ℝ) : EReal) := by
  pointwise [k3_pay2]
  simp only [h0, h2, h4, h8, h10, ← EReal.coe_mul, coe_fsum, ← EReal.coe_add]
  rw [sum_fin 512 (fun k => od k * wo k e.val), sum_fin 512 (fun k => os k * wo (512 + k) e.val)]
  rfl

theorem oact_real (r : Fin 512) (v0 v2 v4 v8 v10 v24 v29) (h g : ℕ → ℝ) (wu : ℕ → ℕ → ℝ)
    (hh : ∀ e : Fin 1024, k3_pay2 (F := Ideal) v0 v2 v4 v8 v10 (ix2 r e) = ((h e.val : ℝ) : EReal))
    (hg : ∀ e : Fin 1024, v24 (ix2 0 e) = ((g e.val : ℝ) : EReal))
    (hw : ∀ (k : Fin 1024) (e : Fin 4096), v29 (ix2 k e) = ((wu k.val e.val : ℝ) : EReal)) (f : Fin 4096) :
    k3_pay3 (F := Ideal) v0 v2 v4 v8 v10 v24 v29 (ix2 r f) = ((oact h g wu f.val : ℝ) : EReal) := by
  pointwise [k3_pay3]
  simp only [nrm_real (fun e => k3_pay2 (F := Ideal) v0 v2 v4 v8 v10 (ix2 r e)) h hh _ g _ (hg _), hw, ← EReal.coe_mul, coe_fsum]
  rw [sum_fin 1024 (fun k => nrm 1024 h g k * wu k f.val), ← EReal.coe_zero, coe_max, ← EReal.coe_mul]
  rfl

theorem orow_real (r : Fin 512) (v13 v35 v36 v50) (h a gf : ℕ → ℝ) (wd : ℕ → ℕ → ℝ)
    (hh : ∀ e : Fin 1024, v13 (ix2 r e) = ((h e.val : ℝ) : EReal)) (ha : ∀ f : Fin 4096, v35 (ix2 r f) = ((a f.val : ℝ) : EReal))
    (hw : ∀ (k : Fin 4096) (e : Fin 1024), v36 (ix2 k e) = ((wd k.val e.val : ℝ) : EReal))
    (hg : ∀ e : Fin 1024, v50 (ix2 0 e) = ((gf e.val : ℝ) : EReal)) (e : Fin 1024) :
    k3_pay1 (F := Ideal) v13 v35 v36 v50 (ix2 r e) = ((nrm 1024 (fun e => h e + ∑ f ∈ range 4096, a f * wd f e) gf e.val : ℝ) : EReal) := by
  pointwise [k3_pay1]
  refine nrm_real (fun e => v13 (ix2 r e) + ∑ x, v35 (ix2 r x) * v36 (ix2 x e)) (fun e => h e + ∑ f ∈ range 4096, a f * wd f e) (fun e => ?_) _ gf e (hg e)
  simp only [hh, ha, hw, ← EReal.coe_mul, coe_fsum, ← EReal.coe_add]
  rw [sum_fin 4096 (fun f => a f * wd f e.val)]

theorem out3_real (B0 : Vec Ideal S512x1024 .f32) (B1 B2 : Vec Ideal S512x512 .bf16) (B3 : Vec Ideal S1024x1024 .bf16) (B4 : Vec Ideal S1x1024 .f32) (B5 : Vec Ideal S1024x4096 .bf16)
    (B6 : Vec Ideal S4096x1024 .bf16) (B7 : Vec Ideal S1x1024 .f32) (x od os g2 gf : ℕ → ℝ) (wo wu wd : ℕ → ℕ → ℝ) (r : Fin 512)
    (h0 : ∀ e : Fin 1024, B0 (ix2 r e) = ((x e.val : ℝ) : EReal)) (h1 : ∀ e : Fin 512, B1 (ix2 r e) = ((od e.val : ℝ) : EReal))
    (h2 : ∀ e : Fin 512, B2 (ix2 r e) = ((os e.val : ℝ) : EReal)) (h3 : ∀ (k e : Fin 1024), B3 (ix2 k e) = ((wo k.val e.val : ℝ) : EReal))
    (h4 : ∀ e : Fin 1024, B4 (ix2 0 e) = ((g2 e.val : ℝ) : EReal)) (h5 : ∀ (k : Fin 1024) (e : Fin 4096), B5 (ix2 k e) = ((wu k.val e.val : ℝ) : EReal))
    (h6 : ∀ (k : Fin 4096) (e : Fin 1024), B6 (ix2 k e) = ((wd k.val e.val : ℝ) : EReal)) (h7 : ∀ e : Fin 1024, B7 (ix2 0 e) = ((gf e.val : ℝ) : EReal)) (e : Fin 1024) :
    out3_8 (F := Ideal) B0 B1 B2 B3 B4 B5 B6 B7 (ix2 r e) = ((orow x od os g2 gf wo wu wd e.val : ℝ) : EReal) := by
  unfold out3_8
  frame_out
  have key : ∀ v4 v10, (∀ (k : Fin 512) (e : Fin 1024), v4 (ix2 k e) = ((wo k.val e.val : ℝ) : EReal)) → (∀ (k : Fin 512) (e : Fin 1024), v10 (ix2 k e) = ((wo (512 + k.val) e.val : ℝ) : EReal)) →
      k3_pay1 (F := Ideal) (k3_pay2 B0 B1 v4 B2 v10) (k3_pay3 B0 B1 v4 B2 v10 B4 B5) B6 B7 (ix2 r e) = ((orow x od os g2 gf wo wu wd e.val : ℝ) : EReal) := fun v4 v10 h4' h10 =>
    orow_real r _ _ _ _ (ohid x od os wo) (oact (ohid x od os wo) g2 wu) gf wd (ohid_real r B0 B1 v4 B2 v10 x od os wo h0 h1 h4' h2 h10)
      (oact_real r B0 B1 v4 B2 v10 B4 B5 _ g2 wu (ohid_real r B0 B1 v4 B2 v10 x od os wo h0 h1 h4' h2 h10) h4 h5) h6 h7 e
  refine key _ _ (fun k e => ?_) (fun k e => ?_)
  · rw [← h3 ⟨k.val, by omega⟩ e]; pointwise
  · rw [← h3 ⟨512 + k.val, by omega⟩ e]; pointwise

theorem idx3 : ∀ t : Fin cfg3.N, win3_0.index t = ![t.val, 0] ∧ win3_1.index t = ![t.val, 0] ∧ win3_2.index t = ![t.val, 0] ∧ win3_3.index t = ![0, 0]
    ∧ win3_4.index t = ![0, 0] ∧ win3_5.index t = ![0, 0] ∧ win3_6.index t = ![0, 0] ∧ win3_7.index t = ![0, 0] ∧ win3_8.index t = ![t.val, 0] :=
  (by decide +kernel : ∀ t : Fin grid3.N, _)

section Out
variable (c : Dev nD) (X OD OS WO WU WD : ℕ → ℕ → ℝ) (G2 GF : ℕ → ℝ)
  (hX : ∀ (i : Fin 16384) (e : Fin 1024), (V c main_v0 : Vec Ideal S16384x1024 .f32) (ix2 i e) = ((X i.val e.val : ℝ) : EReal))
  (hOD : ∀ (i : Fin 16384) (e : Fin 512), (V c main_v21 : Vec Ideal S16384x512 .bf16) (ix2 i e) = ((OD i.val e.val : ℝ) : EReal))
  (hOS : ∀ (i : Fin 16384) (e : Fin 512), (V c main_v22 : Vec Ideal S16384x512 .bf16) (ix2 i e) = ((OS i.val e.val : ℝ) : EReal))
  (hWO : ∀ (i : Fin 1024) (e : Fin 1024), (V c main_v24 : Vec Ideal S1024x1024 .bf16) (ix2 i e) = ((WO i.val e.val : ℝ) : EReal))
  (hG2 : ∀ (e : Fin 1024), (V c main_v26 : Vec Ideal S1x1024 .f32) (ix2 0 e) = ((G2 e.val : ℝ) : EReal))
  (hWU : ∀ (i : Fin 1024) (e : Fin 4096), (V c main_v28 : Vec Ideal S1024x4096 .bf16) (ix2 i e) = ((WU i.val e.val : ℝ) : EReal))
  (hWD : ∀ (i : Fin 4096) (e : Fin 1024), (V c main_v30 : Vec Ideal S4096x1024 .bf16) (ix2 i e) = ((WD i.val e.val : ℝ) : EReal))
  (hGF : ∀ (e : Fin 1024), (V c main_v31 : Vec Ideal S1x1024 .f32) (ix2 0 e) = ((GF e.val : ℝ) : EReal))

include hX in
theorem ox_blk (t : Fin cfg3.N) (r : Fin 512) (e : Fin 1024) : iblk3 V c 0 t (ix2 r e) = ((X (512 * t.val + r.val) e.val : ℝ) : EReal) := by
  have h0 : t.val < 32 := lt_of_lt_of_eq t.isLt N_3
  rw [← hX ⟨512 * t.val + r.val, by omega⟩ e]
  blk_ext [iblk3, idx3 t]
include hOD in
theorem ood_blk (t : Fin cfg3.N) (r : Fin 512) (e : Fin 512) : iblk3 V c 1 t (ix2 r e) = ((OD (512 * t.val + r.val) e.val : ℝ) : EReal) := by
  have h0 : t.val < 32 := lt_of_lt_of_eq t.isLt N_3
  rw [← hOD ⟨512 * t.val + r.val, by omega⟩ e]
  blk_ext [iblk3, idx3 t]
include hOS in
theorem oos_blk (t : Fin cfg3.N) (r : Fin 512) (e : Fin 512) : iblk3 V c 2 t (ix2 r e) = ((OS (512 * t.val + r.val) e.val : ℝ) : EReal) := by
  have h0 : t.val < 32 := lt_of_lt_of_eq t.isLt N_3
  rw [← hOS ⟨512 * t.val + r.val, by omega⟩ e]
  blk_ext [iblk3, idx3 t]
include hWO in
theorem owo_blk (t : Fin cfg3.N) (k : Fin 1024) (e : Fin 1024) : iblk3 V c 3 t (ix2 k e) = ((WO k.val e.val : ℝ) : EReal) := by
  rw [← hWO k e]
  blk_ext [iblk3, idx3 t]
include hWU in
theorem owu_blk (t : Fin cfg3.N) (k : Fin 1024) (e : Fin 4096) : iblk3 V c 5 t (ix2 k e) = ((WU k.val e.val : ℝ) : EReal) := by
  rw [← hWU k e]
  blk_ext [iblk3, idx3 t]
include hWD in
theorem owd_blk (t : Fin cfg3.N) (k : Fin 4096) (e : Fin 1024) : iblk3 V c 6 t (ix2 k e) = ((WD k.val e.val : ℝ) : EReal) := by
  rw [← hWD k e]
  blk_ext [iblk3, idx3 t]
include hG2 in
theorem og2_blk (t : Fin cfg3.N) (e : Fin 1024) : iblk3 V c 4 t (ix2 0 e) = ((G2 e.val : ℝ) : EReal) := by
  rw [← hG2 e]
  blk_ext [iblk3, idx3 t]
include hGF in
theorem ogf_blk (t : Fin cfg3.N) (e : Fin 1024) : iblk3 V c 7 t (ix2 0 e) = ((GF e.val : ℝ) : EReal) := by
  rw [← hGF e]
  blk_ext [iblk3, idx3 t]

include hX hOD hOS hWO hG2 hWU hWD hGF in
/-- The region's array at the end, over the reals. -/
theorem region3 : (dat3 V c).arrAt 8 cfg3.N = (fun j => ((orow (X (j 0).val) (OD (j 0).val) (OS (j 0).val) G2 GF WO WU WD (j 1).val : ℝ) : EReal) : Vec Ideal S16384x1024 .f32) := by
  refine (dat3 V c).arrAt_eq_of_covers 8 _ (by decide +kernel) fun t hf y => ?_
  obtain ⟨r, e, rfl⟩ : ∃ (r : Fin 512) (e : Fin 1024), y = ix2 r e := ⟨y 0, y 1, by funext a; fin_cases a <;> rfl⟩
  blk_simp [idx3 t]
  rw [after3_8]
  have hA : ∀ j i : ℕ, i = 512 * t.val + r.val → j = e.val →
      orow (X (512 * t.val + r.val)) (OD (512 * t.val + r.val)) (OS (512 * t.val + r.val)) G2 GF WO WU WD e.val = orow (X i) (OD i) (OS i) G2 GF WO WU WD j := by
    rintro j i rfl rfl; rfl
  refine Eq.trans (out3_real _ _ _ _ _ _ _ _ _ _ _ G2 GF WO WU WD r (ox_blk V c X hX t r) (ood_blk V c OD hOD t r) (oos_blk V c OS hOS t r) (owo_blk V c WO hWO t) (og2_blk V c G2 hG2 t)
    (owu_blk V c WU hWU t) (owd_blk V c WD hWD t) (ogf_blk V c GF hGF t) e) (congrArg (fun x : ℝ => (x : EReal)) (hA _ _ ?_ ?_))
  · omega
  · simp
end Out
end Cert.KernelIdeal.Value
-- ==== Proof.KHost.lean ====
module

public import proofs.«01_k».proof.Proof.Gen.KernelIdeal.Frame
public import Idealize.ShloMosaic.Lib.Pipeline.ValueKit
public import Idealize.ShloMosaic.Lib.Pointwise
public import proofs.«01_k».proof.Proof.Region0
public import proofs.«01_k».proof.Proof.Region1Out
public import proofs.«01_k».proof.Proof.Region2Out
public import proofs.«01_k».proof.Proof.Region3
public import Idealize.ShloMosaic.Lib.Claim

@[expose] public section

set_option maxRecDepth 16384

noncomputable section
open Idealize.ShloMosaic Idealize.ShloMosaic.TcCoe Idealize.SL.Sem
open Idealize.ShloMosaic.Pipeline (Dat)
namespace Cert.KernelIdeal.Value
open Cert.KernelIdeal Cert.KernelIdeal.Gen
open Cert.RealKit Finset
/-! The host lines of the kernel's program and its four regions, joined: the result as a real function of the arguments. -/

/-- The real arguments. -/
structure Par where
  x : ℕ → ℕ → ℕ → ℝ
  g1 : ℕ → ℝ
  wi : ℕ → ℕ → ℝ
  lq1 : ℕ → ℝ
  lk1 : ℕ → ℝ
  lq2 : ℕ → ℝ
  lk2 : ℕ → ℝ
  gd : ℕ → ℝ
  gs : ℕ → ℝ
  wo : ℕ → ℕ → ℝ
  g2 : ℕ → ℝ
  wu : ℕ → ℕ → ℝ
  wd : ℕ → ℕ → ℝ
  gf : ℕ → ℝ

/-- The base-2 logarithm of e. -/
def l2e : ℝ := 1 / Real.log 2

/-- The projection's column scale. -/
def csc (e : ℕ) : ℝ := if e < 512 then l2e * (1 / 8) else if e < 1536 then 1 else if e < 2048 then l2e * (1 / 8) else 1

/-- The slope of a head, times the base-2 logarithm of e. -/
def slp (h : ℕ) : ℝ := (1 / 4) ^ (h + 1) * l2e

variable (m : (ℓ : Loc nD τ sig) → Buf (Elt Ideal) ℓ) (ρ : Dev nD → PrngReg) (c : Dev nD) (p : Par)

/-- The arguments hold the real arrays of `p`. -/
structure Holds : Prop where
  x : ∀ (b : Fin 8) (t : Fin 2048) (d : Fin 1024), (m ((c : Thread nD τ).loc main_arg0) : Vec Ideal S8x2048x1024 .f32) (ix3 b t d) = ((p.x b.val t.val d.val : ℝ) : EReal)
  g1 : ∀ (d : Fin 1024), (m ((c : Thread nD τ).loc main_arg1) : Vec Ideal S1x1024 .f32) (ix2 0 d) = ((p.g1 d.val : ℝ) : EReal)
  wi : ∀ (d : Fin 1024) (e : Fin 3072), (m ((c : Thread nD τ).loc main_arg2) : Vec Ideal S1x1024x3072 .f32) (ix3 0 d e) = ((p.wi d.val e.val : ℝ) : EReal)
  lq1 : ∀ (d : Fin 64), (m ((c : Thread nD τ).loc main_arg3) : Vec Ideal S1x64 .f32) (ix2 0 d) = ((p.lq1 d.val : ℝ) : EReal)
  lk1 : ∀ (d : Fin 64), (m ((c : Thread nD τ).loc main_arg4) : Vec Ideal S1x64 .f32) (ix2 0 d) = ((p.lk1 d.val : ℝ) : EReal)
  lq2 : ∀ (d : Fin 64), (m ((c : Thread nD τ).loc main_arg5) : Vec Ideal S1x64 .f32) (ix2 0 d) = ((p.lq2 d.val : ℝ) : EReal)
  lk2 : ∀ (d : Fin 64), (m ((c : Thread nD τ).loc main_arg6) : Vec Ideal S1x64 .f32) (ix2 0 d) = ((p.lk2 d.val : ℝ) : EReal)
  gd : ∀ (d : Fin 128), (m ((c : Thread nD τ).loc main_arg7) : Vec Ideal S1x128 .f32) (ix2 0 d) = ((p.gd d.val : ℝ) : EReal)
  gs : ∀ (d : Fin 64), (m ((c : Thread nD τ).loc main_arg8) : Vec Ideal S1x64 .f32) (ix2 0 d) = ((p.gs d.val : ℝ) : EReal)
  wo : ∀ (d : Fin 1024) (e : Fin 1024), (m ((c : Thread nD τ).loc main_arg9) : Vec Ideal S1x1024x1024 .f32) (ix3 0 d e) = ((p.wo d.val e.val : ℝ) : EReal)
  g2 : ∀ (d : Fin 1024), (m ((c : Thread nD τ).loc main_arg10) : Vec Ideal S1x1024 .f32) (ix2 0 d) = ((p.g2 d.val : ℝ) : EReal)
  wu : ∀ (d : Fin 1024) (e : Fin 4096), (m ((c : Thread nD τ).loc main_arg11) : Vec Ideal S1x1024x4096 .f32) (ix3 0 d e) = ((p.wu d.val e.val : ℝ) : EReal)
  wd : ∀ (d : Fin 4096) (e : Fin 1024), (m ((c : Thread nD τ).loc main_arg12) : Vec Ideal S1x4096x1024 .f32) (ix3 0 d e) = ((p.wd d.val e.val : ℝ) : EReal)
  gf : ∀ (d : Fin 1024), (m ((c : Thread nD τ).loc main_arg13) : Vec Ideal S1024 .f32) (ix1 d) = ((p.gf d.val : ℝ) : EReal)

variable {m c p} (H : Holds m c p)

theorem bits_18 : Ideal.ofBits .f32 1040187392#32 = (((1 / 8 : ℝ) : ℝ) : EReal) := by
  simp [Ideal.ofBits, Ideal.ieee]
  norm_num [← EReal.coe_mul, ← EReal.coe_div]
theorem bits_2 : Ideal.ofBits .f32 1073741824#32 = (((2 : ℝ) : ℝ) : EReal) := by
  simp [Ideal.ofBits, Ideal.ieee]
  norm_num [← EReal.coe_mul, ← EReal.coe_div]
include H in
theorem w1_x (i : Fin 16384) (d : Fin 1024) : (V1 m ρ c main_v0 : Vec Ideal S16384x1024 .f32) (ix2 i d) = ((p.x (i.val / 2048) (i.val % 2048) d.val : ℝ) : EReal) := by
  show (StableHlo.after hostOps0 (W0 m ρ c) (Proc.devRef .tc main_v0) : Vec Ideal S16384x1024 .f32) (ix2 i d) = _
  after_results
  rw [← H.x ⟨i.val / 2048, by omega⟩ ⟨i.val % 2048, by omega⟩ d]
  pointwise
  blk_ext
theorem ln2 : Ideal.log (((2 : ℝ) : ℝ) : EReal) = ((Real.log 2 : ℝ) : EReal) := log_real (by norm_num)
theorem div_ln2 : Ideal.div 1 ((Real.log 2 : ℝ) : EReal) = ((l2e : ℝ) : EReal) := by
  rw [← EReal.coe_one, div_real (Real.log_pos (by norm_num)).ne']; rfl
theorem lit_sl (e : Fin 4) : Ideal.ofBits .f32 (lit0 (S4.rowMajor (ix1 e))) = (((1 / 4) ^ (e.val + 1) : ℝ) : EReal) := by
  fin_cases e
  · show Ideal.ofBits .f32 1048576000#32 = _
    simp [Ideal.ofBits, Ideal.ieee]
    norm_num [← EReal.coe_mul, ← EReal.coe_div]
  · show Ideal.ofBits .f32 1031798784#32 = _
    simp [Ideal.ofBits, Ideal.ieee]
    norm_num [← EReal.coe_mul, ← EReal.coe_div]
  · show Ideal.ofBits .f32 1015021568#32 = _
    simp [Ideal.ofBits, Ideal.ieee]
    norm_num [← EReal.coe_mul, ← EReal.coe_div]
  · show Ideal.ofBits .f32 998244352#32 = _
    simp [Ideal.ofBits, Ideal.ieee]
    norm_num [← EReal.coe_mul, ← EReal.coe_div]
theorem w1_cs (e : Fin 3072) : (V1 m ρ c main_v6 : Vec Ideal S1x3072 .f32) (ix2 0 e) = ((csc e.val : ℝ) : EReal) := by
  show (StableHlo.after hostOps0 (W0 m ρ c) (Proc.devRef .tc main_v6) : Vec Ideal S1x3072 .f32) (ix2 0 e) = _
  after_results
  pointwise
  after_results_simp
  pointwise
  simp only [bits_2, bits_18, ln2, div_ln2]
  rw [← EReal.coe_mul]
  unfold csc
  by_cases h1 : e.val < 512
  · simp only [h1, dite_true, if_true]
  by_cases h2 : e.val < 1536
  · simp only [h1, h2, show e.val - 512 < 1024 by omega, dite_true, dite_false, if_true, if_false]; rfl
  by_cases h3 : e.val < 2048
  · simp only [h1, h2, h3, show ¬ e.val - 512 < 1024 by omega, show e.val - 512 - 1024 < 512 by omega, dite_true, dite_false, if_true, if_false]
  · simp only [h1, h2, h3, show ¬ e.val - 512 < 1024 by omega, show ¬ e.val - 512 - 1024 < 512 by omega, dite_true, dite_false, if_true, if_false]; rfl
theorem w1_sl (e : Fin 4) : (V1 m ρ c main_v8 : Vec Ideal S4 .f32) (ix1 e) = ((slp e.val : ℝ) : EReal) := by
  show (StableHlo.after hostOps0 (W0 m ρ c) (Proc.devRef .tc main_v8) : Vec Ideal S4 .f32) (ix1 e) = _
  after_results
  pointwise
  rw [lit_sl, bits_2, ln2, div_ln2, ← EReal.coe_mul]
  rfl
include H in
theorem w1_g (d : Fin 1024) : (V1 m ρ c main_v10 : Vec Ideal S1x1024 .f32) (ix2 0 d) = ((p.g1 d.val : ℝ) : EReal) := by
  show (StableHlo.after hostOps0 (W0 m ρ c) (Proc.devRef .tc main_v10) : Vec Ideal S1x1024 .f32) (ix2 0 d) = _
  after_results
  rw [← H.g1 d]
  pointwise
include H in
theorem w1_w (d : Fin 1024) (e : Fin 3072) : (V1 m ρ c main_v12 : Vec Ideal S1024x3072 .bf16) (ix2 d e) = ((p.wi d.val e.val : ℝ) : EReal) := by
  show (StableHlo.after hostOps0 (W0 m ρ c) (Proc.devRef .tc main_v12) : Vec Ideal S1024x3072 .bf16) (ix2 d e) = _
  after_results
  rw [← H.wi d e]
  pointwise

/-- The scaled projection. -/
def kX (p : Par) (b t e : ℕ) : ℝ := rqkv (p.x b t) p.g1 p.wi csc e
/-- The differential attention's output. -/
def kD (p : Par) (b t j : ℕ) : ℝ := dnorm (dao (kX p) slp (dlam p.lq1 p.lk1 p.lq2 p.lk2) b t (j / 128)) (j % 128) * p.gd (j % 128) * c08
/-- The stick-breaking attention's output. -/
def kS (p : Par) (b t j : ℕ) : ℝ := hnorm (sbo (kX p) b t) j * p.gs (j % 128 % 64)
/-- The kernel's result. -/
def kOut (p : Par) (b t d : ℕ) : ℝ := orow (p.x b t) (kD p b t) (kS p b t) p.g2 p.gf p.wo p.wu p.wd d

include H in
theorem w2_qkv : W2 m ρ c (Proc.devRef .tc main_v13) = (fun j => ((rqkv (p.x ((j 0).val / 2048) ((j 0).val % 2048)) p.g1 p.wi csc (j 1).val : ℝ) : EReal) : Vec Ideal S16384x3072 .bf16) :=
  (W2_arr m ρ c 4).trans (region0 (V1 m ρ) c (fun i => p.x (i / 2048) (i % 2048)) p.wi p.g1 csc (w1_x ρ H) (w1_g ρ H) (w1_w ρ H) (w1_cs ρ))

include H in
theorem w3_qkv (b : Fin 8) (t : Fin 2048) (e : Fin 3072) : (V3 m ρ c main_v14 : Vec Ideal S8x2048x3072 .bf16) (ix3 b t e) = ((kX p b.val t.val e.val : ℝ) : EReal) := by
  show (StableHlo.after hostOps1 (W2 m ρ c) (Proc.devRef .tc main_v14) : Vec Ideal S8x2048x3072 .bf16) (ix3 b t e) = _
  after_results
  rw [w2_qkv ρ H]
  pointwise
  refine congrArg (fun x : ℝ => (x : EReal)) ?_
  unfold kX
  congr 2 <;> omega

theorem w3_sl (e : Fin 4) : (V3 m ρ c main_v8 : Vec Ideal S4 .f32) (ix1 e) = ((slp e.val : ℝ) : EReal) :=
  (congrFun ((W3_of m ρ c main_v8 (by decide)).trans (W2_of m ρ c main_v8 (by decide))) (ix1 e)).trans (w1_sl ρ e)

include H in
theorem w4_od : W4 m ρ c (Proc.devRef .tc main_v15) = (fun j => ((kD p (j 0).val (j 1).val (j 2).val : ℝ) : EReal) : Vec Ideal S8x2048x512 .bf16) :=
  (W4_arr m ρ c 9).trans (region1 (V3 m ρ) c (kX p) slp p.lq1 p.lk1 p.lq2 p.lk2 p.gd (w3_qkv ρ H) (w3_sl ρ)
    (fun d => (congrFun (W3_args m ρ c main_arg3 (by decide)) (ix2 0 d)).trans (H.lq1 d))
    (fun d => (congrFun (W3_args m ρ c main_arg4 (by decide)) (ix2 0 d)).trans (H.lk1 d))
    (fun d => (congrFun (W3_args m ρ c main_arg5 (by decide)) (ix2 0 d)).trans (H.lq2 d))
    (fun d => (congrFun (W3_args m ρ c main_arg6 (by decide)) (ix2 0 d)).trans (H.lk2 d))
    (fun d => (congrFun (W3_args m ρ c main_arg7 (by decide)) (ix2 0 d)).trans (H.gd d)))

include H in
theorem w5_qkv (b : Fin 8) (t : Fin 2048) (e : Fin 3072) : (V5 m ρ c main_v14 : Vec Ideal S8x2048x3072 .bf16) (ix3 b t e) = ((kX p b.val t.val e.val : ℝ) : EReal) :=
  (congrFun ((W5_of m ρ c main_v14 (by decide)).trans (W4_of m ρ c main_v14 (by decide))) (ix3 b t e)).trans (w3_qkv ρ H b t e)

include H in
theorem w5_g (e : Fin 128) : (V5 m ρ c main_v19 : Vec Ideal S1x128 .f32) (ix2 0 e) = ((p.gs (e.val % 64) : ℝ) : EReal) := by
  show (StableHlo.after hostOps2 (W4 m ρ c) (Proc.devRef .tc main_v19) : Vec Ideal S1x128 .f32) (ix2 0 e) = _
  after_results
  rw [W4_args m ρ c main_arg8 (by decide)]
  rw [← H.gs ⟨e.val % 64, by omega⟩]
  pointwise
  split
  · congr 2; refine Fin.ext ?_; show e.val = e.val % 64; omega
  · congr 2; refine Fin.ext ?_; show e.val - 64 = e.val % 64; omega

include H in
theorem w6_os : W6 m ρ c (Proc.devRef .tc main_v20) = (fun j => ((kS p (j 0).val (j 1).val (j 2).val : ℝ) : EReal) : Vec Ideal S8x2048x512 .bf16) :=
  (W6_arr m ρ c 4).trans (region2 (V5 m ρ) c (kX p) (fun e => p.gs (e % 64)) (w5_qkv ρ H) (w5_g ρ H))

include H in
theorem w6_od : W6 m ρ c (Proc.devRef .tc main_v15) = (fun j => ((kD p (j 0).val (j 1).val (j 2).val : ℝ) : EReal) : Vec Ideal S8x2048x512 .bf16) :=
  ((W6_of m ρ c main_v15 (by decide)).trans (W5_of m ρ c main_v15 (by decide))).trans (w4_od ρ H)

include H in
theorem w7_x (i : Fin 16384) (d : Fin 1024) : (V7 m ρ c main_v0 : Vec Ideal S16384x1024 .f32) (ix2 i d) = ((p.x (i.val / 2048) (i.val % 2048) d.val : ℝ) : EReal) :=
  (congrFun ((W7_of m ρ c main_v0 (by decide)).trans ((W6_of m ρ c main_v0 (by decide)).trans ((W5_of m ρ c main_v0 (by decide)).trans
    ((W4_of m ρ c main_v0 (by decide)).trans ((W3_of m ρ c main_v0 (by decide)).trans (W2_of m ρ c main_v0 (by decide))))))) (ix2 i d)).trans (w1_x ρ H i d)

include H in
theorem w7_od (i : Fin 16384) (e : Fin 512) : (V7 m ρ c main_v21 : Vec Ideal S16384x512 .bf16) (ix2 i e) = ((kD p (i.val / 2048) (i.val % 2048) e.val : ℝ) : EReal) := by
  show (StableHlo.after hostOps3 (W6 m ρ c) (Proc.devRef .tc main_v21) : Vec Ideal S16384x512 .bf16) (ix2 i e) = _
  after_results
  rw [w6_od ρ H]
  pointwise
include H in
theorem w7_os (i : Fin 16384) (e : Fin 512) : (V7 m ρ c main_v22 : Vec Ideal S16384x512 .bf16) (ix2 i e) = ((kS p (i.val / 2048) (i.val % 2048) e.val : ℝ) : EReal) := by
  show (StableHlo.after hostOps3 (W6 m ρ c) (Proc.devRef .tc main_v22) : Vec Ideal S16384x512 .bf16) (ix2 i e) = _
  after_results
  rw [w6_os ρ H]
  pointwise
include H in
theorem w7_wo (k : Fin 1024) (e : Fin 1024) : (V7 m ρ c main_v24 : Vec Ideal S1024x1024 .bf16) (ix2 k e) = ((p.wo k.val e.val : ℝ) : EReal) := by
  show (StableHlo.after hostOps3 (W6 m ρ c) (Proc.devRef .tc main_v24) : Vec Ideal S1024x1024 .bf16) (ix2 k e) = _
  after_results
  rw [W6_args m ρ c main_arg9 (by decide), ← H.wo k e]
  pointwise
include H in
theorem w7_wu (k : Fin 1024) (e : Fin 4096) : (V7 m ρ c main_v28 : Vec Ideal S1024x4096 .bf16) (ix2 k e) = ((p.wu k.val e.val : ℝ) : EReal) := by
  show (StableHlo.after hostOps3 (W6 m ρ c) (Proc.devRef .tc main_v28) : Vec Ideal S1024x4096 .bf16) (ix2 k e) = _
  after_results
  rw [W6_args m ρ c main_arg11 (by decide), ← H.wu k e]
  pointwise
include H in
theorem w7_wd (k : Fin 4096) (e : Fin 1024) : (V7 m ρ c main_v30 : Vec Ideal S4096x1024 .bf16) (ix2 k e) = ((p.wd k.val e.val : ℝ) : EReal) := by
  show (StableHlo.after hostOps3 (W6 m ρ c) (Proc.devRef .tc main_v30) : Vec Ideal S4096x1024 .bf16) (ix2 k e) = _
  after_results
  rw [W6_args m ρ c main_arg12 (by decide), ← H.wd k e]
  pointwise
include H in
theorem w7_g2 (e : Fin 1024) : (V7 m ρ c main_v26 : Vec Ideal S1x1024 .f32) (ix2 0 e) = ((p.g2 e.val : ℝ) : EReal) := by
  show (StableHlo.after hostOps3 (W6 m ρ c) (Proc.devRef .tc main_v26) : Vec Ideal S1x1024 .f32) (ix2 0 e) = _
  after_results
  rw [W6_args m ρ c main_arg10 (by decide), ← H.g2 e]
  pointwise
include H in
theorem w7_gf (e : Fin 1024) : (V7 m ρ c main_v31 : Vec Ideal S1x1024 .f32) (ix2 0 e) = ((p.gf e.val : ℝ) : EReal) := by
  show (StableHlo.after hostOps3 (W6 m ρ c) (Proc.devRef .tc main_v31) : Vec Ideal S1x1024 .f32) (ix2 0 e) = _
  after_results
  rw [W6_args m ρ c main_arg13 (by decide), ← H.gf e]
  pointwise

include H in
theorem w8_out : W8 m ρ c (Proc.devRef .tc main_v32) = (fun j => ((kOut p ((j 0).val / 2048) ((j 0).val % 2048) (j 1).val : ℝ) : EReal) : Vec Ideal S16384x1024 .f32) :=
  (W8_arr m ρ c 8).trans (region3 (V7 m ρ) c (fun i => p.x (i / 2048) (i % 2048)) (fun i => kD p (i / 2048) (i % 2048)) (fun i => kS p (i / 2048) (i % 2048)) p.wo p.wu p.wd p.g2 p.gf
    (w7_x ρ H) (w7_od ρ H) (w7_os ρ H) (w7_wo ρ H) (w7_g2 ρ H) (w7_wu ρ H) (w7_wd ρ H) (w7_gf ρ H))

include H in
/-- The kernel's result array. -/
theorem w9_out : W9 m ρ c (Proc.devRef .tc main_v33) = (fun j => ((kOut p (j 0).val (j 1).val (j 2).val : ℝ) : EReal) : Vec Ideal S8x2048x1024 .f32) := by
  show (StableHlo.after hostOps4 (W8 m ρ c) (Proc.devRef .tc main_v33) : Vec Ideal S8x2048x1024 .f32) = _
  after_results
  rw [w8_out ρ H]
  funext j
  idx_vars j
  pointwise
  refine congrArg (fun x : ℝ => (x : EReal)) ?_
  congr 1 <;> omega
end Cert.KernelIdeal.Value
-- ==== Proof.RefProj.lean ====
module

public import proofs.«01_k».proof.Proof.Gen.ReferenceIdeal.Read
public import Idealize.ShloMosaic.Lib.Pipeline.ValueKit
public import Idealize.ShloMosaic.Lib.Pointwise
public import proofs.«01_k».proof.Proof.KHost

@[expose] public section

set_option maxRecDepth 16384

noncomputable section
open Idealize.ShloMosaic Idealize.ShloMosaic.TcCoe Idealize.SL.Sem
namespace Cert.ReferenceIdeal.Value
open Cert.ReferenceIdeal Cert.ReferenceIdeal.Gen Cert.ReferenceIdeal.Read Cert.RealKit Finset
open Cert.KernelIdeal.Value (Par nrm nrm_real l2e)
/-! The reference's norm and projection, read over the reals. -/

/-- The reference's arguments hold the real arrays of `p`. -/
structure RHolds (p : Par) (x0 : Vec Ideal S8x2048x1024 .f32) (x1 : Vec Ideal S1x1024 .f32) (x2 : Vec Ideal S1x1024x3072 .f32) (x3 x4 x5 x6 : Vec Ideal S1x64 .f32)
    (x7 : Vec Ideal S1x128 .f32) (x8 : Vec Ideal S1x64 .f32) (x9 : Vec Ideal S1x1024x1024 .f32) (x10 : Vec Ideal S1x1024 .f32) (x11 : Vec Ideal S1x1024x4096 .f32)
    (x12 : Vec Ideal S1x4096x1024 .f32) (x13 : Vec Ideal S1024 .f32) : Prop where
  x : ∀ (b : Fin 8) (t : Fin 2048) (d : Fin 1024), x0 (ix3 b t d) = ((p.x b.val t.val d.val : ℝ) : EReal)
  g1 : ∀ (d : Fin 1024), x1 (ix2 0 d) = ((p.g1 d.val : ℝ) : EReal)
  wi : ∀ (d : Fin 1024) (e : Fin 3072), x2 (ix3 0 d e) = ((p.wi d.val e.val : ℝ) : EReal)
  lq1 : ∀ (d : Fin 64), x3 (ix2 0 d) = ((p.lq1 d.val : ℝ) : EReal)
  lk1 : ∀ (d : Fin 64), x4 (ix2 0 d) = ((p.lk1 d.val : ℝ) : EReal)
  lq2 : ∀ (d : Fin 64), x5 (ix2 0 d) = ((p.lq2 d.val : ℝ) : EReal)
  lk2 : ∀ (d : Fin 64), x6 (ix2 0 d) = ((p.lk2 d.val : ℝ) : EReal)
  gd : ∀ (d : Fin 128), x7 (ix2 0 d) = ((p.gd d.val : ℝ) : EReal)
  gs : ∀ (d : Fin 64), x8 (ix2 0 d) = ((p.gs d.val : ℝ) : EReal)
  wo : ∀ (d : Fin 1024) (e : Fin 1024), x9 (ix3 0 d e) = ((p.wo d.val e.val : ℝ) : EReal)
  g2 : ∀ (d : Fin 1024), x10 (ix2 0 d) = ((p.g2 d.val : ℝ) : EReal)
  wu : ∀ (d : Fin 1024) (e : Fin 4096), x11 (ix3 0 d e) = ((p.wu d.val e.val : ℝ) : EReal)
  wd : ∀ (d : Fin 4096) (e : Fin 1024), x12 (ix3 0 d e) = ((p.wd d.val e.val : ℝ) : EReal)
  gf : ∀ (d : Fin 1024), x13 (ix1 d) = ((p.gf d.val : ℝ) : EReal)

/-- The projection. -/
def pr (p : Par) (b t e : ℕ) : ℝ := ∑ d ∈ range 1024, nrm 1024 (p.x b t) p.g1 d * p.wi d e

section
variable {p : Par} {x0 : Vec Ideal S8x2048x1024 .f32} {x1 : Vec Ideal S1x1024 .f32} {x2 : Vec Ideal S1x1024x3072 .f32} {x3 x4 x5 x6 : Vec Ideal S1x64 .f32}
    {x7 : Vec Ideal S1x128 .f32} {x8 : Vec Ideal S1x64 .f32} {x9 : Vec Ideal S1x1024x1024 .f32} {x10 : Vec Ideal S1x1024 .f32} {x11 : Vec Ideal S1x1024x4096 .f32}
    {x12 : Vec Ideal S1x4096x1024 .f32} {x13 : Vec Ideal S1024 .f32} (H : RHolds p x0 x1 x2 x3 x4 x5 x6 x7 x8 x9 x10 x11 x12 x13)

include H in
theorem r_norm1 (b : Fin 8) (t : Fin 2048) (d : Fin 1024) : val_main_v13 (F := Ideal) x0 x1 (ix3 b t d) = ((nrm 1024 (p.x b.val t.val) p.g1 d.val : ℝ) : EReal) := by
  pointwise [val_main_v13, val_main_v10, val_main_v12, val_main_v11, val_main_v0, val_main_v9, val_main_v8, val_main_v7, val_main_v6, val_main_v5, val_main_v4, val_main_v3, val_main_v2, val_main_v1, val_main_cst, val_main_cst_0, val_main_cst_1]
  exact nrm_real (fun d => x0 (ix3 b t d)) (p.x b.val t.val) (H.x b t) _ p.g1 d (H.g1 d)

include H in
theorem r_proj (b : Fin 8) (t : Fin 2048) (e : Fin 3072) : val_main_v15 (F := Ideal) x0 x1 x2 (ix3 b t e) = ((pr p b.val t.val e.val : ℝ) : EReal) := by
  pointwise [val_main_v15, val_main_v14]
  simp only [r_norm1 H, H.wi, ← EReal.coe_mul, coe_fsum]
  rw [sum_fin 1024 (fun d => nrm 1024 (p.x b.val t.val) p.g1 d * p.wi d e.val)]
  rfl
end
end Cert.ReferenceIdeal.Value
-- ==== Proof.RefMask.lean ====
module

public import proofs.«01_k».proof.Proof.Gen.ReferenceIdeal.Read
public import Idealize.ShloMosaic.Lib.Pipeline.ValueKit
public import Idealize.ShloMosaic.Lib.Pointwise
public import proofs.«01_k».proof.Proof.RefProj

@[expose] public section

set_option maxRecDepth 16384

noncomputable section
open Idealize.ShloMosaic Idealize.ShloMosaic.TcCoe Idealize.SL.Sem
namespace Cert.ReferenceIdeal.Value
open Cert.ReferenceIdeal Cert.ReferenceIdeal.Gen Cert.ReferenceIdeal.Read Cert.RealKit Finset Cert.DaMath Cert.SbMath
open Cert.KernelIdeal.Value (Par nrm nrm_real l2e)
open Cert.KernelIdeal.Value (kX kD kS kOut csc slp dly dvis dsm dao dnorm dlam c08 c02 bits_08 bits_02 bits_128 bits_bot bits_18 bits_2 ln2 absi_toInt sitofp_real zsc zsc_lo zsc_hi rqkv)
/-! The reference's differential attention, read over the reals. -/

/-- The maximum of a row of reals and bottoms, some of them real, is real. -/
theorem fold_max_real (s : Finset (Fin 2048)) (u : Fin 2048 → EReal) (f : ℕ → ℝ) (P : ℕ → Prop) [DecidablePred P]
    (hu : ∀ x, u x = if P x.val then ((f x.val : ℝ) : EReal) else ⊥) :
    (s.fold max ⊥ u = ⊥ ∧ ∀ x ∈ s, ¬ P x.val) ∨ ∃ R : ℝ, s.fold max ⊥ u = (R : EReal) := by
  induction s using Finset.induction_on with
  | empty => left; simp
  | insert a s ha ih =>
    rw [fold_insert ha, hu a]
    by_cases hp : P a.val
    · right
      rw [if_pos hp]
      rcases ih with ⟨h, -⟩ | ⟨R, h⟩
      · exact ⟨f a.val, by rw [h, max_eq_left bot_le]⟩
      · exact ⟨max (f a.val) R, by rw [h, coe_max]⟩
    · rw [if_neg hp, max_eq_right bot_le]
      rcases ih with ⟨h, h'⟩ | h
      · refine Or.inl ⟨h, fun x hx => ?_⟩
        rcases mem_insert.mp hx with rfl | hx
        · exact hp
        · exact h' x hx
      · exact Or.inr h

/-- The weight of a visible key. -/
def ew (f : ℕ → ℝ) (P : ℕ → Prop) [DecidablePred P] (k : ℕ) : ℝ := if P k then Real.exp (f k) else 0

/-- A masked softmax, its weights taken relative to the row's maximum. -/
theorem softmax_real (u : Fin 2048 → EReal) (f : ℕ → ℝ) (P : ℕ → Prop) [DecidablePred P]
    (hu : ∀ x, u x = if P x.val then ((f x.val : ℝ) : EReal) else ⊥) (k0 : Fin 2048) (h0 : P k0.val) (k : Fin 2048) :
    Ideal.div (Ideal.exp (u k - max ⊥ (univ.fold max ⊥ u))) (∑ x, Ideal.exp (u x - max ⊥ (univ.fold max ⊥ u)))
      = ((ew f P k.val / ∑ j ∈ range 2048, ew f P j : ℝ) : EReal) := by
  obtain ⟨R, hR⟩ : ∃ R : ℝ, univ.fold max ⊥ u = (R : EReal) := by
    rcases fold_max_real univ u f P hu with ⟨-, h⟩ | h
    · exact absurd h0 (h k0 (mem_univ _))
    · exact h
  have he : ∀ x, Ideal.exp (u x - max ⊥ (univ.fold max ⊥ u)) = ((Real.exp (-R) * ew f P x.val : ℝ) : EReal) := fun x => by
    rw [hR, max_eq_right bot_le, hu]
    unfold ew
    split
    · rw [← EReal.coe_sub]
      show ((Real.exp _ : ℝ) : EReal) = _
      rw [← Real.exp_add]; congr 2; ring
    · rw [EReal.bot_sub, mul_zero]; rfl
  have hn : ∀ j, 0 ≤ ew f P j := fun j => by unfold ew; split <;> positivity
  have hpos : 0 < ∑ j ∈ range 2048, ew f P j :=
    sum_pos' (fun j _ => hn j) ⟨k0.val, mem_range.mpr k0.isLt, by unfold ew; rw [if_pos h0]; positivity⟩
  simp only [he, coe_fsum]
  rw [sum_fin 2048 (fun j => Real.exp (-R) * ew f P j), ← mul_sum, div_real (mul_pos (Real.exp_pos _) hpos).ne',
    mul_div_mul_left _ _ (Real.exp_pos _).ne']

theorem bits_m8 : Ideal.ofBits .f32 3238002688#32 = (((-8 : ℝ) : ℝ) : EReal) := by
  simp [Ideal.ofBits, Ideal.ieee]
  norm_num [← EReal.coe_mul, ← EReal.coe_div, ← EReal.coe_neg]
theorem bits_4 : Ideal.ofBits .f32 1082130432#32 = (((4 : ℝ) : ℝ) : EReal) := by
  simp [Ideal.ofBits, Ideal.ieee]
  norm_num [← EReal.coe_mul, ← EReal.coe_div]

/-- The group of 64 a position lies in. -/
theorem fdiv64 : ∀ q : Fin 2048,
  Scalar.select (IntOp.andi (IntOp.cmpi CmpIPredicate.ne
      (if BitVec.ofNat 32 q.val = 0 then (0 : BitVec 32) else if (BitVec.ofNat 32 q.val).msb = true then -1 else 1)
      (if (64#32 : BitVec 32) = 0 then (0 : BitVec 32) else if BitVec.msb (64#32) = true then -1 else 1))
      (IntOp.cmpi CmpIPredicate.ne (IntOp.remsi ArithUnit.host (BitVec.ofNat 32 q.val) 64#32) 0#32))
    (IntOp.subi (IntOp.divsi ArithUnit.host (BitVec.ofNat 32 q.val) 64#32) 1#32)
    (IntOp.divsi ArithUnit.host (BitVec.ofNat 32 q.val) 64#32) = BitVec.ofNat 32 (q.val / 64) := by
  decide +kernel

theorem r_g55 (q : Fin 2048) : val_main_v55 (F := Ideal) (ix1 q) = BitVec.ofNat 32 (q.val / 64) := by
  pointwise [val_main_v55, val_main_call0_v11, val_main_call0_v6, val_main_call0_v3, val_main_v40, val_main_call0_v5, val_main_call0_v4, val_main_call0_v0, val_main_c, val_main_call0_v10, val_main_call0_v8, val_main_call0_v7, val_main_call0_v9, val_main_call0_c, val_main_call0_v13, val_main_call0_v2, val_main_call0_v1, val_main_call0_v12, val_main_call0_c_0]
  exact fdiv64 q
theorem r_g57 (q : Fin 2048) : val_main_v57 (F := Ideal) (ix1 q) = BitVec.ofNat 32 (q.val / 64) := by
  pointwise [val_main_v57, val_main_call1_v11, val_main_call1_v6, val_main_call1_v3, val_main_v40, val_main_call1_v5, val_main_call1_v4, val_main_call1_v0, val_main_c_10, val_main_call1_v10, val_main_call1_v8, val_main_call1_v7, val_main_call1_v9, val_main_call1_c, val_main_call1_v13, val_main_call1_v2, val_main_call1_v1, val_main_call1_v12, val_main_call1_c_0]
  exact fdiv64 q

theorem r_mask (q k : Fin 2048) : val_main_v61 (F := Ideal) (ix2 q k) = if dvis q.val k.val then 1#1 else 0#1 := by
  pointwise [val_main_v61, val_main_v59, val_main_v56, val_main_v60, val_main_v58]
  rw [r_g55, r_g57, Cert.KernelIdeal.Value.sle_ofNat _ _ (by omega) (by omega)]
  rfl

theorem r_slope (h : Fin 4) : val_main_v51 (F := Ideal) (ix1 h) = (((1 / 4) ^ (h.val + 1) : ℝ) : EReal) := by
  pointwise [val_main_v51, val_main_v50, val_main_v47, val_main_v45, val_main_v44, val_main_cst_6, val_main_v43, val_main_v42, val_main_cst_5, val_main_v41, val_main_v46, val_main_cst_7, val_main_v49, val_main_v48, val_main_cst_8]
  rw [bits_m8, bits_4, bits_2, ln2, sitofp_real, ← EReal.coe_one, ← EReal.coe_add, ← EReal.coe_mul, div_real (by norm_num), ← EReal.coe_mul]
  show ((Real.exp _ : ℝ) : EReal) = _
  have ht : (BitVec.ofNat 32 h.val).toInt = (h.val : ℤ) := WordCmp.toInt_ofNat_of_lt (by omega)
  rw [ht]
  congr 1
  rw [show -8 * (1 + (((h.val : ℕ) : ℤ) : ℝ)) / 4 * Real.log 2 = ((h.val + 1 : ℕ) : ℝ) * (-(2 * Real.log 2)) by push_cast; ring, Real.exp_nat_mul]
  congr 1
  rw [Real.exp_neg, show 2 * Real.log 2 = Real.log 4 by rw [show (4 : ℝ) = 2 ^ 2 by norm_num, Real.log_pow]; norm_num, Real.exp_log (by norm_num)]
  norm_num

/-- The score of key `k` for the row `q`, half `m` of head `h`. -/
def rsc (p : Par) (b h m q k : ℕ) : ℝ :=
  (∑ d ∈ range 64, pr p b q (h * 128 + m * 64 + d) * pr p b k (512 + (h * 128 + m * 64 + d))) * (1 / 8) + -(1 / 4) ^ (h + 1) * |(q : ℝ) - k|

/-- The softmax of the scores. -/
def rsm (p : Par) (b h m q k : ℕ) : ℝ := ew (rsc p b h m q) (dvis q) k / ∑ j ∈ range 2048, ew (rsc p b h m q) (dvis q) j

end Cert.ReferenceIdeal.Value
-- ==== Proof.RefAttn.lean ====
module

public import proofs.«01_k».proof.Proof.Gen.ReferenceIdeal.Read
public import Idealize.ShloMosaic.Lib.Pipeline.ValueKit
public import Idealize.ShloMosaic.Lib.Pointwise
public import proofs.«01_k».proof.Proof.RefMask

@[expose] public section

set_option maxRecDepth 16384

noncomputable section
open Idealize.ShloMosaic Idealize.ShloMosaic.TcCoe Idealize.SL.Sem
namespace Cert.ReferenceIdeal.Value
open Cert.ReferenceIdeal Cert.ReferenceIdeal.Gen Cert.ReferenceIdeal.Read Cert.RealKit Finset Cert.DaMath Cert.SbMath
open Cert.KernelIdeal.Value (Par nrm nrm_real l2e)
open Cert.KernelIdeal.Value (kX kD kS kOut csc slp dly dvis dsm dao dnorm dlam c08 c02 bits_08 bits_02 bits_128 bits_bot bits_18 bits_2 ln2 absi_toInt sitofp_real zsc zsc_lo zsc_hi rqkv)
/-! The reference's differential attention, read over the reals. -/

section
variable {p : Par} {x0 : Vec Ideal S8x2048x1024 .f32} {x1 : Vec Ideal S1x1024 .f32} {x2 : Vec Ideal S1x1024x3072 .f32} {x3 x4 x5 x6 : Vec Ideal S1x64 .f32}
    {x7 : Vec Ideal S1x128 .f32} {x8 : Vec Ideal S1x64 .f32} {x9 : Vec Ideal S1x1024x1024 .f32} {x10 : Vec Ideal S1x1024 .f32} {x11 : Vec Ideal S1x1024x4096 .f32}
    {x12 : Vec Ideal S1x4096x1024 .f32} {x13 : Vec Ideal S1024 .f32} (H : RHolds p x0 x1 x2 x3 x4 x5 x6 x7 x8 x9 x10 x11 x12 x13)
include H in
theorem r_score (b : Fin 8) (h : Fin 4) (m : Fin 2) (q k : Fin 2048) :
    val_main_v79 (F := Ideal) x0 x1 x2 (ix5 b h m q k) = if dvis q.val k.val then ((rsc p b.val h.val m.val q.val k.val : ℝ) : EReal) else ⊥ := by
  pointwise [val_main_v79, val_main_call2_v1, val_main_v75, val_main_v78, val_main_v54, val_main_v52, val_main_v22, val_main_v16, val_main_v23, val_main_v17, val_main_v53, val_main_cst_9, val_main_v77, val_main_v76, val_main_v74, val_main_v72, val_main_v70, val_main_v69, val_main_v73, val_main_v71, val_main_v68, val_main_v67, val_main_v66, val_main_v64, val_main_v62, val_main_v40, val_main_v65, val_main_v63, val_main_call2_v2, val_main_call2_v0, val_main_cst_11]
  simp only [r_proj H, ← EReal.coe_mul, coe_fsum]
  rw [r_mask, r_slope, Cert.KernelIdeal.Value.sel_ite, sitofp_real, absi_toInt _ _ (by omega) (by omega), bits_18,
    sum_fin 64 (fun d => pr p b.val q.val (h.val * 128 + m.val * 64 + d) * pr p b.val k.val (512 + (h.val * 128 + m.val * 64 + d))),
    ← EReal.coe_mul, ← EReal.coe_neg, ← EReal.coe_mul, ← EReal.coe_add]
  refine congrArg₂ (ite _) ?_ bits_bot
  unfold rsc; push_cast; rfl

theorem r_max (b : Fin 8) (h : Fin 4) (m : Fin 2) (q : Fin 2048) : val_main_v82 (F := Ideal) x0 x1 x2 (ix4 b h m q) = max ⊥ (univ.fold max ⊥ fun x => val_main_v79 (F := Ideal) x0 x1 x2 (ix5 b h m q x)) := by
  have h80 : val_main_v80 (F := Ideal) x0 x1 x2 (ix4 b h m q) = univ.fold max ⊥ fun x => val_main_v79 (F := Ideal) x0 x1 x2 (ix5 b h m q x) := by
    pointwise [val_main_v80, val_main_cst_12]
    rw [bits_bot]
  rw [← h80, val_main_v82_apply, val_main_v81_apply]
  generalize val_main_v80 (F := Ideal) x0 x1 x2 (ix4 b h m q) = y
  rw [← bits_bot]
  rfl

theorem r_sub (b : Fin 8) (h : Fin 4) (q k : Fin 2048) : val_main_v97 (F := Ideal) x0 x1 x2 x3 x4 x5 x6 (ix4 b h q k) = val_main_v92 (F := Ideal) x0 x1 x2 (ix4 b h q k) - val_main_v39 (F := Ideal) x3 x4 x5 x6 ix0 * val_main_v94 (F := Ideal) x0 x1 x2 (ix4 b h q k) := by
  rw [val_main_v97_apply, val_main_v96_apply, val_main_v95_apply, show idx_main_v95 (ix4 b h q k) = ix0 from funext fun a => a.elim0]
  generalize val_main_v92 (F := Ideal) x0 x1 x2 (ix4 b h q k) = y
  generalize val_main_v94 (F := Ideal) x0 x1 x2 (ix4 b h q k) = z
  generalize val_main_v39 (F := Ideal) x3 x4 x5 x6 ix0 = w
  rfl

include H in
theorem r_soft (b : Fin 8) (h : Fin 4) (m : Fin 2) (q k : Fin 2048) :
    val_main_v90 (F := Ideal) x0 x1 x2 (ix5 b h m q k) = ((rsm p b.val h.val m.val q.val k.val : ℝ) : EReal) := by
  have h82 := r_max (x0 := x0) (x1 := x1) (x2 := x2) b h m q
  have h86 : ∀ k : Fin 2048, val_main_v86 (F := Ideal) x0 x1 x2 (ix5 b h m q k) = Ideal.exp (val_main_v79 (F := Ideal) x0 x1 x2 (ix5 b h m q k) - val_main_v82 (F := Ideal) x0 x1 x2 (ix4 b h m q)) := fun k => by
    pointwise [val_main_v86, val_main_v85, val_main_v84, val_main_v83]
  have h87 : val_main_v87 (F := Ideal) x0 x1 x2 (ix4 b h m q) = ∑ x, val_main_v86 (F := Ideal) x0 x1 x2 (ix5 b h m q x) := by
    pointwise [val_main_v87, val_main_cst_14]
  have h90 : val_main_v90 (F := Ideal) x0 x1 x2 (ix5 b h m q k) = Ideal.div (val_main_v86 (F := Ideal) x0 x1 x2 (ix5 b h m q k)) (val_main_v87 (F := Ideal) x0 x1 x2 (ix4 b h m q)) := by
    pointwise [val_main_v90, val_main_v89, val_main_v88]
  rw [h90, h87]
  simp only [h86]
  rw [h82]
  exact softmax_real (fun x => val_main_v79 (F := Ideal) x0 x1 x2 (ix5 b h m q x)) (rsc p b.val h.val m.val q.val) (dvis q.val) (r_score H b h m q) q (le_refl (q.val / 64)) k

include H in
theorem r_lam : val_main_v39 (F := Ideal) x3 x4 x5 x6 ix0 = ((dlam p.lq1 p.lk1 p.lq2 p.lk2 : ℝ) : EReal) := by
  pointwise [val_main_v39, val_main_v38, val_main_v32, val_main_v31, val_main_v30, val_main_v28, val_main_v29, val_main_cst_2, val_main_v37, val_main_v36, val_main_v35, val_main_v33, val_main_v34, val_main_cst_3, val_main_cst_4]
  simp only [H.lq1, H.lk1, H.lq2, H.lk2, ← EReal.coe_mul, coe_fsum]
  rw [bits_02, sum_fin 64 (fun d => p.lq1 d * p.lk1 d), sum_fin 64 (fun d => p.lq2 d * p.lk2 d)]
  show ((Real.exp _ : ℝ) : EReal) - ((Real.exp _ : ℝ) : EReal) + _ = _
  rw [← EReal.coe_sub, ← EReal.coe_add]
  rfl

include H in
theorem r_diff (b : Fin 8) (h : Fin 4) (q k : Fin 2048) :
    val_main_v97 (F := Ideal) x0 x1 x2 x3 x4 x5 x6 (ix4 b h q k) = ((rsm p b.val h.val 0 q.val k.val - dlam p.lq1 p.lk1 p.lq2 p.lk2 * rsm p b.val h.val 1 q.val k.val : ℝ) : EReal) := by
  have h92 : val_main_v92 (F := Ideal) x0 x1 x2 (ix4 b h q k) = val_main_v90 (F := Ideal) x0 x1 x2 (ix5 b h 0 q k) := by
    pointwise [val_main_v92, val_main_v91]
  have h94 : val_main_v94 (F := Ideal) x0 x1 x2 (ix4 b h q k) = val_main_v90 (F := Ideal) x0 x1 x2 (ix5 b h 1 q k) := by
    pointwise [val_main_v94, val_main_v93]
  rw [r_sub, h92, h94, r_lam H, r_soft H, r_soft H, ← EReal.coe_mul, ← EReal.coe_sub]
  rfl

/-- A head's output. -/
def rod (p : Par) (b q h e : ℕ) : ℝ :=
  ∑ k ∈ range 2048, pr p b k (1024 + (h * 128 + e)) * (rsm p b h 0 q k - dlam p.lq1 p.lk1 p.lq2 p.lk2 * rsm p b h 1 q k)

include H in
theorem r_od (b : Fin 8) (q : Fin 2048) (h : Fin 4) (e : Fin 128) :
    val_main_v99 (F := Ideal) x0 x1 x2 x3 x4 x5 x6 (ix4 b q h e) = ((rod p b.val q.val h.val e.val : ℝ) : EReal) := by
  have h99 : val_main_v99 (F := Ideal) x0 x1 x2 x3 x4 x5 x6 (ix4 b q h e) = val_main_v98 (F := Ideal) x0 x1 x2 x3 x4 x5 x6 (ix4 b h e q) := by
    pointwise [val_main_v99]
  have h24 : ∀ k : Fin 2048, val_main_v24 (F := Ideal) x0 x1 x2 (ix4 b k h e) = ((pr p b.val k.val (1024 + (h.val * 128 + e.val)) : ℝ) : EReal) := fun k => by
    pointwise [val_main_v24, val_main_v18]
    exact r_proj H b k _
  rw [h99]
  pointwise [val_main_v98]
  simp only [h24, r_diff H, ← EReal.coe_mul, coe_fsum]
  rw [sum_fin 2048 (fun k => pr p b.val k (1024 + (h.val * 128 + e.val)) * (rsm p b.val h.val 0 q.val k - dlam p.lq1 p.lk1 p.lq2 p.lk2 * rsm p b.val h.val 1 q.val k))]
  rfl
end
end Cert.ReferenceIdeal.Value
-- ==== Proof.WinSum.lean ====
module

public import proofs.«01_k».proof.Proof.Gen.ReferenceIdeal.Read
public import Idealize.ShloMosaic.Lib.Pipeline.ValueKit
public import Idealize.ShloMosaic.Lib.Pointwise
public import proofs.«01_k».proof.Proof.RefProj

@[expose] public section

set_option maxRecDepth 16384

noncomputable section
open Idealize.ShloMosaic Idealize.ShloMosaic.TcCoe Idealize.SL.Sem
namespace Cert.ReferenceIdeal.Value
open Cert.ReferenceIdeal Cert.ReferenceIdeal.Gen Cert.ReferenceIdeal.Read Cert.RealKit Finset Cert.SbMath
open Cert.KernelIdeal.Value (Par nrm nrm_real l2e)
open Cert.KernelIdeal.Value (kX kD kS kOut csc bits_18 eps eps_pos bits_eps nrm_pos)
/-! A sum over a window that runs from a position to the end of the last axis. -/

theorem foldl_add {n : ℕ} (g : Fin n → EReal) (l : List (Fin n)) (r : EReal) : l.foldl (fun r i => r + g i) r = r + (l.map g).sum := by
  induction l generalizing r with
  | nil => simp
  | cons a l ih => rw [List.foldl_cons, ih, List.map_cons, List.sum_cons, add_assoc]

/-- The last coordinate names a position of a window one wide on every other axis. -/
def winEquiv (N : ℕ) : Fin N ≃ (⟨4, ![1, 1, 1, N]⟩ : Shape).Idx where
  toFun n := ix4 0 0 0 n
  invFun i := i 3
  left_inv n := rfl
  right_inv i := by
    funext a
    match a with
    | ⟨0, _⟩ => exact Fin.ext (by have : (i 0).val < 1 := (i 0).isLt; show 0 = (i 0).val; omega)
    | ⟨1, _⟩ => exact Fin.ext (by have : (i 1).val < 1 := (i 1).isLt; show 0 = (i 1).val; omega)
    | ⟨2, _⟩ => exact Fin.ext (by have : (i 2).val < 1 := (i 2).isLt; show 0 = (i 2).val; omega)
    | ⟨3, _⟩ => rfl

theorem window_sum {A B C N M : ℕ} (x : (⟨4, ![A, B, C, N]⟩ : Shape).Idx → EReal) (f : ℕ → EReal) (a : Fin A) (b : Fin B) (c : Fin C) (k : Fin N)
    (hx : ∀ j : Fin N, x (ix4 a b c j) = f j.val)
    (h : (⟨4, ![A, B, C, N]⟩ : Shape).ReduceWindows ![1, 1, 1, N] ![1, 1, 1, 1] ![0, 0, 0, 0] ![0, 0, 0, M] ⟨4, ![A, B, C, N]⟩)
    (hu : 0 < (⟨0, ![]⟩ : Shape).numel) :
    Host.reduceWindow (fun a b : EReal => a + b) ![1, 1, 1, N] ![1, 1, 1, 1] ![0, 0, 0, 0] ![0, 0, 0, M] x (fun _ : (⟨0, ![]⟩ : Shape).Idx => 0) h hu (ix4 a b c k)
      = ∑ j ∈ Ico k.val N, f j := by
  have hk := k.isLt
  unfold Host.reduceWindow
  refine (foldl_add _ _ _).trans ?_
  rw [zero_add, ← Fin.sum_univ_def]
  refine (Equiv.sum_comp ((winEquiv N).trans (⟨4, ![1, 1, 1, N]⟩ : Shape).rowMajor) _).symm.trans ?_
  refine (sum_congr rfl fun w _ => (?_ : _ = if w.val < N - k.val then f (k.val + w.val) else 0)).trans ?_
  · have hw := w.isLt
    have hs : (⟨4, ![1, 1, 1, N]⟩ : Shape).rowMajor.symm (((winEquiv N).trans (⟨4, ![1, 1, 1, N]⟩ : Shape).rowMajor) w) = ix4 0 0 0 w := Equiv.symm_apply_apply _ _
    have v0 : ((⟨4, ![1, 1, 1, N]⟩ : Shape).rowMajor.symm (((winEquiv N).trans (⟨4, ![1, 1, 1, N]⟩ : Shape).rowMajor) w) 0).val = 0 := by rw [hs]; rfl
    have v1 : ((⟨4, ![1, 1, 1, N]⟩ : Shape).rowMajor.symm (((winEquiv N).trans (⟨4, ![1, 1, 1, N]⟩ : Shape).rowMajor) w) 1).val = 0 := by rw [hs]; rfl
    have v2 : ((⟨4, ![1, 1, 1, N]⟩ : Shape).rowMajor.symm (((winEquiv N).trans (⟨4, ![1, 1, 1, N]⟩ : Shape).rowMajor) w) 2).val = 0 := by rw [hs]; rfl
    have v3 : ((⟨4, ![1, 1, 1, N]⟩ : Shape).rowMajor.symm (((winEquiv N).trans (⟨4, ![1, 1, 1, N]⟩ : Shape).rowMajor) w) 3).val = w.val := by rw [hs]; rfl
    have ha := a.isLt
    have hb := b.isLt
    have hc := c.isLt
    by_cases hlt : w.val < N - k.val
    · rw [if_pos hlt]
      refine (dif_pos (fun i => ?_)).trans ((congrArg x (funext fun i => Fin.ext ?_)).trans (hx ⟨k.val + w.val, by omega⟩))
      · match i with
        | ⟨0, _⟩ => exact ⟨Nat.zero_le _, by change a.val * 1 + ((⟨4, ![1, 1, 1, N]⟩ : Shape).rowMajor.symm (((winEquiv N).trans (⟨4, ![1, 1, 1, N]⟩ : Shape).rowMajor) w) 0).val - 0 < A; rw [v0]; omega⟩
        | ⟨1, _⟩ => exact ⟨Nat.zero_le _, by change b.val * 1 + ((⟨4, ![1, 1, 1, N]⟩ : Shape).rowMajor.symm (((winEquiv N).trans (⟨4, ![1, 1, 1, N]⟩ : Shape).rowMajor) w) 1).val - 0 < B; rw [v1]; omega⟩
        | ⟨2, _⟩ => exact ⟨Nat.zero_le _, by change c.val * 1 + ((⟨4, ![1, 1, 1, N]⟩ : Shape).rowMajor.symm (((winEquiv N).trans (⟨4, ![1, 1, 1, N]⟩ : Shape).rowMajor) w) 2).val - 0 < C; rw [v2]; omega⟩
        | ⟨3, _⟩ => exact ⟨Nat.zero_le _, by change k.val * 1 + ((⟨4, ![1, 1, 1, N]⟩ : Shape).rowMajor.symm (((winEquiv N).trans (⟨4, ![1, 1, 1, N]⟩ : Shape).rowMajor) w) 3).val - 0 < N; rw [v3]; omega⟩
      · match i with
        | ⟨0, _⟩ => change a.val * 1 + ((⟨4, ![1, 1, 1, N]⟩ : Shape).rowMajor.symm (((winEquiv N).trans (⟨4, ![1, 1, 1, N]⟩ : Shape).rowMajor) w) 0).val - 0 = a.val; rw [v0]; omega
        | ⟨1, _⟩ => change b.val * 1 + ((⟨4, ![1, 1, 1, N]⟩ : Shape).rowMajor.symm (((winEquiv N).trans (⟨4, ![1, 1, 1, N]⟩ : Shape).rowMajor) w) 1).val - 0 = b.val; rw [v1]; omega
        | ⟨2, _⟩ => change c.val * 1 + ((⟨4, ![1, 1, 1, N]⟩ : Shape).rowMajor.symm (((winEquiv N).trans (⟨4, ![1, 1, 1, N]⟩ : Shape).rowMajor) w) 2).val - 0 = c.val; rw [v2]; omega
        | ⟨3, _⟩ => change k.val * 1 + ((⟨4, ![1, 1, 1, N]⟩ : Shape).rowMajor.symm (((winEquiv N).trans (⟨4, ![1, 1, 1, N]⟩ : Shape).rowMajor) w) 3).val - 0 = k.val + w.val; rw [v3]; omega
    · rw [if_neg hlt]
      refine dif_neg fun hin => hlt ?_
      have h3 := (hin 3).2
      change k.val * 1 + ((⟨4, ![1, 1, 1, N]⟩ : Shape).rowMajor.symm (((winEquiv N).trans (⟨4, ![1, 1, 1, N]⟩ : Shape).rowMajor) w) 3).val - 0 < N at h3
      rw [v3] at h3
      omega
  · rw [sum_Ico_eq_sum_range, Fin.sum_univ_eq_sum_range (fun w => if w < N - k.val then f (k.val + w) else 0) N, ← sum_filter]
    refine sum_congr (ext fun w => ?_) fun _ _ => rfl
    simp only [mem_filter, mem_range]; omega

theorem window_add {A B C N M : ℕ} (x : FVec Ideal ⟨4, ![A, B, C, N]⟩ .f32) (init : FVec Ideal ⟨0, ![]⟩ .f32) (f : ℕ → EReal) (a : Fin A) (b : Fin B) (c : Fin C) (k : Fin N)
    (hx : ∀ j : Fin N, x (ix4 a b c j) = f j.val) (hi : init ix0 = 0)
    (h : (⟨4, ![A, B, C, N]⟩ : Shape).ReduceWindows ![1, 1, 1, N] ![1, 1, 1, 1] ![0, 0, 0, 0] ![0, 0, 0, M] ⟨4, ![A, B, C, N]⟩)
    (hu : 0 < (⟨0, ![]⟩ : Shape).numel) :
    Host.reduceWindowAdd ![1, 1, 1, N] ![1, 1, 1, 1] ![0, 0, 0, 0] ![0, 0, 0, M] x init h hu (ix4 a b c k) = ∑ j ∈ Ico k.val N, f j := by
  have h0 : init (Shape.Idx.first hu) = 0 := (congrArg init (funext fun a => a.elim0)).trans hi
  unfold Host.reduceWindowAdd
  rw [h0, Ideal.hostReduceWindowAdd_def]
  exact window_sum x f a b c k hx h _
end Cert.ReferenceIdeal.Value
-- ==== Proof.RefStick.lean ====
module

public import proofs.«01_k».proof.Proof.Gen.ReferenceIdeal.Read
public import Idealize.ShloMosaic.Lib.Pipeline.ValueKit
public import Idealize.ShloMosaic.Lib.Pointwise
public import proofs.«01_k».proof.Proof.WinSum

@[expose] public section

set_option maxRecDepth 16384

noncomputable section
open Idealize.ShloMosaic Idealize.ShloMosaic.TcCoe Idealize.SL.Sem
namespace Cert.ReferenceIdeal.Value
open Cert.ReferenceIdeal Cert.ReferenceIdeal.Gen Cert.ReferenceIdeal.Read Cert.RealKit Finset Cert.SbMath
open Cert.KernelIdeal.Value (Par nrm nrm_real l2e)
open Cert.KernelIdeal.Value (kX kD kS kOut csc bits_18 eps eps_pos bits_eps nrm_pos)
/-! The reference's stick-breaking attention, read over the reals. -/

/-- A head's norm without its gain. -/
theorem head_norm (n : ℕ) (hn : n ≠ 0) (v : Fin n → EReal) (A : ℕ → ℝ) (h : ∀ d, v d = ((A d.val : ℝ) : EReal)) (w : EReal) (hw : w = (((n : ℕ) : ℝ) : EReal)) (e : Fin n) :
    v e * Ideal.rsqrt (Ideal.div (∑ x, v x * v x) w + Ideal.ofBits .f32 897988541#32) = ((A e.val * (√((∑ x ∈ range n, A x * A x) / n + eps))⁻¹ : ℝ) : EReal) := by
  simp only [h, ← EReal.coe_mul, coe_fsum]
  rw [hw, bits_eps, div_real (Nat.cast_ne_zero.mpr hn), ← EReal.coe_add, sum_fin n (fun x => A x * A x), rsqrt_real (nrm_pos n A), ← EReal.coe_mul]

theorem bits_0 : Ideal.ofBits .f32 0#32 = (((0 : ℝ) : ℝ) : EReal) := by
  simp [Ideal.ofBits, Ideal.ieee]
theorem bits_64 : Ideal.ofBits .f32 1115684864#32 = ((((64 : ℕ) : ℝ) : ℝ) : EReal) := by
  simp [Ideal.ofBits, Ideal.ieee]
  norm_num [← EReal.coe_mul, ← EReal.coe_div]

theorem softplus_neg (z : ℝ) : softplus (-z) = softplus z - z := by
  unfold softplus
  have h1 : 0 < 1 + Real.exp z := by positivity
  rw [show 1 + Real.exp (-z) = Real.exp (-z) * (1 + Real.exp z) by rw [mul_add, mul_one, ← Real.exp_add]; norm_num [add_comm], Real.log_mul (Real.exp_pos _).ne' h1.ne',
    Real.log_exp]
  ring

/-- The reference's softplus. -/
theorem softplus_real (z : ℝ) :
    (if ((z : ℝ) : EReal) ≠ (z : EReal) then (z : EReal) else max (z : EReal) 0 + Ideal.log1p (Ideal.exp (-FloatOps.absf (F := Ideal) (φ := .f32) (z : EReal)))) = ((softplus z : ℝ) : EReal) := by
  rw [if_neg (fun h => h rfl)]
  show max (z : EReal) ((0 : ℝ) : EReal) + Ideal.log (((1 : ℝ) : EReal) + Ideal.exp (-(max (z : EReal) (-(z : EReal))))) = _
  rw [abs_real, ← EReal.coe_neg, coe_max]
  show _ + Ideal.log (((1 : ℝ) : EReal) + ((Real.exp _ : ℝ) : EReal)) = _
  rw [← EReal.coe_add, log_real (by positivity), ← EReal.coe_add, softplus_eq]

/-- The score of key `k` for the row `q`, head `h`. -/
def rz (p : Par) (b h q k : ℕ) : ℝ := (∑ d ∈ range 64, pr p b q (1536 + (h * 64 + d)) * pr p b k (2048 + (h * 64 + d))) * (1 / 8)

/-- Its softplus, where the key is before the row. -/
def rsp (p : Par) (b h q k : ℕ) : ℝ := if k < q then softplus (rz p b h q k) else 0

section
variable {p : Par} {x0 : Vec Ideal S8x2048x1024 .f32} {x1 : Vec Ideal S1x1024 .f32} {x2 : Vec Ideal S1x1024x3072 .f32} {x3 x4 x5 x6 : Vec Ideal S1x64 .f32}
    {x7 : Vec Ideal S1x128 .f32} {x8 : Vec Ideal S1x64 .f32} {x9 : Vec Ideal S1x1024x1024 .f32} {x10 : Vec Ideal S1x1024 .f32} {x11 : Vec Ideal S1x1024x4096 .f32}
    {x12 : Vec Ideal S1x4096x1024 .f32} {x13 : Vec Ideal S1024 .f32} (H : RHolds p x0 x1 x2 x3 x4 x5 x6 x7 x8 x9 x10 x11 x12 x13)

include H in
theorem r_z (b h : Fin 8) (q k : Fin 2048) : val_main_v119 (F := Ideal) x0 x1 x2 (ix4 b h q k) = ((rz p b.val h.val q.val k.val : ℝ) : EReal) := by
  pointwise [val_main_v119, val_main_v117, val_main_v25, val_main_v19, val_main_v26, val_main_v20, val_main_v118, val_main_cst_19]
  simp only [r_proj H, ← EReal.coe_mul, coe_fsum]
  rw [bits_18, sum_fin 64 (fun d => pr p b.val q.val (1536 + (h.val * 64 + d)) * pr p b.val k.val (2048 + (h.val * 64 + d))), ← EReal.coe_mul]
  rfl

include H in
theorem r_sp (b h : Fin 8) (q k : Fin 2048) : val_main_v127 (F := Ideal) x0 x1 x2 (ix4 b h q k) = ((rsp p b.val h.val q.val k.val : ℝ) : EReal) := by
  pointwise [val_main_v127, val_main_call4_v1, val_main_v125, val_main_v124, val_main_v122, val_main_v120, val_main_v40, val_main_v123, val_main_v121, val_main_v126, val_main_call3_v4, val_main_call3_v3, val_main_call3_v2, val_main_call3_cst, val_main_call3_v6, val_main_call3_v5, val_main_call3_v11, val_main_call3_v1, val_main_call3_v0, val_main_call3_v10, val_main_call3_v9, val_main_call3_v8, val_main_call3_v7, val_main_call4_v2, val_main_call4_v0, val_main_cst_20]
  rw [r_z H, softplus_real, Cert.KernelIdeal.Value.slt_ofNat _ _ (by omega) (by omega), Cert.KernelIdeal.Value.sel_ite]
  refine (congrArg (ite _ _) bits_0).trans ?_
  rw [coe_ite]
  rfl

include H in
theorem r_suf (b h : Fin 8) (q k : Fin 2048) : val_main_v128 (F := Ideal) x0 x1 x2 (ix4 b h q k) = ((∑ j ∈ Ico k.val 2048, rsp p b.val h.val q.val j : ℝ) : EReal) := by
  have h0 : val_main_call5_v0 (F := Ideal) ix0 = 0 := by
    pointwise [val_main_call5_v0, val_main_call5_cst]
  refine (window_add (A := 8) (B := 8) (C := 2048) (N := 2048) (M := 2047) (val_main_v127 (F := Ideal) x0 x1 x2) (val_main_call5_v0 (F := Ideal)) (fun j => ((rsp p b.val h.val q.val j : ℝ) : EReal)) b h q k (r_sp H b h q) h0
    reduceWindows_S8x8x2048x2048_S8x8x2048x2048_w1s1p0_0_w1s1p0_0_w1s1p0_0_w2048s1p0_2047 h_S_).trans ?_
  rw [← coe_fsum]

include H in
theorem r_w (b h : Fin 8) (q k : Fin 2048) : val_main_v133 (F := Ideal) x0 x1 x2 (ix4 b h q k) = ((wexp (rz p b.val h.val q.val) q.val k.val : ℝ) : EReal) := by
  pointwise [val_main_v133, val_main_call7_v1, val_main_v125, val_main_v124, val_main_v122, val_main_v120, val_main_v40, val_main_v123, val_main_v121, val_main_v132, val_main_v131, val_main_v129, val_main_call6_v1, val_main_call6_call0_v4, val_main_call6_call0_v3, val_main_call6_v0, val_main_call6_call0_v2, val_main_call6_call0_cst, val_main_call6_call0_v6, val_main_call6_call0_v5, val_main_call6_call0_v11, val_main_call6_call0_v1, val_main_call6_call0_v0, val_main_call6_call0_v10, val_main_call6_call0_v9, val_main_call6_call0_v8, val_main_call6_call0_v7, val_main_v130, val_main_call7_v2, val_main_call7_v0, val_main_cst_21]
  rw [r_z H, r_suf H, r_sp H, ← EReal.coe_neg, softplus_real, Cert.KernelIdeal.Value.slt_ofNat _ _ (by omega) (by omega), Cert.KernelIdeal.Value.sel_ite,
    ← EReal.coe_neg, ← EReal.coe_sub, ← EReal.coe_sub]
  refine (congrArg₂ (ite _) (show _ = ((Real.exp (-softplus (-rz p b.val h.val q.val k.val) - (∑ j ∈ Ico k.val 2048, rsp p b.val h.val q.val j - rsp p b.val h.val q.val k.val)) : ℝ) : EReal) from rfl) bits_0).trans ?_
  rw [coe_ite]
  unfold wexp
  congr 1
  split
  · rename_i hkq
    have hq := q.isLt
    rw [softplus_neg]
    congr 1
    have e1 : ∑ j ∈ Ico k.val 2048, rsp p b.val h.val q.val j = ∑ j ∈ Ico k.val q.val, softplus (rz p b.val h.val q.val j) := by
      rw [← sum_Ico_consecutive _ hkq.le hq.le,
        sum_eq_zero (s := Ico q.val 2048) (f := fun j => rsp p b.val h.val q.val j) (fun i hi => by unfold rsp; rw [if_neg (by have := mem_Ico.mp hi; omega)]), add_zero]
      exact sum_congr rfl fun j hj => by unfold rsp; rw [if_pos (mem_Ico.mp hj).2]
    have e2 : rsp p b.val h.val q.val k.val = softplus (rz p b.val h.val q.val k.val) := by unfold rsp; rw [if_pos hkq]
    rw [e1, e2]; ring
  · rfl

/-- A head's output. -/
def rso (p : Par) (b q h e : ℕ) : ℝ := ∑ k ∈ range 2048, pr p b k (2560 + (h * 64 + e)) * wexp (rz p b h q) q k

include H in
theorem r_os (b : Fin 8) (q : Fin 2048) (h : Fin 8) (e : Fin 64) : val_main_v135 (F := Ideal) x0 x1 x2 (ix4 b q h e) = ((rso p b.val q.val h.val e.val : ℝ) : EReal) := by
  pointwise [val_main_v135, val_main_v134, val_main_v27, val_main_v21]
  simp only [r_proj H, r_w H, ← EReal.coe_mul, coe_fsum]
  rw [sum_fin 2048 (fun k => pr p b.val k (2560 + (h.val * 64 + e.val)) * wexp (rz p b.val h.val q.val) q.val k)]
  rfl

/-- The stick-breaking attention's columns, after the heads' norms. -/
def rS (p : Par) (b q j : ℕ) : ℝ :=
  rso p b q (j / 64) (j % 64) * (√((∑ x ∈ range 64, rso p b q (j / 64) x * rso p b q (j / 64) x) / (64 : ℕ) + eps))⁻¹ * p.gs (j % 64)

include H in
theorem r_S (b : Fin 8) (q : Fin 2048) (j : Fin 512) : val_main_v150 (F := Ideal) x0 x1 x2 x8 (ix3 b q j) = ((rS p b.val q.val j.val : ℝ) : EReal) := by
  pointwise [val_main_v150, val_main_v149, val_main_v146, val_main_v145, val_main_v144, val_main_v143, val_main_v141, val_main_v139, val_main_v138, val_main_v137, val_main_cst_22, val_main_v140, val_main_cst_23, val_main_v142, val_main_cst_24, val_main_v148, val_main_v147, val_main_v136]
  have hj := j.isLt
  have h1 := head_norm 64 (by norm_num) (fun x => val_main_v135 (F := Ideal) x0 x1 x2 (ix4 b q ⟨j.val / 64, by omega⟩ x)) (rso p b.val q.val (j.val / 64)) (fun d => r_os H b q ⟨j.val / 64, by omega⟩ d)
    (Ideal.ofBits .f32 1115684864#32) bits_64 ⟨j.val % 64, by omega⟩
  refine (congrArg₂ (· * ·) h1 (H.gs ⟨j.val % 64, by omega⟩)).trans ?_
  rw [← EReal.coe_mul]
  rfl
end
end Cert.ReferenceIdeal.Value
-- ==== Proof.RefOut.lean ====
module

public import proofs.«01_k».proof.Proof.Gen.ReferenceIdeal.Read
public import Idealize.ShloMosaic.Lib.Pipeline.ValueKit
public import Idealize.ShloMosaic.Lib.Pointwise
public import proofs.«01_k».proof.Proof.RefAttn
public import proofs.«01_k».proof.Proof.RefStick

@[expose] public section

set_option maxRecDepth 16384

noncomputable section
open Idealize.ShloMosaic Idealize.ShloMosaic.TcCoe Idealize.SL.Sem
namespace Cert.ReferenceIdeal.Value
open Cert.ReferenceIdeal Cert.ReferenceIdeal.Gen Cert.ReferenceIdeal.Read Cert.RealKit Finset Cert.SbMath Cert.DaMath
open Cert.KernelIdeal.Value (Par nrm nrm_real l2e)
open Cert.KernelIdeal.Value (kX kD kS kOut csc slp dly dvis dsm dao dnorm dlam c08 bits_08 zsc zsc_lo zsc_hi rqkv eps eps_pos ohid oact ores orow hnorm sbo sbz lo hi)
/-! The reference's output block, read over the reals. -/

theorem bits_128n : Ideal.ofBits .f32 1124073472#32 = ((((128 : ℕ) : ℝ) : ℝ) : EReal) := by
  simp [Ideal.ofBits, Ideal.ieee]
  norm_num [← EReal.coe_mul, ← EReal.coe_div]

/-- The differential attention's columns, after the heads' norms. -/
def rD (p : Par) (b q j : ℕ) : ℝ :=
  rod p b q (j / 128) (j % 128) * (√((∑ x ∈ range 128, rod p b q (j / 128) x * rod p b q (j / 128) x) / (128 : ℕ) + eps))⁻¹ * p.gd (j % 128) * c08

/-- Both attentions' columns, side by side. -/
def rM (p : Par) (b q j : ℕ) : ℝ := if j < 512 then rD p b q j else rS p b q (j - 512)

/-- The stream after the attentions. -/
def rH (p : Par) (b q : ℕ) : ℕ → ℝ := ohid (p.x b q) (rD p b q) (rS p b q) p.wo

section
variable {p : Par} {x0 : Vec Ideal S8x2048x1024 .f32} {x1 : Vec Ideal S1x1024 .f32} {x2 : Vec Ideal S1x1024x3072 .f32} {x3 x4 x5 x6 : Vec Ideal S1x64 .f32}
    {x7 : Vec Ideal S1x128 .f32} {x8 : Vec Ideal S1x64 .f32} {x9 : Vec Ideal S1x1024x1024 .f32} {x10 : Vec Ideal S1x1024 .f32} {x11 : Vec Ideal S1x1024x4096 .f32}
    {x12 : Vec Ideal S1x4096x1024 .f32} {x13 : Vec Ideal S1024 .f32} (H : RHolds p x0 x1 x2 x3 x4 x5 x6 x7 x8 x9 x10 x11 x12 x13)

include H in
theorem r_D (b : Fin 8) (q : Fin 2048) (j : Fin 512) : val_main_v116 (F := Ideal) x0 x1 x2 x3 x4 x5 x6 x7 (ix3 b q j) = ((rD p b.val q.val j.val : ℝ) : EReal) := by
  pointwise [val_main_v116, val_main_v115, val_main_v113, val_main_v110, val_main_v109, val_main_v108, val_main_v107, val_main_v105, val_main_v103, val_main_v102, val_main_v101, val_main_cst_15, val_main_v104, val_main_cst_16, val_main_v106, val_main_cst_17, val_main_v112, val_main_v111, val_main_v100, val_main_v114, val_main_cst_18]
  have hj := j.isLt
  have h1 := head_norm 128 (by norm_num) (fun x => val_main_v99 (F := Ideal) x0 x1 x2 x3 x4 x5 x6 (ix4 b q ⟨j.val / 128, by omega⟩ x)) (rod p b.val q.val (j.val / 128)) (fun d => r_od H b q ⟨j.val / 128, by omega⟩ d)
    (Ideal.ofBits .f32 1124073472#32) bits_128n ⟨j.val % 128, by omega⟩
  refine (congrArg₂ (· * ·) (congrArg₂ (· * ·) h1 (H.gd ⟨j.val % 128, by omega⟩)) bits_08).trans ?_
  rw [← EReal.coe_mul, ← EReal.coe_mul]
  rfl

include H in
theorem r_cat (b : Fin 8) (q : Fin 2048) (j : Fin 1024) : val_main_v151 (F := Ideal) x0 x1 x2 x3 x4 x5 x6 x7 x8 (ix3 b q j) = ((rM p b.val q.val j.val : ℝ) : EReal) := by
  pointwise [val_main_v151]
  unfold rM
  by_cases h : j.val < 512
  · simp only [h, dite_true, if_true]
    exact r_D H b q ⟨j.val, h⟩
  · simp only [h, dite_false, if_false]
    exact r_S H b q ⟨j.val - 512, by omega⟩

include H in
theorem r_hid (b : Fin 8) (q : Fin 2048) (d : Fin 1024) : val_main_v154 (F := Ideal) x0 x1 x2 x3 x4 x5 x6 x7 x8 x9 (ix3 b q d) = ((rH p b.val q.val d.val : ℝ) : EReal) := by
  pointwise [val_main_v154, val_main_v153, val_main_v152]
  simp only [r_cat H, H.wo, H.x, ← EReal.coe_mul, coe_fsum]
  rw [sum_fin 1024 (fun k => rM p b.val q.val k * p.wo k d.val), ← EReal.coe_add]
  congr 1
  unfold rH ohid
  rw [sum_range_split 512 512, ← add_assoc]
  refine congrArg₂ (· + ·) (congrArg (_ + ·) (sum_congr rfl fun k hk => ?_)) (sum_congr rfl fun k hk => ?_)
  · unfold rM; rw [if_pos (mem_range.mp hk)]
  · unfold rM; rw [if_neg (by omega), Nat.add_sub_cancel_left]

include H in
theorem r_n2 (b : Fin 8) (q : Fin 2048) (d : Fin 1024) : val_main_v168 (F := Ideal) x0 x1 x2 x3 x4 x5 x6 x7 x8 x9 x10 (ix3 b q d) = ((nrm 1024 (rH p b.val q.val) p.g2 d.val : ℝ) : EReal) := by
  pointwise [val_main_v168, val_main_v165, val_main_v164, val_main_v163, val_main_v162, val_main_v160, val_main_v158, val_main_v157, val_main_v156, val_main_cst_25, val_main_v159, val_main_cst_26, val_main_v161, val_main_cst_27, val_main_v167, val_main_v166, val_main_v155]
  exact nrm_real (fun d => val_main_v154 (F := Ideal) x0 x1 x2 x3 x4 x5 x6 x7 x8 x9 (ix3 b q d)) (rH p b.val q.val) (r_hid H b q) _ p.g2 d (H.g2 d)

include H in
theorem r_act (b : Fin 8) (q : Fin 2048) (f : Fin 4096) : val_main_v172 (F := Ideal) x0 x1 x2 x3 x4 x5 x6 x7 x8 x9 x10 x11 (ix3 b q f) = ((oact (rH p b.val q.val) p.g2 p.wu f.val : ℝ) : EReal) := by
  pointwise [val_main_v172, val_main_v171, val_main_v170, val_main_v169, val_main_call8_v0, val_main_call8_cst]
  simp only [r_n2 H, H.wu, ← EReal.coe_mul, coe_fsum]
  rw [sum_fin 1024 (fun k => nrm 1024 (rH p b.val q.val) p.g2 k * p.wu k f.val), ← EReal.coe_zero, coe_max, ← EReal.coe_mul]
  rfl

include H in
theorem r_res (b : Fin 8) (q : Fin 2048) (d : Fin 1024) : val_main_v175 (F := Ideal) x0 x1 x2 x3 x4 x5 x6 x7 x8 x9 x10 x11 x12 (ix3 b q d) = ((ores (rH p b.val q.val) p.g2 p.wu p.wd d.val : ℝ) : EReal) := by
  pointwise [val_main_v175, val_main_v174, val_main_v173]
  simp only [r_hid H, r_act H, H.wd, ← EReal.coe_mul, coe_fsum]
  rw [sum_fin 4096 (fun k => oact (rH p b.val q.val) p.g2 p.wu k * p.wd k d.val), ← EReal.coe_add]
  rfl

include H in
theorem r_fin (b : Fin 8) (q : Fin 2048) (d : Fin 1024) :
    val_main_v188 (F := Ideal) x0 x1 x2 x3 x4 x5 x6 x7 x8 x9 x10 x11 x12 x13 (ix3 b q d) = ((orow (p.x b.val q.val) (rD p b.val q.val) (rS p b.val q.val) p.g2 p.gf p.wo p.wu p.wd d.val : ℝ) : EReal) := by
  pointwise [val_main_v188, val_main_v185, val_main_v184, val_main_v183, val_main_v182, val_main_v180, val_main_v178, val_main_v177, val_main_v176, val_main_cst_28, val_main_v179, val_main_cst_29, val_main_v181, val_main_cst_30, val_main_v187, val_main_v186]
  exact nrm_real (fun d => val_main_v175 (F := Ideal) x0 x1 x2 x3 x4 x5 x6 x7 x8 x9 x10 x11 x12 (ix3 b q d)) (ores (rH p b.val q.val) p.g2 p.wu p.wd) (r_res H b q) _ p.gf d (H.gf d)
end
end Cert.ReferenceIdeal.Value
-- ==== Proof.KRMath.lean ====
module

public import proofs.«01_k».proof.Proof.Gen.ReferenceIdeal.Read
public import Idealize.ShloMosaic.Lib.Pipeline.ValueKit
public import Idealize.ShloMosaic.Lib.Pointwise
public import proofs.«01_k».proof.Proof.RefOut

@[expose] public section

set_option maxRecDepth 16384

noncomputable section
open Idealize.ShloMosaic Idealize.ShloMosaic.TcCoe Idealize.SL.Sem
namespace Cert.ReferenceIdeal.Value
open Cert.ReferenceIdeal Cert.ReferenceIdeal.Gen Cert.ReferenceIdeal.Read Cert.RealKit Finset Cert.SbMath Cert.DaMath
open Cert.KernelIdeal.Value (Par nrm nrm_real l2e)
open Cert.KernelIdeal.Value (kX kD kS kOut csc slp dly dvis dsm dao dnorm dlam c08 bits_08 zsc zsc_lo zsc_hi rqkv eps eps_pos ohid oact ores orow hnorm sbo sbz lo hi)
/-! The two programs' real functions are equal. -/

theorem kX_eq (p : Par) (b t e : ℕ) : kX p b t e = pr p b t e * csc e := rfl
theorem l2e_eq : l2e = (Real.log 2)⁻¹ := by unfold l2e; rw [one_div]
theorem csc_0 (e : ℕ) (h : e < 512) : csc e = (Real.log 2)⁻¹ * (1 / 8) := by unfold csc; rw [if_pos h, l2e_eq]
theorem csc_1 (e : ℕ) (h : 512 ≤ e) (h' : e < 1536) : csc e = 1 := by unfold csc; rw [if_neg (by omega), if_pos h']
theorem csc_2 (e : ℕ) (h : 1536 ≤ e) (h' : e < 2048) : csc e = (Real.log 2)⁻¹ * (1 / 8) := by unfold csc; rw [if_neg (by omega), if_neg (by omega), if_pos h', l2e_eq]
theorem csc_3 (e : ℕ) (h : 2048 ≤ e) : csc e = 1 := by unfold csc; rw [if_neg (by omega), if_neg (by omega), if_neg (by omega)]

/-- The logits of the two halves of a head: base 2 on one side, base e on the other. -/
theorem dly_lo (p : Par) (b t h k : ℕ) (hh : h < 4) :
    dly (fun d => kX p b t (128 * h + d)) (fun s d => kX p b s (512 + 128 * h + d)) (slp h) lo t k = (Real.log 2)⁻¹ * rsc p b h 0 t k := by
  unfold dly rsc slp
  rw [zsc_lo, l2e_eq, mul_add, ← mul_assoc, mul_right_comm, mul_sum, sub_eq_add_neg]
  refine congrArg₂ (· + ·) ?_ (by ring)
  rw [sum_mul]
  refine sum_congr rfl fun d hd => ?_
  have := mem_range.mp hd
  rw [kX_eq, kX_eq, csc_0 _ (by omega), csc_1 _ (by omega) (by omega), show h * 128 + 0 * 64 + d = 128 * h + d by omega, show 512 + (128 * h + d) = 512 + 128 * h + d by omega]
  ring

theorem dly_hi (p : Par) (b t h k : ℕ) (hh : h < 4) :
    dly (fun d => kX p b t (128 * h + d)) (fun s d => kX p b s (512 + 128 * h + d)) (slp h) hi t k = (Real.log 2)⁻¹ * rsc p b h 1 t k := by
  unfold dly rsc slp
  rw [zsc_hi, l2e_eq, mul_add, ← mul_assoc, mul_right_comm, mul_sum, sub_eq_add_neg]
  refine congrArg₂ (· + ·) ?_ (by ring)
  rw [sum_mul]
  refine sum_congr rfl fun d hd => ?_
  have := mem_range.mp hd
  rw [kX_eq, kX_eq, csc_0 _ (by omega), csc_1 _ (by omega) (by omega), show h * 128 + 1 * 64 + d = 128 * h + (64 + d) by omega, show 512 + (128 * h + (64 + d)) = 512 + 128 * h + (64 + d) by omega]
  ring

theorem ow_ew (y f : ℕ → ℝ) (P : ℕ → Prop) [DecidablePred P] (h : ∀ k, y k = (Real.log 2)⁻¹ * f k) (k : ℕ) : ow y P 0 k = ew f P k := by
  unfold ow ew
  rw [h, sub_zero, two_rpow]

theorem dsm_eq (p : Par) (m : ℕ → ℝ) (b t h e i : ℕ) (hh : h < 4) (he : e < 128)
    (hy : ∀ k, dly (fun d => kX p b t (128 * h + d)) (fun s d => kX p b s (512 + 128 * h + d)) (slp h) m t k = (Real.log 2)⁻¹ * rsc p b h i t k) :
    dsm (kX p) slp m b t h e = ∑ k ∈ range 2048, pr p b k (1024 + (h * 128 + e)) * rsm p b h i t k := by
  unfold dsm osm rsm
  simp only [ow_ew _ (rsc p b h i t) _ hy]
  rw [sum_div]
  refine sum_congr rfl fun k _ => ?_
  rw [kX_eq, csc_1 _ (by omega) (by omega), mul_one, show 1024 + 128 * h + e = 1024 + (h * 128 + e) by omega]
  ring

theorem dao_eq (p : Par) (b t h e : ℕ) (hh : h < 4) (he : e < 128) :
    dao (kX p) slp (dlam p.lq1 p.lk1 p.lq2 p.lk2) b t h e = rod p b t h e := by
  unfold dao rod
  rw [dsm_eq p lo b t h e 0 hh he (fun k => dly_lo p b t h k hh), dsm_eq p hi b t h e 1 hh he (fun k => dly_hi p b t h k hh), mul_sum, ← sum_sub_distrib]
  exact sum_congr rfl fun k _ => by ring

theorem kD_eq (p : Par) (b t j : ℕ) (hj : j < 512) : kD p b t j = rD p b t j := by
  unfold kD rD dnorm
  have h4 : j / 128 < 4 := by omega
  rw [dao_eq p b t (j / 128) (j % 128) h4 (by omega)]
  rw [sum_congr rfl fun d hd => by rw [dao_eq p b t (j / 128) d h4 (mem_range.mp hd)]]
  norm_num

theorem sbz_eq (p : Par) (b t h k : ℕ) (hh : h < 8) : sbz (kX p) b t h k = (Real.log 2)⁻¹ * rz p b h t k := by
  unfold sbz rz
  rw [← mul_assoc, mul_right_comm, mul_sum]
  refine sum_congr rfl fun d hd => ?_
  have := mem_range.mp hd
  rw [kX_eq, kX_eq, csc_2 _ (by omega) (by omega), csc_3 _ (by omega), show 1536 + 64 * h + d = 1536 + (h * 64 + d) by omega, show 2048 + 64 * h + d = 2048 + (h * 64 + d) by omega]
  ring

theorem sbo_eq (p : Par) (b t j : ℕ) (ht : t < 2048) (hj : j < 512) : sbo (kX p) b t j = rso p b t (j / 64) (j % 64) := by
  unfold sbo rso
  rw [show sbz (kX p) b t (j / 64) = fun k => (Real.log 2)⁻¹ * rz p b (j / 64) t k from funext fun k => sbz_eq p b t (j / 64) k (by omega),
    wsum_exp (rz p b (j / 64) t) _ t _ 2048 (by omega) ht.le]
  refine sum_congr rfl fun k _ => ?_
  rw [kX_eq, csc_3 _ (by omega), mul_one, show 2560 + j = 2560 + (j / 64 * 64 + j % 64) by omega, mul_comm]

theorem kS_eq (p : Par) (b t j : ℕ) (ht : t < 2048) (hj : j < 512) : kS p b t j = rS p b t j := by
  unfold kS rS hnorm
  rw [sbo_eq p b t j ht hj, show j % 128 % 64 = j % 64 by omega]
  rw [sum_congr rfl fun d hd => by
    have := mem_range.mp hd
    rw [sbo_eq p b t (64 * (j / 64) + d) ht (by omega), show (64 * (j / 64) + d) / 64 = j / 64 by omega, show (64 * (j / 64) + d) % 64 = d by omega]]
  norm_num [div_eq_mul_inv]

theorem kOut_eq (p : Par) (b t d : ℕ) (ht : t < 2048) : kOut p b t d = orow (p.x b t) (rD p b t) (rS p b t) p.g2 p.gf p.wo p.wu p.wd d := by
  have h : ohid (p.x b t) (kD p b t) (kS p b t) p.wo = ohid (p.x b t) (rD p b t) (rS p b t) p.wo := by
    funext e
    unfold ohid
    refine congrArg₂ (· + ·) (congrArg (_ + ·) (sum_congr rfl fun k hk => ?_)) (sum_congr rfl fun k hk => ?_)
    · rw [kD_eq p b t k (mem_range.mp hk)]
    · rw [kS_eq p b t k ht (mem_range.mp hk)]
  unfold kOut orow
  rw [h]

end Cert.ReferenceIdeal.Value
-- ==== Proof.Finite.lean ====
module

public import proofs.«01_k».proof.Proof.Gen.Pre_finite
public import Idealize.ShloMosaic.Lib.ReduceAll
public import proofs.«01_k».proof.Proof.RefProj
public import proofs.«01_k».proof.Proof.KHost

@[expose] public section

set_option maxRecDepth 16384

noncomputable section
open Idealize.ShloMosaic Idealize.ShloMosaic.TcCoe Idealize.SL.Sem
namespace Cert.Pre_finite
open Cert.Pre_finite Cert.Pre_finite.Gen Cert.KernelIdeal.Value
/-! Arguments whose entries are all finite are arrays of real numbers. -/

/-- A number whose magnitude is below the positive infinity is real. -/
theorem real_of_abs (a : EReal) (h : Ideal.cmp .olt (max a (-a)) (Ideal.ofBits .f32 0x7F800000#32) = 1#1) : a = ((a.toReal : ℝ) : EReal) := by
  have hb : Ideal.ofBits .f32 0x7F800000#32 = (⊤ : EReal) := by simp [Ideal.ofBits, Ideal.ieee]
  rw [hb] at h
  have h2 : max a (-a) < ⊤ := by
    by_contra hc
    rw [Ideal.cmp] at h
    simp [hc] at h
  have h3 := max_lt_iff.1 h2
  refine (EReal.coe_toReal h3.1.ne ?_).symm
  rintro rfl
  simp at h3

instance : Subsingleton S_.Idx := ⟨fun a b => funext fun i => i.elim0⟩

/-- One argument's test, read back. -/
theorem real_of_all {S : Shape} {ax : List (Fin S.rank)} (x : Vec Ideal S .f32) (hb : S_.BroadcastsInDim S (![] : Fin 0 → Fin S.rank)) (hr : S.ReducesTo ax S_) (hu : 0 < S_.numel)
    (j : S_.Idx)
    (e : Host.reduce IntOp.andi (cmpf .olt (Host.absf x) (broadcastInDim S ![] hb (constant (F := Ideal) S_ .f32 0x7F800000#32))) (constantI S_ 1 1#1) hr hu j = 1#1)
    (i : S.Idx) : x i = (((x i).toReal : ℝ) : EReal) :=
  real_of_abs _ (Host.reduce_andi_all _ _ hr hu j e i)

/-- A conjunction of two tests. -/
theorem both {x y : IVec S_ 1} {j : S_.Idx} (h : andi x y j = 1#1) : x j = 1#1 ∧ y j = 1#1 := IntOp.andi_eq_one.1 h

/-- The precondition says that every entry of every argument is a real number. -/
theorem reals (x0 : Vec Ideal S8x2048x1024 .f32) (x1 : Vec Ideal S1x1024 .f32) (x2 : Vec Ideal S1x1024x3072 .f32) (x3 : Vec Ideal S1x64 .f32) (x4 : Vec Ideal S1x64 .f32) (x5 : Vec Ideal S1x64 .f32) (x6 : Vec Ideal S1x64 .f32) (x7 : Vec Ideal S1x128 .f32) (x8 : Vec Ideal S1x64 .f32) (x9 : Vec Ideal S1x1024x1024 .f32) (x10 : Vec Ideal S1x1024 .f32) (x11 : Vec Ideal S1x1024x4096 .f32) (x12 : Vec Ideal S1x4096x1024 .f32) (x13 : Vec Ideal S1024 .f32)
    (h : fn (F := Ideal) x0 x1 x2 x3 x4 x5 x6 x7 x8 x9 x10 x11 x12 x13 = fun _ => 1#1) :
    (∀ i, x0 i = (((x0 i).toReal : ℝ) : EReal))
    ∧ (∀ i, x1 i = (((x1 i).toReal : ℝ) : EReal))
    ∧ (∀ i, x2 i = (((x2 i).toReal : ℝ) : EReal))
    ∧ (∀ i, x3 i = (((x3 i).toReal : ℝ) : EReal))
    ∧ (∀ i, x4 i = (((x4 i).toReal : ℝ) : EReal))
    ∧ (∀ i, x5 i = (((x5 i).toReal : ℝ) : EReal))
    ∧ (∀ i, x6 i = (((x6 i).toReal : ℝ) : EReal))
    ∧ (∀ i, x7 i = (((x7 i).toReal : ℝ) : EReal))
    ∧ (∀ i, x8 i = (((x8 i).toReal : ℝ) : EReal))
    ∧ (∀ i, x9 i = (((x9 i).toReal : ℝ) : EReal))
    ∧ (∀ i, x10 i = (((x10 i).toReal : ℝ) : EReal))
    ∧ (∀ i, x11 i = (((x11 i).toReal : ℝ) : EReal))
    ∧ (∀ i, x12 i = (((x12 i).toReal : ℝ) : EReal))
    ∧ (∀ i, x13 i = (((x13 i).toReal : ℝ) : EReal)) := by
  have j : S_.Idx := fun i => i.elim0
  have h0 : fn (F := Ideal) x0 x1 x2 x3 x4 x5 x6 x7 x8 x9 x10 x11 x12 x13 j = 1#1 := congrFun h j
  unfold fn fn_part1 fn_part2 fn_part3 fn_part4 at h0
  obtain ⟨h0, e13⟩ := both h0
  obtain ⟨h0, e12⟩ := both h0
  obtain ⟨h0, e11⟩ := both h0
  obtain ⟨h0, e10⟩ := both h0
  obtain ⟨h0, e9⟩ := both h0
  obtain ⟨h0, e8⟩ := both h0
  obtain ⟨h0, e7⟩ := both h0
  obtain ⟨h0, e6⟩ := both h0
  obtain ⟨h0, e5⟩ := both h0
  obtain ⟨h0, e4⟩ := both h0
  obtain ⟨h0, e3⟩ := both h0
  obtain ⟨h0, e2⟩ := both h0
  obtain ⟨h0, e1⟩ := both h0
  exact ⟨real_of_all x0 _ _ _ j h0, real_of_all x1 _ _ _ j e1, real_of_all x2 _ _ _ j e2, real_of_all x3 _ _ _ j e3, real_of_all x4 _ _ _ j e4, real_of_all x5 _ _ _ j e5, real_of_all x6 _ _ _ j e6, real_of_all x7 _ _ _ j e7, real_of_all x8 _ _ _ j e8, real_of_all x9 _ _ _ j e9, real_of_all x10 _ _ _ j e10, real_of_all x11 _ _ _ j e11, real_of_all x12 _ _ _ j e12, real_of_all x13 _ _ _ j e13⟩

/-- A rank-three array's entry as a real number, zero outside the array. -/
def get3 {a b c : ℕ} (x : Vec Ideal (⟨3, ![a, b, c]⟩ : Shape) .f32) (i j k : ℕ) : ℝ :=
  if h : i < a ∧ j < b ∧ k < c then (x (ix3 ⟨i, h.1⟩ ⟨j, h.2.1⟩ ⟨k, h.2.2⟩)).toReal else 0
/-- A rank-two array's entry as a real number, zero outside the array. -/
def get2 {a b : ℕ} (x : Vec Ideal (⟨2, ![a, b]⟩ : Shape) .f32) (i j : ℕ) : ℝ :=
  if h : i < a ∧ j < b then (x (ix2 ⟨i, h.1⟩ ⟨j, h.2⟩)).toReal else 0
/-- A vector's entry as a real number, zero outside the vector. -/
def get1 {a : ℕ} (x : Vec Ideal (⟨1, ![a]⟩ : Shape) .f32) (i : ℕ) : ℝ :=
  if h : i < a then (x (ix1 ⟨i, h⟩)).toReal else 0

theorem get3_eq {a b c : ℕ} (x : Vec Ideal (⟨3, ![a, b, c]⟩ : Shape) .f32) (hx : ∀ i, x i = (((x i).toReal : ℝ) : EReal)) (i : Fin a) (j : Fin b) (k : Fin c) :
    x (ix3 i j k) = ((get3 x i.val j.val k.val : ℝ) : EReal) := by
  unfold get3; rw [dif_pos ⟨i.2, j.2, k.2⟩]; exact hx _
theorem get2_eq {a b : ℕ} (x : Vec Ideal (⟨2, ![a, b]⟩ : Shape) .f32) (hx : ∀ i, x i = (((x i).toReal : ℝ) : EReal)) (i : Fin a) (j : Fin b) :
    x (ix2 i j) = ((get2 x i.val j.val : ℝ) : EReal) := by
  unfold get2; rw [dif_pos ⟨i.2, j.2⟩]; exact hx _
theorem get1_eq {a : ℕ} (x : Vec Ideal (⟨1, ![a]⟩ : Shape) .f32) (hx : ∀ i, x i = (((x i).toReal : ℝ) : EReal)) (i : Fin a) :
    x (ix1 i) = ((get1 x i.val : ℝ) : EReal) := by
  unfold get1; rw [dif_pos i.2]; exact hx _

/-- The arguments' real arrays. -/
def parOf (x0 : Vec Ideal S8x2048x1024 .f32) (x1 : Vec Ideal S1x1024 .f32) (x2 : Vec Ideal S1x1024x3072 .f32) (x3 : Vec Ideal S1x64 .f32) (x4 : Vec Ideal S1x64 .f32) (x5 : Vec Ideal S1x64 .f32) (x6 : Vec Ideal S1x64 .f32) (x7 : Vec Ideal S1x128 .f32) (x8 : Vec Ideal S1x64 .f32) (x9 : Vec Ideal S1x1024x1024 .f32) (x10 : Vec Ideal S1x1024 .f32) (x11 : Vec Ideal S1x1024x4096 .f32) (x12 : Vec Ideal S1x4096x1024 .f32) (x13 : Vec Ideal S1024 .f32) : Par :=
  ⟨get3 x0, get2 x1 0, get3 x2 0, get2 x3 0, get2 x4 0, get2 x5 0, get2 x6 0, get2 x7 0, get2 x8 0, get3 x9 0, get2 x10 0, get3 x11 0, get3 x12 0, get1 x13⟩

/-- Finite arguments hold their real arrays. -/
theorem rholds (x0 : Vec Ideal S8x2048x1024 .f32) (x1 : Vec Ideal S1x1024 .f32) (x2 : Vec Ideal S1x1024x3072 .f32) (x3 : Vec Ideal S1x64 .f32) (x4 : Vec Ideal S1x64 .f32) (x5 : Vec Ideal S1x64 .f32) (x6 : Vec Ideal S1x64 .f32) (x7 : Vec Ideal S1x128 .f32) (x8 : Vec Ideal S1x64 .f32) (x9 : Vec Ideal S1x1024x1024 .f32) (x10 : Vec Ideal S1x1024 .f32) (x11 : Vec Ideal S1x1024x4096 .f32) (x12 : Vec Ideal S1x4096x1024 .f32) (x13 : Vec Ideal S1024 .f32)
    (h : fn (F := Ideal) x0 x1 x2 x3 x4 x5 x6 x7 x8 x9 x10 x11 x12 x13 = fun _ => 1#1) : Cert.ReferenceIdeal.Value.RHolds (parOf x0 x1 x2 x3 x4 x5 x6 x7 x8 x9 x10 x11 x12 x13) x0 x1 x2 x3 x4 x5 x6 x7 x8 x9 x10 x11 x12 x13 := by
  obtain ⟨h0, h1, h2, h3, h4, h5, h6, h7, h8, h9, h10, h11, h12, h13⟩ := reals x0 x1 x2 x3 x4 x5 x6 x7 x8 x9 x10 x11 x12 x13 h
  exact ⟨fun b t d => get3_eq x0 h0 b t d, fun d => get2_eq x1 h1 0 d, fun d e => get3_eq x2 h2 0 d e, fun d => get2_eq x3 h3 0 d, fun d => get2_eq x4 h4 0 d, fun d => get2_eq x5 h5 0 d, fun d => get2_eq x6 h6 0 d, fun d => get2_eq x7 h7 0 d, fun d => get2_eq x8 h8 0 d, fun d e => get3_eq x9 h9 0 d e, fun d => get2_eq x10 h10 0 d, fun d e => get3_eq x11 h11 0 d e, fun d e => get3_eq x12 h12 0 d e, fun d => get1_eq x13 h13 d⟩

end Cert.Pre_finite
end
-- ==== Proof.Algebraic.lean ====
module

public import proofs.«01_k».proof.Defs
public import proofs.«01_k».proof.Proof.Gen.KernelIdeal.Frame
public import proofs.«01_k».proof.Proof.Gen.ReferenceIdeal.Run
public import proofs.«01_k».proof.Proof.Gen.ReferenceIdeal.Read
public import Idealize.ShloMosaic.Lib.Claim
public import proofs.«01_k».proof.Proof.KHost
public import proofs.«01_k».proof.Proof.KRMath
public import proofs.«01_k».proof.Proof.Finite

@[expose] public section

set_option maxRecDepth 16384

noncomputable section

namespace Cert.KernelIdeal.Value
open Idealize.ShloMosaic Idealize.ShloMosaic.TcCoe Idealize.SL.Sem Idealize.SL
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
/-! The two runs meet: the kernel's result array and the reference's are the same array of real numbers. -/

section KRun
variable {F : FTy → Type} [FloatOps F] [Named F]
variable (m : (ℓ : Loc nD τ sig) → Buf (Elt F) ℓ) (ρ : Dev nD → PrngReg)

set_option backward.isDefEq.respectTransparency.types false in
/-- Every run of the kernel ends with the result array at the segments' last valuation and the arguments unchanged. -/
theorem value_run : θ_run defs (onTc (τ := τ) (main (F := F))) ⟨m, fun _ => 0, ρ⟩ (fun r => ∀ c : Dev nD,
      r.2.mem ((c.tc : Thread nD τ).loc main_v33) = W9 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => fun c =>
      ⟨h c _ (mem_uc main_v33 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c)⟩)

end KRun
end Cert.KernelIdeal.Value

namespace Cert.Algebraic
open Idealize.ShloMosaic Idealize.ShloMosaic.TcCoe Idealize.SL.Sem

/-- The arguments' real arrays on a device. -/
def par (m : (ℓ : Loc Cert.KernelIdeal.nD Cert.KernelIdeal.τ Cert.KernelIdeal.sig) → Buf (Elt Ideal) ℓ) (c : Dev Cert.KernelIdeal.nD) : Cert.KernelIdeal.Value.Par :=
  Cert.Pre_finite.parOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))

/-- The layer's result, as real numbers. -/
def out (m : (ℓ : Loc Cert.KernelIdeal.nD Cert.KernelIdeal.τ Cert.KernelIdeal.sig) → Buf (Elt Ideal) ℓ) (c : Dev Cert.KernelIdeal.nD) :
    Vec Ideal Cert.KernelIdeal.S8x2048x1024 .f32 :=
  fun j => ((Cert.KernelIdeal.Value.kOut (par m c) (j 0).val (j 1).val (j 2).val : ℝ) : EReal)

theorem holds {m} {c} (r : Cert.ReferenceIdeal.Value.RHolds (par m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) : Cert.KernelIdeal.Value.Holds m c (par m c) :=
  ⟨r.x, r.g1, r.wi, r.lq1, r.lk1, r.lq2, r.lk2, r.gd, r.gs, r.wo, r.g2, r.wu, r.wd, r.gf⟩

/-- The reference's result array. -/
theorem ref_out {m} {c} (r : Cert.ReferenceIdeal.Value.RHolds (par m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) :
    Cert.ReferenceIdeal.Read.val_main_v188 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) = out m c := by
  funext j
  have hj : j = ix3 (j 0) (j 1) (j 2) := by
    funext i; match i with | ⟨0, _⟩ => rfl | ⟨1, _⟩ => rfl | ⟨2, _⟩ => rfl
  have h := Cert.ReferenceIdeal.Value.r_fin r (j 0) (j 1) (j 2)
  rw [← Cert.ReferenceIdeal.Value.kOut_eq (par m c) (j 0).val (j 1).val (j 2).val (j 1).isLt] at h
  rw [hj]
  exact h

/-- The two programs compute the same layer. -/
theorem algebraic : Cert.algebraic_KernelIdeal_ReferenceIdeal_pre_finite := by
  intro m g m' g' hpre hag
  have hr := fun c => Cert.Pre_finite.rholds _ _ _ _ _ _ _ _ _ _ _ _ _ _ (hpre c)
  refine ⟨fun c => out m c, ?_, ?_⟩
  · refine (θ_run Cert.KernelIdeal.defs _ _).mono (fun r h c => ?_) (Cert.KernelIdeal.Value.value_run (F := Ideal) m g)
    exact ⟨(h c).1.trans (Cert.KernelIdeal.Value.w9_out g (holds (hr c))), (h c).2⟩
  · refine (θ_run Cert.ReferenceIdeal.defs _ _).mono (fun r h c => ?_) (Cert.ReferenceIdeal.Value.run (F := Ideal) m' g')
    refine ⟨(h c).1.trans ?_, (h c).2⟩
    refine (Cert.ReferenceIdeal.Read.val_main_v188_eq (F := Ideal) (StableHlo.launchContents m' c)).trans ?_
    obtain ⟨a0, a1, a2, a3, a4, a5, a6, a7, a8, a9, a10, a11, a12, a13⟩ := hag c
    repeat rw [Idealize.ShloMosaic.StableHlo.launchContents_devRef]
    rw [a0, a1, a2, a3, a4, a5, a6, a7, a8, a9, a10, a11, a12, a13]
    exact ref_out (hr c)

end Cert.Algebraic
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
    Cert.Pre_finite.Gen.facts,
    fun m g _ => Cert.Kernel.Gen.frame m g,
    fun m g _ => Cert.KernelIdeal.Gen.frame m g,
    fun m g _ => Cert.KernelIdeal.Gen.frame m g,
    Cert.Frames.reference,
    fun m g _ => Cert.Frames.reference m g trivial,
    Cert.Frames.preserves,
    Cert.Algebraic.algebraic⟩

end Cert.Proof

end
